-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ExpertUp (m : (ℓ : Loc Cert.ExpertUp.nD Cert.ExpertUp.τ Cert.ExpertUp.sig) → Buf (Elt Bits) ℓ) : Prop :=
  True

def Pre_ExpertUpIdeal (m : (ℓ : Loc Cert.ExpertUpIdeal.nD Cert.ExpertUpIdeal.τ Cert.ExpertUpIdeal.sig) → Buf (Elt Ideal) ℓ) : Prop :=
  True

def Pre_ExpertUpRefIdeal (m : (ℓ : Loc Cert.ExpertUpRefIdeal.nD Cert.ExpertUpRefIdeal.τ Cert.ExpertUpRefIdeal.sig) → Buf (Elt Ideal) ℓ) : Prop :=
  True

def Pre_ExpertDown (m : (ℓ : Loc Cert.ExpertDown.nD Cert.ExpertDown.τ Cert.ExpertDown.sig) → Buf (Elt Bits) ℓ) : Prop :=
  True

def Pre_ExpertDownIdeal (m : (ℓ : Loc Cert.ExpertDownIdeal.nD Cert.ExpertDownIdeal.τ Cert.ExpertDownIdeal.sig) → Buf (Elt Ideal) ℓ) : Prop :=
  True

def Pre_ExpertDownRefIdeal (m : (ℓ : Loc Cert.ExpertDownRefIdeal.nD Cert.ExpertDownRefIdeal.τ Cert.ExpertDownRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_CtxNorm (m : (ℓ : Loc Cert.CtxNorm.nD Cert.CtxNorm.τ Cert.CtxNorm.sig) → Buf (Elt Bits) ℓ) : Prop :=
  True

def Pre_CtxNormIdeal (m : (ℓ : Loc Cert.CtxNormIdeal.nD Cert.CtxNormIdeal.τ Cert.CtxNormIdeal.sig) → Buf (Elt Ideal) ℓ) : Prop :=
  True

def Pre_CtxNormRefIdeal (m : (ℓ : Loc Cert.CtxNormRefIdeal.nD Cert.CtxNormRefIdeal.τ Cert.CtxNormRefIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxProjRefIdeal (m : (ℓ : Loc Cert.CtxProjRefIdeal.nD Cert.CtxProjRefIdeal.τ Cert.CtxProjRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_ExpertUp [hExpertUp : Cert.ExpertUp.Facts] : Prop :=
  ∀ (m : (ℓ : Loc Cert.ExpertUp.nD Cert.ExpertUp.τ Cert.ExpertUp.sig) → Buf (Elt Bits) ℓ) (g : Dev Cert.ExpertUp.nD → PrngReg), Pre_ExpertUp m →
    θ_run (Cert.ExpertUp.defs (F := Bits)) (onTc (τ := Cert.ExpertUp.τ) (Cert.ExpertUp.main (F := Bits))) ⟨m, fun _ => 0, g⟩ (fun r => (∀ c : Dev Cert.ExpertUp.nD,
      r.2.mem ((c.tc : Thread Cert.ExpertUp.nD Cert.ExpertUp.τ).loc Cert.ExpertUp.main_arg0) = m ((c.tc : Thread Cert.ExpertUp.nD Cert.ExpertUp.τ).loc Cert.ExpertUp.main_arg0)
      ∧ r.2.mem ((c.tc : Thread Cert.ExpertUp.nD Cert.ExpertUp.τ).loc Cert.ExpertUp.main_arg1) = m ((c.tc : Thread Cert.ExpertUp.nD Cert.ExpertUp.τ).loc Cert.ExpertUp.main_arg1)
      ∧ r.2.mem ((c.tc : Thread Cert.ExpertUp.nD Cert.ExpertUp.τ).loc Cert.ExpertUp.main_arg2) = m ((c.tc : Thread Cert.ExpertUp.nD Cert.ExpertUp.τ).loc Cert.ExpertUp.main_arg2))
      ∧ r.2.sem = fun _ => 0)

def quiescent_ExpertUpIdeal [hExpertUpIdeal : Cert.ExpertUpIdeal.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg), Pre_ExpertUpIdeal m →
    θ_run (Cert.ExpertUpIdeal.defs (F := Ideal)) (onTc (τ := Cert.ExpertUpIdeal.τ) (Cert.ExpertUpIdeal.main (F := Ideal))) ⟨m, fun _ => 0, g⟩ (fun r => (∀ c : Dev Cert.ExpertUpIdeal.nD,
      r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
      ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
      ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2))
      ∧ r.2.sem = fun _ => 0)

def quiescent_ExpertUpRefIdeal [hExpertUpRefIdeal : Cert.ExpertUpRefIdeal.Facts] : Prop :=
  ∀ (m : (ℓ : Loc Cert.ExpertUpRefIdeal.nD Cert.ExpertUpRefIdeal.τ Cert.ExpertUpRefIdeal.sig) → Buf (Elt Ideal) ℓ) (g : Dev Cert.ExpertUpRefIdeal.nD → PrngReg), Pre_ExpertUpRefIdeal m →
    θ_run (Cert.ExpertUpRefIdeal.defs (F := Ideal)) (onTc (τ := Cert.ExpertUpRefIdeal.τ) (Cert.ExpertUpRefIdeal.main (F := Ideal))) ⟨m, fun _ => 0, g⟩ (fun r => (∀ c : Dev Cert.ExpertUpRefIdeal.nD,
      r.2.mem ((c.tc : Thread Cert.ExpertUpRefIdeal.nD Cert.ExpertUpRefIdeal.τ).loc Cert.ExpertUpRefIdeal.main_arg0) = m ((c.tc : Thread Cert.ExpertUpRefIdeal.nD Cert.ExpertUpRefIdeal.τ).loc Cert.ExpertUpRefIdeal.main_arg0)
      ∧ r.2.mem ((c.tc : Thread Cert.ExpertUpRefIdeal.nD Cert.ExpertUpRefIdeal.τ).loc Cert.ExpertUpRefIdeal.main_arg1) = m ((c.tc : Thread Cert.ExpertUpRefIdeal.nD Cert.ExpertUpRefIdeal.τ).loc Cert.ExpertUpRefIdeal.main_arg1)
      ∧ r.2.mem ((c.tc : Thread Cert.ExpertUpRefIdeal.nD Cert.ExpertUpRefIdeal.τ).loc Cert.ExpertUpRefIdeal.main_arg2) = m ((c.tc : Thread Cert.ExpertUpRefIdeal.nD Cert.ExpertUpRefIdeal.τ).loc Cert.ExpertUpRefIdeal.main_arg2))
      ∧ r.2.sem = fun _ => 0)

def quiescent_ExpertDown [hExpertDown : Cert.ExpertDown.Facts] : Prop :=
  ∀ (m : (ℓ : Loc Cert.ExpertDown.nD Cert.ExpertDown.τ Cert.ExpertDown.sig) → Buf (Elt Bits) ℓ) (g : Dev Cert.ExpertDown.nD → PrngReg), Pre_ExpertDown m →
    θ_run (Cert.ExpertDown.defs (F := Bits)) (onTc (τ := Cert.ExpertDown.τ) (Cert.ExpertDown.main (F := Bits))) ⟨m, fun _ => 0, g⟩ (fun r => (∀ c : Dev Cert.ExpertDown.nD,
      r.2.mem ((c.tc : Thread Cert.ExpertDown.nD Cert.ExpertDown.τ).loc Cert.ExpertDown.main_arg0) = m ((c.tc : Thread Cert.ExpertDown.nD Cert.ExpertDown.τ).loc Cert.ExpertDown.main_arg0)
      ∧ r.2.mem ((c.tc : Thread Cert.ExpertDown.nD Cert.ExpertDown.τ).loc Cert.ExpertDown.main_arg1) = m ((c.tc : Thread Cert.ExpertDown.nD Cert.ExpertDown.τ).loc Cert.ExpertDown.main_arg1)
      ∧ r.2.mem ((c.tc : Thread Cert.ExpertDown.nD Cert.ExpertDown.τ).loc Cert.ExpertDown.main_arg2) = m ((c.tc : Thread Cert.ExpertDown.nD Cert.ExpertDown.τ).loc Cert.ExpertDown.main_arg2))
      ∧ r.2.sem = fun _ => 0)

def quiescent_ExpertDownIdeal [hExpertDownIdeal : Cert.ExpertDownIdeal.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg), Pre_ExpertDownIdeal m →
    θ_run (Cert.ExpertDownIdeal.defs (F := Ideal)) (onTc (τ := Cert.ExpertDownIdeal.τ) (Cert.ExpertDownIdeal.main (F := Ideal))) ⟨m, fun _ => 0, g⟩ (fun r => (∀ c : Dev Cert.ExpertDownIdeal.nD,
      r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
      ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
      ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2))
      ∧ r.2.sem = fun _ => 0)

def quiescent_ExpertDownRefIdeal [hExpertDownRefIdeal : Cert.ExpertDownRefIdeal.Facts] : Prop :=
  ∀ (m : (ℓ : Loc Cert.ExpertDownRefIdeal.nD Cert.ExpertDownRefIdeal.τ Cert.ExpertDownRefIdeal.sig) → Buf (Elt Ideal) ℓ) (g : Dev Cert.ExpertDownRefIdeal.nD → PrngReg), Pre_ExpertDownRefIdeal m →
    θ_run (Cert.ExpertDownRefIdeal.defs (F := Ideal)) (onTc (τ := Cert.ExpertDownRefIdeal.τ) (Cert.ExpertDownRefIdeal.main (F := Ideal))) ⟨m, fun _ => 0, g⟩ (fun r => (∀ c : Dev Cert.ExpertDownRefIdeal.nD,
      r.2.mem ((c.tc : Thread Cert.ExpertDownRefIdeal.nD Cert.ExpertDownRefIdeal.τ).loc Cert.ExpertDownRefIdeal.main_arg0) = m ((c.tc : Thread Cert.ExpertDownRefIdeal.nD Cert.ExpertDownRefIdeal.τ).loc Cert.ExpertDownRefIdeal.main_arg0)
      ∧ r.2.mem ((c.tc : Thread Cert.ExpertDownRefIdeal.nD Cert.ExpertDownRefIdeal.τ).loc Cert.ExpertDownRefIdeal.main_arg1) = m ((c.tc : Thread Cert.ExpertDownRefIdeal.nD Cert.ExpertDownRefIdeal.τ).loc Cert.ExpertDownRefIdeal.main_arg1)
      ∧ r.2.mem ((c.tc : Thread Cert.ExpertDownRefIdeal.nD Cert.ExpertDownRefIdeal.τ).loc Cert.ExpertDownRefIdeal.main_arg2) = m ((c.tc : Thread Cert.ExpertDownRefIdeal.nD Cert.ExpertDownRefIdeal.τ).loc Cert.ExpertDownRefIdeal.main_arg2))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2))
      ∧ r.2.sem = fun _ => 0)

def quiescent_CtxNorm [hCtxNorm : Cert.CtxNorm.Facts] : Prop :=
  ∀ (m : (ℓ : Loc Cert.CtxNorm.nD Cert.CtxNorm.τ Cert.CtxNorm.sig) → Buf (Elt Bits) ℓ) (g : Dev Cert.CtxNorm.nD → PrngReg), Pre_CtxNorm m →
    θ_run (Cert.CtxNorm.defs (F := Bits)) (onTc (τ := Cert.CtxNorm.τ) (Cert.CtxNorm.main (F := Bits))) ⟨m, fun _ => 0, g⟩ (fun r => (∀ c : Dev Cert.CtxNorm.nD,
      r.2.mem ((c.tc : Thread Cert.CtxNorm.nD Cert.CtxNorm.τ).loc Cert.CtxNorm.main_arg0) = m ((c.tc : Thread Cert.CtxNorm.nD Cert.CtxNorm.τ).loc Cert.CtxNorm.main_arg0)
      ∧ r.2.mem ((c.tc : Thread Cert.CtxNorm.nD Cert.CtxNorm.τ).loc Cert.CtxNorm.main_arg1) = m ((c.tc : Thread Cert.CtxNorm.nD Cert.CtxNorm.τ).loc Cert.CtxNorm.main_arg1)
      ∧ r.2.mem ((c.tc : Thread Cert.CtxNorm.nD Cert.CtxNorm.τ).loc Cert.CtxNorm.main_arg2) = m ((c.tc : Thread Cert.CtxNorm.nD Cert.CtxNorm.τ).loc Cert.CtxNorm.main_arg2))
      ∧ r.2.sem = fun _ => 0)

def quiescent_CtxNormIdeal [hCtxNormIdeal : Cert.CtxNormIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg), Pre_CtxNormIdeal m →
    θ_run (Cert.CtxNormIdeal.defs (F := Ideal)) (onTc (τ := Cert.CtxNormIdeal.τ) (Cert.CtxNormIdeal.main (F := Ideal))) ⟨m, fun _ => 0, g⟩ (fun r => (∀ c : Dev Cert.CtxNormIdeal.nD,
      r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
      ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
      ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2))
      ∧ r.2.sem = fun _ => 0)

def quiescent_CtxNormRefIdeal [hCtxNormRefIdeal : Cert.CtxNormRefIdeal.Facts] : Prop :=
  ∀ (m : (ℓ : Loc Cert.CtxNormRefIdeal.nD Cert.CtxNormRefIdeal.τ Cert.CtxNormRefIdeal.sig) → Buf (Elt Ideal) ℓ) (g : Dev Cert.CtxNormRefIdeal.nD → PrngReg), Pre_CtxNormRefIdeal m →
    θ_run (Cert.CtxNormRefIdeal.defs (F := Ideal)) (onTc (τ := Cert.CtxNormRefIdeal.τ) (Cert.CtxNormRefIdeal.main (F := Ideal))) ⟨m, fun _ => 0, g⟩ (fun r => (∀ c : Dev Cert.CtxNormRefIdeal.nD,
      r.2.mem ((c.tc : Thread Cert.CtxNormRefIdeal.nD Cert.CtxNormRefIdeal.τ).loc Cert.CtxNormRefIdeal.main_arg0) = m ((c.tc : Thread Cert.CtxNormRefIdeal.nD Cert.CtxNormRefIdeal.τ).loc Cert.CtxNormRefIdeal.main_arg0)
      ∧ r.2.mem ((c.tc : Thread Cert.CtxNormRefIdeal.nD Cert.CtxNormRefIdeal.τ).loc Cert.CtxNormRefIdeal.main_arg1) = m ((c.tc : Thread Cert.CtxNormRefIdeal.nD Cert.CtxNormRefIdeal.τ).loc Cert.CtxNormRefIdeal.main_arg1)
      ∧ r.2.mem ((c.tc : Thread Cert.CtxNormRefIdeal.nD Cert.CtxNormRefIdeal.τ).loc Cert.CtxNormRefIdeal.main_arg2) = m ((c.tc : Thread Cert.CtxNormRefIdeal.nD Cert.CtxNormRefIdeal.τ).loc Cert.CtxNormRefIdeal.main_arg2))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1))
      ∧ r.2.sem = fun _ => 0)

def quiescent_CtxProjRefIdeal [hCtxProjRefIdeal : Cert.CtxProjRefIdeal.Facts] : Prop :=
  ∀ (m : (ℓ : Loc Cert.CtxProjRefIdeal.nD Cert.CtxProjRefIdeal.τ Cert.CtxProjRefIdeal.sig) → Buf (Elt Ideal) ℓ) (g : Dev Cert.CtxProjRefIdeal.nD → PrngReg), Pre_CtxProjRefIdeal m →
    θ_run (Cert.CtxProjRefIdeal.defs (F := Ideal)) (onTc (τ := Cert.CtxProjRefIdeal.τ) (Cert.CtxProjRefIdeal.main (F := Ideal))) ⟨m, fun _ => 0, g⟩ (fun r => (∀ c : Dev Cert.CtxProjRefIdeal.nD,
      r.2.mem ((c.tc : Thread Cert.CtxProjRefIdeal.nD Cert.CtxProjRefIdeal.τ).loc Cert.CtxProjRefIdeal.main_arg0) = m ((c.tc : Thread Cert.CtxProjRefIdeal.nD Cert.CtxProjRefIdeal.τ).loc Cert.CtxProjRefIdeal.main_arg0)
      ∧ r.2.mem ((c.tc : Thread Cert.CtxProjRefIdeal.nD Cert.CtxProjRefIdeal.τ).loc Cert.CtxProjRefIdeal.main_arg1) = m ((c.tc : Thread Cert.CtxProjRefIdeal.nD Cert.CtxProjRefIdeal.τ).loc Cert.CtxProjRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v9) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_ExpertUp_ExpertUpIdeal : Prop :=
  True

def algebraic_ExpertUpIdeal_ExpertUpRefIdeal [hExpertUpIdeal : Cert.ExpertUpIdeal.Facts] [hExpertUpRefIdeal : Cert.ExpertUpRefIdeal.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg)
    (m' : (ℓ : Loc Cert.ExpertUpRefIdeal.nD Cert.ExpertUpRefIdeal.τ Cert.ExpertUpRefIdeal.sig) → Buf (Elt Ideal) ℓ) (g' : Dev Cert.ExpertUpRefIdeal.nD → PrngReg), Pre_ExpertUpIdeal m →
    (∀ c : Dev Cert.ExpertUpIdeal.nD,
      m' ((c.tc : Thread Cert.ExpertUpRefIdeal.nD Cert.ExpertUpRefIdeal.τ).loc Cert.ExpertUpRefIdeal.main_arg0) = m ((c.tc : Thread Cert.ExpertUpIdeal.nD Cert.ExpertUpIdeal.τ).loc Cert.ExpertUpIdeal.main_arg0)
      ∧ m' ((c.tc : Thread Cert.ExpertUpRefIdeal.nD Cert.ExpertUpRefIdeal.τ).loc Cert.ExpertUpRefIdeal.main_arg1) = m ((c.tc : Thread Cert.ExpertUpIdeal.nD Cert.ExpertUpIdeal.τ).loc Cert.ExpertUpIdeal.main_arg1)
      ∧ m' ((c.tc : Thread Cert.ExpertUpRefIdeal.nD Cert.ExpertUpRefIdeal.τ).loc Cert.ExpertUpRefIdeal.main_arg2) = m ((c.tc : Thread Cert.ExpertUpIdeal.nD Cert.ExpertUpIdeal.τ).loc Cert.ExpertUpIdeal.main_arg2)) →
    ∃ (v0 : (c : Dev Cert.ExpertUpIdeal.nD) → Buf (Elt Ideal) ((c.tc : Thread Cert.ExpertUpIdeal.nD Cert.ExpertUpIdeal.τ).loc Cert.ExpertUpIdeal.main_v0)),
      θ_run (Cert.ExpertUpIdeal.defs (F := Ideal)) (onTc (τ := Cert.ExpertUpIdeal.τ) (Cert.ExpertUpIdeal.main (F := Ideal))) ⟨m, fun _ => 0, g⟩ (fun r => ∀ c : Dev Cert.ExpertUpIdeal.nD,
          r.2.mem ((c.tc : Thread Cert.ExpertUpIdeal.nD Cert.ExpertUpIdeal.τ).loc Cert.ExpertUpIdeal.main_v0) = v0 c
          ∧ r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
          ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
          ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2))
      ∧ θ_run (Cert.ExpertUpRefIdeal.defs (F := Ideal)) (onTc (τ := Cert.ExpertUpRefIdeal.τ) (Cert.ExpertUpRefIdeal.main (F := Ideal))) ⟨m', fun _ => 0, g'⟩ (fun r => ∀ c : Dev Cert.ExpertUpRefIdeal.nD,
          r.2.mem ((c.tc : Thread Cert.ExpertUpRefIdeal.nD Cert.ExpertUpRefIdeal.τ).loc Cert.ExpertUpRefIdeal.main_v5) = v0 c
          ∧ r.2.mem ((c.tc : Thread Cert.ExpertUpRefIdeal.nD Cert.ExpertUpRefIdeal.τ).loc Cert.ExpertUpRefIdeal.main_arg0) = m' ((c.tc : Thread Cert.ExpertUpRefIdeal.nD Cert.ExpertUpRefIdeal.τ).loc Cert.ExpertUpRefIdeal.main_arg0)
          ∧ r.2.mem ((c.tc : Thread Cert.ExpertUpRefIdeal.nD Cert.ExpertUpRefIdeal.τ).loc Cert.ExpertUpRefIdeal.main_arg1) = m' ((c.tc : Thread Cert.ExpertUpRefIdeal.nD Cert.ExpertUpRefIdeal.τ).loc Cert.ExpertUpRefIdeal.main_arg1)
          ∧ r.2.mem ((c.tc : Thread Cert.ExpertUpRefIdeal.nD Cert.ExpertUpRefIdeal.τ).loc Cert.ExpertUpRefIdeal.main_arg2) = m' ((c.tc : Thread Cert.ExpertUpRefIdeal.nD Cert.ExpertUpRefIdeal.τ).loc Cert.ExpertUpRefIdeal.main_arg2))

def preserves_ExpertDown_ExpertDownIdeal : Prop :=
  True

def algebraic_ExpertDownIdeal_ExpertDownRefIdeal [hExpertDownIdeal : Cert.ExpertDownIdeal.Facts] [hExpertDownRefIdeal : Cert.ExpertDownRefIdeal.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg)
    (m' : (ℓ : Loc Cert.ExpertDownRefIdeal.nD Cert.ExpertDownRefIdeal.τ Cert.ExpertDownRefIdeal.sig) → Buf (Elt Ideal) ℓ) (g' : Dev Cert.ExpertDownRefIdeal.nD → PrngReg), Pre_ExpertDownIdeal m →
    (∀ c : Dev Cert.ExpertDownIdeal.nD,
      m' ((c.tc : Thread Cert.ExpertDownRefIdeal.nD Cert.ExpertDownRefIdeal.τ).loc Cert.ExpertDownRefIdeal.main_arg0) = m ((c.tc : Thread Cert.ExpertDownIdeal.nD Cert.ExpertDownIdeal.τ).loc Cert.ExpertDownIdeal.main_arg0)
      ∧ m' ((c.tc : Thread Cert.ExpertDownRefIdeal.nD Cert.ExpertDownRefIdeal.τ).loc Cert.ExpertDownRefIdeal.main_arg1) = m ((c.tc : Thread Cert.ExpertDownIdeal.nD Cert.ExpertDownIdeal.τ).loc Cert.ExpertDownIdeal.main_arg1)
      ∧ m' ((c.tc : Thread Cert.ExpertDownRefIdeal.nD Cert.ExpertDownRefIdeal.τ).loc Cert.ExpertDownRefIdeal.main_arg2) = m ((c.tc : Thread Cert.ExpertDownIdeal.nD Cert.ExpertDownIdeal.τ).loc Cert.ExpertDownIdeal.main_arg2)) →
    ∃ (v0 : (c : Dev Cert.ExpertDownIdeal.nD) → Buf (Elt Ideal) ((c.tc : Thread Cert.ExpertDownIdeal.nD Cert.ExpertDownIdeal.τ).loc Cert.ExpertDownIdeal.main_v0)),
      θ_run (Cert.ExpertDownIdeal.defs (F := Ideal)) (onTc (τ := Cert.ExpertDownIdeal.τ) (Cert.ExpertDownIdeal.main (F := Ideal))) ⟨m, fun _ => 0, g⟩ (fun r => ∀ c : Dev Cert.ExpertDownIdeal.nD,
          r.2.mem ((c.tc : Thread Cert.ExpertDownIdeal.nD Cert.ExpertDownIdeal.τ).loc Cert.ExpertDownIdeal.main_v0) = v0 c
          ∧ r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
          ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
          ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2))
      ∧ θ_run (Cert.ExpertDownRefIdeal.defs (F := Ideal)) (onTc (τ := Cert.ExpertDownRefIdeal.τ) (Cert.ExpertDownRefIdeal.main (F := Ideal))) ⟨m', fun _ => 0, g'⟩ (fun r => ∀ c : Dev Cert.ExpertDownRefIdeal.nD,
          r.2.mem ((c.tc : Thread Cert.ExpertDownRefIdeal.nD Cert.ExpertDownRefIdeal.τ).loc Cert.ExpertDownRefIdeal.main_v5) = v0 c
          ∧ r.2.mem ((c.tc : Thread Cert.ExpertDownRefIdeal.nD Cert.ExpertDownRefIdeal.τ).loc Cert.ExpertDownRefIdeal.main_arg0) = m' ((c.tc : Thread Cert.ExpertDownRefIdeal.nD Cert.ExpertDownRefIdeal.τ).loc Cert.ExpertDownRefIdeal.main_arg0)
          ∧ r.2.mem ((c.tc : Thread Cert.ExpertDownRefIdeal.nD Cert.ExpertDownRefIdeal.τ).loc Cert.ExpertDownRefIdeal.main_arg1) = m' ((c.tc : Thread Cert.ExpertDownRefIdeal.nD Cert.ExpertDownRefIdeal.τ).loc Cert.ExpertDownRefIdeal.main_arg1)
          ∧ r.2.mem ((c.tc : Thread Cert.ExpertDownRefIdeal.nD Cert.ExpertDownRefIdeal.τ).loc Cert.ExpertDownRefIdeal.main_arg2) = m' ((c.tc : Thread Cert.ExpertDownRefIdeal.nD Cert.ExpertDownRefIdeal.τ).loc Cert.ExpertDownRefIdeal.main_arg2))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v11) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)) →
    ∃ (v0 : (c : Dev Cert.PreNormIdeal.nD) → Buf (Elt Ideal) ((c.tc : Thread Cert.PreNormIdeal.nD Cert.PreNormIdeal.τ).loc Cert.PreNormIdeal.main_v1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v25) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2))

def preserves_CtxNorm_CtxNormIdeal : Prop :=
  True

def algebraic_CtxNormIdeal_CtxNormRefIdeal [hCtxNormIdeal : Cert.CtxNormIdeal.Facts] [hCtxNormRefIdeal : Cert.CtxNormRefIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg)
    (m' : (ℓ : Loc Cert.CtxNormRefIdeal.nD Cert.CtxNormRefIdeal.τ Cert.CtxNormRefIdeal.sig) → Buf (Elt Ideal) ℓ) (g' : Dev Cert.CtxNormRefIdeal.nD → PrngReg), Pre_CtxNormIdeal m →
    (∀ c : Dev Cert.CtxNormIdeal.nD,
      m' ((c.tc : Thread Cert.CtxNormRefIdeal.nD Cert.CtxNormRefIdeal.τ).loc Cert.CtxNormRefIdeal.main_arg0) = m ((c.tc : Thread Cert.CtxNormIdeal.nD Cert.CtxNormIdeal.τ).loc Cert.CtxNormIdeal.main_arg0)
      ∧ m' ((c.tc : Thread Cert.CtxNormRefIdeal.nD Cert.CtxNormRefIdeal.τ).loc Cert.CtxNormRefIdeal.main_arg1) = m ((c.tc : Thread Cert.CtxNormIdeal.nD Cert.CtxNormIdeal.τ).loc Cert.CtxNormIdeal.main_arg1)
      ∧ m' ((c.tc : Thread Cert.CtxNormRefIdeal.nD Cert.CtxNormRefIdeal.τ).loc Cert.CtxNormRefIdeal.main_arg2) = m ((c.tc : Thread Cert.CtxNormIdeal.nD Cert.CtxNormIdeal.τ).loc Cert.CtxNormIdeal.main_arg2)) →
    ∃ (v0 : (c : Dev Cert.CtxNormIdeal.nD) → Buf (Elt Ideal) ((c.tc : Thread Cert.CtxNormIdeal.nD Cert.CtxNormIdeal.τ).loc Cert.CtxNormIdeal.main_v1)),
      θ_run (Cert.CtxNormIdeal.defs (F := Ideal)) (onTc (τ := Cert.CtxNormIdeal.τ) (Cert.CtxNormIdeal.main (F := Ideal))) ⟨m, fun _ => 0, g⟩ (fun r => ∀ c : Dev Cert.CtxNormIdeal.nD,
          r.2.mem ((c.tc : Thread Cert.CtxNormIdeal.nD Cert.CtxNormIdeal.τ).loc Cert.CtxNormIdeal.main_v1) = v0 c
          ∧ r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
          ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
          ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2))
      ∧ θ_run (Cert.CtxNormRefIdeal.defs (F := Ideal)) (onTc (τ := Cert.CtxNormRefIdeal.τ) (Cert.CtxNormRefIdeal.main (F := Ideal))) ⟨m', fun _ => 0, g'⟩ (fun r => ∀ c : Dev Cert.CtxNormRefIdeal.nD,
          r.2.mem ((c.tc : Thread Cert.CtxNormRefIdeal.nD Cert.CtxNormRefIdeal.τ).loc Cert.CtxNormRefIdeal.main_v23) = v0 c
          ∧ r.2.mem ((c.tc : Thread Cert.CtxNormRefIdeal.nD Cert.CtxNormRefIdeal.τ).loc Cert.CtxNormRefIdeal.main_arg0) = m' ((c.tc : Thread Cert.CtxNormRefIdeal.nD Cert.CtxNormRefIdeal.τ).loc Cert.CtxNormRefIdeal.main_arg0)
          ∧ r.2.mem ((c.tc : Thread Cert.CtxNormRefIdeal.nD Cert.CtxNormRefIdeal.τ).loc Cert.CtxNormRefIdeal.main_arg1) = m' ((c.tc : Thread Cert.CtxNormRefIdeal.nD Cert.CtxNormRefIdeal.τ).loc Cert.CtxNormRefIdeal.main_arg1)
          ∧ r.2.mem ((c.tc : Thread Cert.CtxNormRefIdeal.nD Cert.CtxNormRefIdeal.τ).loc Cert.CtxNormRefIdeal.main_arg2) = m' ((c.tc : Thread Cert.CtxNormRefIdeal.nD Cert.CtxNormRefIdeal.τ).loc Cert.CtxNormRefIdeal.main_arg2))

def preserves_CtxProj_CtxProjIdeal : Prop :=
  True

def algebraic_CtxProjIdeal_CtxProjRefIdeal [hCtxProjIdeal : Cert.CtxProjIdeal.Facts] [hCtxProjRefIdeal : Cert.CtxProjRefIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxProjRefIdeal.nD Cert.CtxProjRefIdeal.τ Cert.CtxProjRefIdeal.sig) → Buf (Elt Ideal) ℓ) (g' : Dev Cert.CtxProjRefIdeal.nD → PrngReg), Pre_CtxProjIdeal m →
    (∀ c : Dev Cert.CtxProjIdeal.nD,
      m' ((c.tc : Thread Cert.CtxProjRefIdeal.nD Cert.CtxProjRefIdeal.τ).loc Cert.CtxProjRefIdeal.main_arg0) = m ((c.tc : Thread Cert.CtxProjIdeal.nD Cert.CtxProjIdeal.τ).loc Cert.CtxProjIdeal.main_arg0)
      ∧ m' ((c.tc : Thread Cert.CtxProjRefIdeal.nD Cert.CtxProjRefIdeal.τ).loc Cert.CtxProjRefIdeal.main_arg1) = m ((c.tc : Thread Cert.CtxProjIdeal.nD Cert.CtxProjIdeal.τ).loc Cert.CtxProjIdeal.main_arg1)) →
    ∃ (v0 : (c : Dev Cert.CtxProjIdeal.nD) → Buf (Elt Ideal) ((c.tc : Thread Cert.CtxProjIdeal.nD Cert.CtxProjIdeal.τ).loc Cert.CtxProjIdeal.main_v0)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v0) = v0 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1))
      ∧ θ_run (Cert.CtxProjRefIdeal.defs (F := Ideal)) (onTc (τ := Cert.CtxProjRefIdeal.τ) (Cert.CtxProjRefIdeal.main (F := Ideal))) ⟨m', fun _ => 0, g'⟩ (fun r => ∀ c : Dev Cert.CtxProjRefIdeal.nD,
          r.2.mem ((c.tc : Thread Cert.CtxProjRefIdeal.nD Cert.CtxProjRefIdeal.τ).loc Cert.CtxProjRefIdeal.main_v6) = v0 c
          ∧ r.2.mem ((c.tc : Thread Cert.CtxProjRefIdeal.nD Cert.CtxProjRefIdeal.τ).loc Cert.CtxProjRefIdeal.main_arg0) = m' ((c.tc : Thread Cert.CtxProjRefIdeal.nD Cert.CtxProjRefIdeal.τ).loc Cert.CtxProjRefIdeal.main_arg0)
          ∧ r.2.mem ((c.tc : Thread Cert.CtxProjRefIdeal.nD Cert.CtxProjRefIdeal.τ).loc Cert.CtxProjRefIdeal.main_arg1) = m' ((c.tc : Thread Cert.CtxProjRefIdeal.nD Cert.CtxProjRefIdeal.τ).loc Cert.CtxProjRefIdeal.main_arg1))

def preserves_Router_RouterIdeal : Prop :=
  IdealRules.named_const.Statement Cert.RouterIdeal.κ "mask" .f32 0xF149F2CA#32 ⊥

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v39) = v0 c
          ∧ r.2.mem ((c.tc : Thread Cert.RouterRefIdeal.nD Cert.RouterRefIdeal.τ).loc Cert.RouterRefIdeal.main_v50) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hExpertUp : Cert.ExpertUp.Facts) (hExpertUpIdeal : Cert.ExpertUpIdeal.Facts) (hExpertUpRefIdeal : Cert.ExpertUpRefIdeal.Facts) (hExpertDown : Cert.ExpertDown.Facts) (hExpertDownIdeal : Cert.ExpertDownIdeal.Facts) (hExpertDownRefIdeal : Cert.ExpertDownRefIdeal.Facts) (hModulation : Cert.Modulation.Facts) (hModulationIdeal : Cert.ModulationIdeal.Facts) (hModulationRefIdeal : Cert.ModulationRefIdeal.Facts) (hPreNorm : Cert.PreNorm.Facts) (hPreNormIdeal : Cert.PreNormIdeal.Facts) (hPreNormRefIdeal : Cert.PreNormRefIdeal.Facts) (hCtxNorm : Cert.CtxNorm.Facts) (hCtxNormIdeal : Cert.CtxNormIdeal.Facts) (hCtxNormRefIdeal : Cert.CtxNormRefIdeal.Facts) (hCtxProj : Cert.CtxProj.Facts) (hCtxProjIdeal : Cert.CtxProjIdeal.Facts) (hCtxProjRefIdeal : Cert.CtxProjRefIdeal.Facts) (hRouter : Cert.Router.Facts) (hRouterIdeal : Cert.RouterIdeal.Facts) (hRouterRefIdeal : Cert.RouterRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ExpertUp (hExpertUp := hExpertUp)
    ∧ quiescent_ExpertUpIdeal (hExpertUpIdeal := hExpertUpIdeal)
    ∧ quiescent_ExpertUpRefIdeal (hExpertUpRefIdeal := hExpertUpRefIdeal)
    ∧ quiescent_ExpertDown (hExpertDown := hExpertDown)
    ∧ quiescent_ExpertDownIdeal (hExpertDownIdeal := hExpertDownIdeal)
    ∧ quiescent_ExpertDownRefIdeal (hExpertDownRefIdeal := hExpertDownRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_CtxNorm (hCtxNorm := hCtxNorm)
    ∧ quiescent_CtxNormIdeal (hCtxNormIdeal := hCtxNormIdeal)
    ∧ quiescent_CtxNormRefIdeal (hCtxNormRefIdeal := hCtxNormRefIdeal)
    ∧ quiescent_CtxProj (hCtxProj := hCtxProj)
    ∧ quiescent_CtxProjIdeal (hCtxProjIdeal := hCtxProjIdeal)
    ∧ quiescent_CtxProjRefIdeal (hCtxProjRefIdeal := hCtxProjRefIdeal)
    ∧ quiescent_Router (hRouter := hRouter)
    ∧ quiescent_RouterIdeal (hRouterIdeal := hRouterIdeal)
    ∧ quiescent_RouterRefIdeal (hRouterRefIdeal := hRouterRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_ExpertUp_ExpertUpIdeal
    ∧ algebraic_ExpertUpIdeal_ExpertUpRefIdeal (hExpertUpIdeal := hExpertUpIdeal) (hExpertUpRefIdeal := hExpertUpRefIdeal)
    ∧ preserves_ExpertDown_ExpertDownIdeal
    ∧ algebraic_ExpertDownIdeal_ExpertDownRefIdeal (hExpertDownIdeal := hExpertDownIdeal) (hExpertDownRefIdeal := hExpertDownRefIdeal)
    ∧ preserves_Modulation_ModulationIdeal
    ∧ algebraic_ModulationIdeal_ModulationRefIdeal (hModulationIdeal := hModulationIdeal) (hModulationRefIdeal := hModulationRefIdeal)
    ∧ preserves_PreNorm_PreNormIdeal
    ∧ algebraic_PreNormIdeal_PreNormRefIdeal (hPreNormIdeal := hPreNormIdeal) (hPreNormRefIdeal := hPreNormRefIdeal)
    ∧ preserves_CtxNorm_CtxNormIdeal
    ∧ algebraic_CtxNormIdeal_CtxNormRefIdeal (hCtxNormIdeal := hCtxNormIdeal) (hCtxNormRefIdeal := hCtxNormRefIdeal)
    ∧ preserves_CtxProj_CtxProjIdeal
    ∧ algebraic_CtxProjIdeal_CtxProjRefIdeal (hCtxProjIdeal := hCtxProjIdeal) (hCtxProjRefIdeal := hCtxProjRefIdeal)
    ∧ preserves_Router_RouterIdeal
    ∧ algebraic_RouterIdeal_RouterRefIdeal (hRouterIdeal := hRouterIdeal) (hRouterRefIdeal := hRouterRefIdeal)
-- ==== Pre_finite_scores.lean ====
abbrev S8192x24576 : Shape := ⟨2, ![8192, 24576]⟩
abbrev S512x8192 : Shape := ⟨2, ![512, 8192]⟩
abbrev S16x15x31 : Shape := ⟨3, ![16, 15, 31]⟩
abbrev S8192x4096 : Shape := ⟨2, ![8192, 4096]⟩
abbrev S_ : Shape := ⟨0, ![]⟩
abbrev S512x2048 : Shape := ⟨2, ![512, 2048]⟩

class Facts : Prop where
  slices_S8192x24576_S8192x4096_0_0 : S8192x24576.Slices ![0, 0] S8192x4096
  bitsLt_bf16_f32 : FTy.bits .bf16 < FTy.bits .f32
  bcast_S_S8192x4096 : S_.BroadcastsInDim S8192x4096 (![] : Fin 0 → Fin S8192x4096.rank)
  slices_S512x8192_S512x2048_0_0 : S512x8192.Slices ![0, 0] S512x2048
  bcast_S_S512x2048 : S_.BroadcastsInDim S512x2048 (![] : Fin 0 → Fin S512x2048.rank)
  bcast_S_S16x15x31 : S_.BroadcastsInDim S16x15x31 (![] : Fin 0 → Fin S16x15x31.rank)

variable [Facts]

def fn {F : FTy → Type} [FloatOps F] (main_arg0 : FVec F S8192x24576 .bf16) (main_arg1 : FVec F S512x8192 .bf16) (main_arg2 : FVec F S16x15x31 .f32) : IVec S8192x4096 1 × IVec S512x2048 1 × IVec S16x15x31 1 :=
  let main_v0 : FVec F S8192x4096 .bf16 := (extractStridedSlice S8192x4096 ![0, 0] · slices_S8192x24576_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_v5 : FVec F S512x2048 .bf16 := (extractStridedSlice S512x2048 ![0, 0] · slices_S512x8192_S512x2048_0_0) main_arg1
  let main_v6 : FVec F S512x2048 .f32 := (extf .f32 · bitsLt_bf16_f32) main_v5
  let main_v7 : FVec F S512x2048 .f32 := Host.absf main_v6
  let main_cst_0 : FVec F S_ .f32 := constant S_ .f32 0x7F800000#32
  let main_v8 : FVec F S512x2048 .f32 := broadcastInDim S512x2048 ![] bcast_S_S512x2048 main_cst_0
  let main_v9 : IVec S512x2048 1 := cmpf .olt main_v7 main_v8
  let main_v10 : FVec F S16x15x31 .f32 := Host.absf main_arg2
  let main_cst_1 : FVec F S_ .f32 := constant S_ .f32 0x7F800000#32
  let main_v11 : FVec F S16x15x31 .f32 := broadcastInDim S16x15x31 ![] bcast_S_S16x15x31 main_cst_1
  let main_v12 : IVec S16x15x31 1 := cmpf .olt main_v10 main_v11
  (main_v4, main_v9, main_v12)
-- ==== Kernel.lean ====
abbrev S8192x24576 : Shape := ⟨2, ![8192, 24576]⟩
abbrev S512x8192 : Shape := ⟨2, ![512, 8192]⟩
abbrev S16x15x31 : Shape := ⟨3, ![16, 15, 31]⟩
abbrev S128 : Shape := ⟨1, ![128]⟩
abbrev S_ : Shape := ⟨0, ![]⟩
abbrev S128x1 : Shape := ⟨2, ![128, 1]⟩
abbrev S16x15x128 : Shape := ⟨3, ![16, 15, 128]⟩
abbrev S8192x2048 : Shape := ⟨2, ![8192, 2048]⟩
abbrev S4096x128 : Shape := ⟨2, ![4096, 128]⟩
abbrev S256x128 : Shape := ⟨2, ![256, 128]⟩
abbrev S1x15x128 : Shape := ⟨3, ![1, 15, 128]⟩
abbrev S15x64x128 : Shape := ⟨3, ![15, 64, 128]⟩
abbrev S3x256x768 : Shape := ⟨3, ![3, 256, 768]⟩
abbrev S4096x256 : Shape := ⟨2, ![4096, 256]⟩
abbrev S256x256 : Shape := ⟨2, ![256, 256]⟩
abbrev S64x128 : Shape := ⟨2, ![64, 128]⟩
abbrev S1x1x128 : Shape := ⟨3, ![1, 1, 128]⟩
abbrev S1x128 : Shape := ⟨2, ![1, 128]⟩
abbrev S1x64x128 : Shape := ⟨3, ![1, 64, 128]⟩
abbrev S768x128 : Shape := ⟨2, ![768, 128]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩
abbrev S768x256 : Shape := ⟨2, ![768, 256]⟩

abbrev nBuf : Space → Nat
  | .hbm => 12
  | .vmem => 18
  | .smem => 0
  | _ => 0

abbrev bufTy : (tb : Table) → Fin (tcTables nBuf tb) → BufTy
  | .hbm, ⟨0, _⟩ => ⟨S8192x24576, .bf16⟩
  | .hbm, ⟨1, _⟩ => ⟨S512x8192, .bf16⟩
  | .hbm, ⟨2, _⟩ => ⟨S16x15x31, .f32⟩
  | .hbm, ⟨3, _⟩ => ⟨S128, .i32⟩
  | .hbm, ⟨4, _⟩ => ⟨S128, .i1⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S128, .i32⟩
  | .hbm, ⟨9, _⟩ => ⟨S128x1, .i32⟩
  | .hbm, ⟨10, _⟩ => ⟨S16x15x128, .f32⟩
  | .hbm, ⟨11, _⟩ => ⟨S8192x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x15x128, .f32⟩
  | .local _ .vmem, ⟨11, _⟩ => ⟨S1x15x128, .f32⟩
  | .local _ .vmem, ⟨12, _⟩ => ⟨S4096x128, .bf16⟩
  | .local _ .vmem, ⟨13, _⟩ => ⟨S4096x128, .bf16⟩
  | .local _ .vmem, ⟨14, _⟩ => ⟨S15x64x128, .f32⟩
  | .local _ .vmem, ⟨15, _⟩ => ⟨S3x256x768, .f32⟩
  | .local _ .vmem, ⟨16, _⟩ => ⟨S4096x256, .bf16⟩
  | .local _ .vmem, ⟨17, _⟩ => ⟨S256x256, .bf16⟩
  | _, _ => ⟨S8192x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def k0_mult1 : BitVec 32 :=
  let c52_i32 : BitVec 32 := 52#32
  let c0_i32_14 : BitVec 32 := 0#32
  let c4_i32 : BitVec 32 := 4#32
  let c0_i32_12 : BitVec 32 := 0#32
  let v19 : BitVec 32 := Scalar.muli c4_i32 c0_i32_12
  let c4_i32_13 : BitVec 32 := 4#32
  let v20 : BitVec 32 := Scalar.subi v19 c4_i32_13
  let v21 : BitVec 32 := Scalar.maxsi c0_i32_14 v20
  let v22 : BitVec 32 := Scalar.minsi c52_i32 v21
  let c64_i32 : BitVec 32 := 64#32
  let v23 : BitVec 32 := Scalar.muli v22 c64_i32
  v23
def k0_mult2 : BitVec 32 :=
  let c0_i32_12 : BitVec 32 := 0#32
  let c256_i32 : BitVec 32 := 256#32
  let v25 : BitVec 32 := Scalar.muli c0_i32_12 c256_i32
  v25
def k0_off1 (c0_i32_12 : BitVec 32) : Fin 2 → Nat :=
  let c256_i32 : BitVec 32 := 256#32
  let v25 : BitVec 32 := Scalar.muli c0_i32_12 c256_i32
  let v26 : BitVec 32 := v25
  let v59 : Index := Scalar.indexCast v26
  let c0_34 : Index := 0#32
  ![v59.toNat, 0]
def k0_off2 (c0_i32_12 : BitVec 32) : Fin 2 → Nat :=
  let c52_i32 : BitVec 32 := 52#32
  let c0_i32_14 : BitVec 32 := 0#32
  let c4_i32 : BitVec 32 := 4#32
  let v19 : BitVec 32 := Scalar.muli c4_i32 c0_i32_12
  let c4_i32_13 : BitVec 32 := 4#32
  let v20 : BitVec 32 := Scalar.subi v19 c4_i32_13
  let v21 : BitVec 32 := Scalar.maxsi c0_i32_14 v20
  let v22 : BitVec 32 := Scalar.minsi c52_i32 v21
  let c64_i32 : BitVec 32 := 64#32
  let v23 : BitVec 32 := Scalar.muli v22 c64_i32
  let v24 : BitVec 32 := v23
  let v61 : Index := Scalar.indexCast v24
  let c0_35 : Index := 0#32
  ![v61.toNat, 0]
def k0_off3 (c0_i32_12 : BitVec 32) : Fin 3 → Nat :=
  let c15_i32 : BitVec 32 := 15#32
  let v57 : BitVec 1 := Scalar.cmpi .eq c0_i32_12 c15_i32
  let c2_i32_33 : BitVec 32 := 2#32
  let c14_i32 : BitVec 32 := 14#32
  let v55 : BitVec 1 := Scalar.cmpi .eq c0_i32_12 c14_i32
  let c1_i32_32 : BitVec 32 := 1#32
  let c13_i32 : BitVec 32 := 13#32
  let v53 : BitVec 1 := Scalar.cmpi .eq c0_i32_12 c13_i32
  let c1_i32_31 : BitVec 32 := 1#32
  let c12_i32 : BitVec 32 := 12#32
  let v51 : BitVec 1 := Scalar.cmpi .eq c0_i32_12 c12_i32
  let c1_i32_30 : BitVec 32 := 1#32
  let c11_i32 : BitVec 32 := 11#32
  let v49 : BitVec 1 := Scalar.cmpi .eq c0_i32_12 c11_i32
  let c1_i32_29 : BitVec 32 := 1#32
  let c10_i32 : BitVec 32 := 10#32
  let v47 : BitVec 1 := Scalar.cmpi .eq c0_i32_12 c10_i32
  let c1_i32_28 : BitVec 32 := 1#32
  let c9_i32 : BitVec 32 := 9#32
  let v45 : BitVec 1 := Scalar.cmpi .eq c0_i32_12 c9_i32
  let c1_i32_27 : BitVec 32 := 1#32
  let c8_i32 : BitVec 32 := 8#32
  let v43 : BitVec 1 := Scalar.cmpi .eq c0_i32_12 c8_i32
  let c1_i32_26 : BitVec 32 := 1#32
  let c7_i32 : BitVec 32 := 7#32
  let v41 : BitVec 1 := Scalar.cmpi .eq c0_i32_12 c7_i32
  let c1_i32_25 : BitVec 32 := 1#32
  let c6_i32 : BitVec 32 := 6#32
  let v39 : BitVec 1 := Scalar.cmpi .eq c0_i32_12 c6_i32
  let c1_i32_24 : BitVec 32 := 1#32
  let c5_i32 : BitVec 32 := 5#32
  let v37 : BitVec 1 := Scalar.cmpi .eq c0_i32_12 c5_i32
  let c1_i32_23 : BitVec 32 := 1#32
  let c4_i32_21 : BitVec 32 := 4#32
  let v35 : BitVec 1 := Scalar.cmpi .eq c0_i32_12 c4_i32_21
  let c1_i32_22 : BitVec 32 := 1#32
  let c3_i32 : BitVec 32 := 3#32
  let v33 : BitVec 1 := Scalar.cmpi .eq c0_i32_12 c3_i32
  let c1_i32_20 : BitVec 32 := 1#32
  let c2_i32 : BitVec 32 := 2#32
  let v31 : BitVec 1 := Scalar.cmpi .eq c0_i32_12 c2_i32
  let c1_i32_19 : BitVec 32 := 1#32
  let c1_i32 : BitVec 32 := 1#32
  let v29 : BitVec 1 := Scalar.cmpi .eq c0_i32_12 c1_i32
  let c1_i32_18 : BitVec 32 := 1#32
  let c0_i32_15 : BitVec 32 := 0#32
  let v27 : BitVec 1 := Scalar.cmpi .eq c0_i32_12 c0_i32_15
  let c0_i32_16 : BitVec 32 := 0#32
  let c0_i32_17 : BitVec 32 := 0#32
  let v28 : BitVec 32 := Scalar.select v27 c0_i32_16 c0_i32_17
  let v30 : BitVec 32 := Scalar.select v29 c1_i32_18 v28
  let v32 : BitVec 32 := Scalar.select v31 c1_i32_19 v30
  let v34 : BitVec 32 := Scalar.select v33 c1_i32_20 v32
  let v36 : BitVec 32 := Scalar.select v35 c1_i32_22 v34
  let v38 : BitVec 32 := Scalar.select v37 c1_i32_23 v36
  let v40 : BitVec 32 := Scalar.select v39 c1_i32_24 v38
  let v42 : BitVec 32 := Scalar.select v41 c1_i32_25 v40
  let v44 : BitVec 32 := Scalar.select v43 c1_i32_26 v42
  let v46 : BitVec 32 := Scalar.select v45 c1_i32_27 v44
  let v48 : BitVec 32 := Scalar.select v47 c1_i32_28 v46
  let v50 : BitVec 32 := Scalar.select v49 c1_i32_29 v48
  let v52 : BitVec 32 := Scalar.select v51 c1_i32_30 v50
  let v54 : BitVec 32 := Scalar.select v53 c1_i32_31 v52
  let v56 : BitVec 32 := Scalar.select v55 c1_i32_32 v54
  let v58 : BitVec 32 := Scalar.select v57 c2_i32_33 v56
  let v66 : Index := Scalar.indexCast v58
  let c0_38 : Index := 0#32
  let c0_39 : Index := 0#32
  ![v66.toNat, 0, 0]
def k0_off4 (c0_i32_12 : BitVec 32) : Fin 2 → Nat :=
  let c52_i32 : BitVec 32 := 52#32
  let c0_i32_14 : BitVec 32 := 0#32
  let c4_i32 : BitVec 32 := 4#32
  let v19 : BitVec 32 := Scalar.muli c4_i32 c0_i32_12
  let c4_i32_13 : BitVec 32 := 4#32
  let v20 : BitVec 32 := Scalar.subi v19 c4_i32_13
  let v21 : BitVec 32 := Scalar.maxsi c0_i32_14 v20
  let v22 : BitVec 32 := Scalar.minsi c52_i32 v21
  let c64_i32 : BitVec 32 := 64#32
  let v23 : BitVec 32 := Scalar.muli v22 c64_i32
  let v24 : BitVec 32 := v23
  let v86 : Index := Scalar.indexCast v24
  let c0_46 : Index := 0#32
  ![v86.toNat, 0]
def k0_mult3 : BitVec 32 :=
  let c52_i32_56 : BitVec 32 := 52#32
  let c0_i32_55 : BitVec 32 := 0#32
  let c4_i32_53 : BitVec 32 := 4#32
  let c1_i32_52 : BitVec 32 := 1#32
  let v100 : BitVec 32 := Scalar.muli c4_i32_53 c1_i32_52
  let c4_i32_54 : BitVec 32 := 4#32
  let v101 : BitVec 32 := Scalar.subi v100 c4_i32_54
  let v102 : BitVec 32 := Scalar.maxsi c0_i32_55 v101
  let v103 : BitVec 32 := Scalar.minsi c52_i32_56 v102
  let c64_i32_57 : BitVec 32 := 64#32
  let v104 : BitVec 32 := Scalar.muli v103 c64_i32_57
  v104
def k0_mult4 : BitVec 32 :=
  let c1_i32_52 : BitVec 32 := 1#32
  let c256_i32_58 : BitVec 32 := 256#32
  let v106 : BitVec 32 := Scalar.muli c1_i32_52 c256_i32_58
  v106
def k0_mult5 : BitVec 32 :=
  let c52_i32_114 : BitVec 32 := 52#32
  let c0_i32_113 : BitVec 32 := 0#32
  let c4_i32_111 : BitVec 32 := 4#32
  let c2_i32_110 : BitVec 32 := 2#32
  let v181 : BitVec 32 := Scalar.muli c4_i32_111 c2_i32_110
  let c4_i32_112 : BitVec 32 := 4#32
  let v182 : BitVec 32 := Scalar.subi v181 c4_i32_112
  let v183 : BitVec 32 := Scalar.maxsi c0_i32_113 v182
  let v184 : BitVec 32 := Scalar.minsi c52_i32_114 v183
  let c64_i32_115 : BitVec 32 := 64#32
  let v185 : BitVec 32 := Scalar.muli v184 c64_i32_115
  v185
def k0_mult6 : BitVec 32 :=
  let c2_i32_110 : BitVec 32 := 2#32
  let c256_i32_116 : BitVec 32 := 256#32
  let v187 : BitVec 32 := Scalar.muli c2_i32_110 c256_i32_116
  v187
def k0_mult7 : BitVec 32 :=
  let c52_i32_172 : BitVec 32 := 52#32
  let c0_i32_171 : BitVec 32 := 0#32
  let c4_i32_169 : BitVec 32 := 4#32
  let c3_i32_168 : BitVec 32 := 3#32
  let v262 : BitVec 32 := Scalar.muli c4_i32_169 c3_i32_168
  let c4_i32_170 : BitVec 32 := 4#32
  let v263 : BitVec 32 := Scalar.subi v262 c4_i32_170
  let v264 : BitVec 32 := Scalar.maxsi c0_i32_171 v263
  let v265 : BitVec 32 := Scalar.minsi c52_i32_172 v264
  let c64_i32_173 : BitVec 32 := 64#32
  let v266 : BitVec 32 := Scalar.muli v265 c64_i32_173
  v266
def k0_mult8 : BitVec 32 :=
  let c3_i32_168 : BitVec 32 := 3#32
  let c256_i32_174 : BitVec 32 := 256#32
  let v268 : BitVec 32 := Scalar.muli c3_i32_168 c256_i32_174
  v268
def k0_mult9 : BitVec 32 :=
  let c52_i32_230 : BitVec 32 := 52#32
  let c0_i32_229 : BitVec 32 := 0#32
  let c4_i32_227 : BitVec 32 := 4#32
  let c4_i32_226 : BitVec 32 := 4#32
  let v343 : BitVec 32 := Scalar.muli c4_i32_227 c4_i32_226
  let c4_i32_228 : BitVec 32 := 4#32
  let v344 : BitVec 32 := Scalar.subi v343 c4_i32_228
  let v345 : BitVec 32 := Scalar.maxsi c0_i32_229 v344
  let v346 : BitVec 32 := Scalar.minsi c52_i32_230 v345
  let c64_i32_231 : BitVec 32 := 64#32
  let v347 : BitVec 32 := Scalar.muli v346 c64_i32_231
  v347
def k0_mult10 : BitVec 32 :=
  let c4_i32_226 : BitVec 32 := 4#32
  let c256_i32_232 : BitVec 32 := 256#32
  let v349 : BitVec 32 := Scalar.muli c4_i32_226 c256_i32_232
  v349
def k0_mult11 : BitVec 32 :=
  let c52_i32_288 : BitVec 32 := 52#32
  let c0_i32_287 : BitVec 32 := 0#32
  let c4_i32_285 : BitVec 32 := 4#32
  let c5_i32_284 : BitVec 32 := 5#32
  let v424 : BitVec 32 := Scalar.muli c4_i32_285 c5_i32_284
  let c4_i32_286 : BitVec 32 := 4#32
  let v425 : BitVec 32 := Scalar.subi v424 c4_i32_286
  let v426 : BitVec 32 := Scalar.maxsi c0_i32_287 v425
  let v427 : BitVec 32 := Scalar.minsi c52_i32_288 v426
  let c64_i32_289 : BitVec 32 := 64#32
  let v428 : BitVec 32 := Scalar.muli v427 c64_i32_289
  v428
def k0_mult12 : BitVec 32 :=
  let c5_i32_284 : BitVec 32 := 5#32
  let c256_i32_290 : BitVec 32 := 256#32
  let v430 : BitVec 32 := Scalar.muli c5_i32_284 c256_i32_290
  v430
def k0_mult13 : BitVec 32 :=
  let c52_i32_346 : BitVec 32 := 52#32
  let c0_i32_345 : BitVec 32 := 0#32
  let c4_i32_343 : BitVec 32 := 4#32
  let c6_i32_342 : BitVec 32 := 6#32
  let v505 : BitVec 32 := Scalar.muli c4_i32_343 c6_i32_342
  let c4_i32_344 : BitVec 32 := 4#32
  let v506 : BitVec 32 := Scalar.subi v505 c4_i32_344
  let v507 : BitVec 32 := Scalar.maxsi c0_i32_345 v506
  let v508 : BitVec 32 := Scalar.minsi c52_i32_346 v507
  let c64_i32_347 : BitVec 32 := 64#32
  let v509 : BitVec 32 := Scalar.muli v508 c64_i32_347
  v509
def k0_mult14 : BitVec 32 :=
  let c6_i32_342 : BitVec 32 := 6#32
  let c256_i32_348 : BitVec 32 := 256#32
  let v511 : BitVec 32 := Scalar.muli c6_i32_342 c256_i32_348
  v511
def k0_mult15 : BitVec 32 :=
  let c52_i32_404 : BitVec 32 := 52#32
  let c0_i32_403 : BitVec 32 := 0#32
  let c4_i32_401 : BitVec 32 := 4#32
  let c7_i32_400 : BitVec 32 := 7#32
  let v586 : BitVec 32 := Scalar.muli c4_i32_401 c7_i32_400
  let c4_i32_402 : BitVec 32 := 4#32
  let v587 : BitVec 32 := Scalar.subi v586 c4_i32_402
  let v588 : BitVec 32 := Scalar.maxsi c0_i32_403 v587
  let v589 : BitVec 32 := Scalar.minsi c52_i32_404 v588
  let c64_i32_405 : BitVec 32 := 64#32
  let v590 : BitVec 32 := Scalar.muli v589 c64_i32_405
  v590
def k0_mult16 : BitVec 32 :=
  let c7_i32_400 : BitVec 32 := 7#32
  let c256_i32_406 : BitVec 32 := 256#32
  let v592 : BitVec 32 := Scalar.muli c7_i32_400 c256_i32_406
  v592
def k0_mult17 : BitVec 32 :=
  let c52_i32_462 : BitVec 32 := 52#32
  let c0_i32_461 : BitVec 32 := 0#32
  let c4_i32_459 : BitVec 32 := 4#32
  let c8_i32_458 : BitVec 32 := 8#32
  let v667 : BitVec 32 := Scalar.muli c4_i32_459 c8_i32_458
  let c4_i32_460 : BitVec 32 := 4#32
  let v668 : BitVec 32 := Scalar.subi v667 c4_i32_460
  let v669 : BitVec 32 := Scalar.maxsi c0_i32_461 v668
  let v670 : BitVec 32 := Scalar.minsi c52_i32_462 v669
  let c64_i32_463 : BitVec 32 := 64#32
  let v671 : BitVec 32 := Scalar.muli v670 c64_i32_463
  v671
def k0_mult18 : BitVec 32 :=
  let c8_i32_458 : BitVec 32 := 8#32
  let c256_i32_464 : BitVec 32 := 256#32
  let v673 : BitVec 32 := Scalar.muli c8_i32_458 c256_i32_464
  v673
def k0_mult19 : BitVec 32 :=
  let c52_i32_520 : BitVec 32 := 52#32
  let c0_i32_519 : BitVec 32 := 0#32
  let c4_i32_517 : BitVec 32 := 4#32
  let c9_i32_516 : BitVec 32 := 9#32
  let v748 : BitVec 32 := Scalar.muli c4_i32_517 c9_i32_516
  let c4_i32_518 : BitVec 32 := 4#32
  let v749 : BitVec 32 := Scalar.subi v748 c4_i32_518
  let v750 : BitVec 32 := Scalar.maxsi c0_i32_519 v749
  let v751 : BitVec 32 := Scalar.minsi c52_i32_520 v750
  let c64_i32_521 : BitVec 32 := 64#32
  let v752 : BitVec 32 := Scalar.muli v751 c64_i32_521
  v752
def k0_mult20 : BitVec 32 :=
  let c9_i32_516 : BitVec 32 := 9#32
  let c256_i32_522 : BitVec 32 := 256#32
  let v754 : BitVec 32 := Scalar.muli c9_i32_516 c256_i32_522
  v754
def k0_mult21 : BitVec 32 :=
  let c52_i32_578 : BitVec 32 := 52#32
  let c0_i32_577 : BitVec 32 := 0#32
  let c4_i32_575 : BitVec 32 := 4#32
  let c10_i32_574 : BitVec 32 := 10#32
  let v829 : BitVec 32 := Scalar.muli c4_i32_575 c10_i32_574
  let c4_i32_576 : BitVec 32 := 4#32
  let v830 : BitVec 32 := Scalar.subi v829 c4_i32_576
  let v831 : BitVec 32 := Scalar.maxsi c0_i32_577 v830
  let v832 : BitVec 32 := Scalar.minsi c52_i32_578 v831
  let c64_i32_579 : BitVec 32 := 64#32
  let v833 : BitVec 32 := Scalar.muli v832 c64_i32_579
  v833
def k0_mult22 : BitVec 32 :=
  let c10_i32_574 : BitVec 32 := 10#32
  let c256_i32_580 : BitVec 32 := 256#32
  let v835 : BitVec 32 := Scalar.muli c10_i32_574 c256_i32_580
  v835
def k0_mult23 : BitVec 32 :=
  let c52_i32_636 : BitVec 32 := 52#32
  let c0_i32_635 : BitVec 32 := 0#32
  let c4_i32_633 : BitVec 32 := 4#32
  let c11_i32_632 : BitVec 32 := 11#32
  let v910 : BitVec 32 := Scalar.muli c4_i32_633 c11_i32_632
  let c4_i32_634 : BitVec 32 := 4#32
  let v911 : BitVec 32 := Scalar.subi v910 c4_i32_634
  let v912 : BitVec 32 := Scalar.maxsi c0_i32_635 v911
  let v913 : BitVec 32 := Scalar.minsi c52_i32_636 v912
  let c64_i32_637 : BitVec 32 := 64#32
  let v914 : BitVec 32 := Scalar.muli v913 c64_i32_637
  v914
def k0_mult24 : BitVec 32 :=
  let c11_i32_632 : BitVec 32 := 11#32
  let c256_i32_638 : BitVec 32 := 256#32
  let v916 : BitVec 32 := Scalar.muli c11_i32_632 c256_i32_638
  v916
def k0_mult25 : BitVec 32 :=
  let c52_i32_694 : BitVec 32 := 52#32
  let c0_i32_693 : BitVec 32 := 0#32
  let c4_i32_691 : BitVec 32 := 4#32
  let c12_i32_690 : BitVec 32 := 12#32
  let v991 : BitVec 32 := Scalar.muli c4_i32_691 c12_i32_690
  let c4_i32_692 : BitVec 32 := 4#32
  let v992 : BitVec 32 := Scalar.subi v991 c4_i32_692
  let v993 : BitVec 32 := Scalar.maxsi c0_i32_693 v992
  let v994 : BitVec 32 := Scalar.minsi c52_i32_694 v993
  let c64_i32_695 : BitVec 32 := 64#32
  let v995 : BitVec 32 := Scalar.muli v994 c64_i32_695
  v995
def k0_mult26 : BitVec 32 :=
  let c12_i32_690 : BitVec 32 := 12#32
  let c256_i32_696 : BitVec 32 := 256#32
  let v997 : BitVec 32 := Scalar.muli c12_i32_690 c256_i32_696
  v997
def k0_mult27 : BitVec 32 :=
  let c52_i32_752 : BitVec 32 := 52#32
  let c0_i32_751 : BitVec 32 := 0#32
  let c4_i32_749 : BitVec 32 := 4#32
  let c13_i32_748 : BitVec 32 := 13#32
  let v1072 : BitVec 32 := Scalar.muli c4_i32_749 c13_i32_748
  let c4_i32_750 : BitVec 32 := 4#32
  let v1073 : BitVec 32 := Scalar.subi v1072 c4_i32_750
  let v1074 : BitVec 32 := Scalar.maxsi c0_i32_751 v1073
  let v1075 : BitVec 32 := Scalar.minsi c52_i32_752 v1074
  let c64_i32_753 : BitVec 32 := 64#32
  let v1076 : BitVec 32 := Scalar.muli v1075 c64_i32_753
  v1076
def k0_mult28 : BitVec 32 :=
  let c13_i32_748 : BitVec 32 := 13#32
  let c256_i32_754 : BitVec 32 := 256#32
  let v1078 : BitVec 32 := Scalar.muli c13_i32_748 c256_i32_754
  v1078
def k0_mult29 : BitVec 32 :=
  let c52_i32_810 : BitVec 32 := 52#32
  let c0_i32_809 : BitVec 32 := 0#32
  let c4_i32_807 : BitVec 32 := 4#32
  let c14_i32_806 : BitVec 32 := 14#32
  let v1153 : BitVec 32 := Scalar.muli c4_i32_807 c14_i32_806
  let c4_i32_808 : BitVec 32 := 4#32
  let v1154 : BitVec 32 := Scalar.subi v1153 c4_i32_808
  let v1155 : BitVec 32 := Scalar.maxsi c0_i32_809 v1154
  let v1156 : BitVec 32 := Scalar.minsi c52_i32_810 v1155
  let c64_i32_811 : BitVec 32 := 64#32
  let v1157 : BitVec 32 := Scalar.muli v1156 c64_i32_811
  v1157
def k0_mult30 : BitVec 32 :=
  let c14_i32_806 : BitVec 32 := 14#32
  let c256_i32_812 : BitVec 32 := 256#32
  let v1159 : BitVec 32 := Scalar.muli c14_i32_806 c256_i32_812
  v1159
def k0_mult31 : BitVec 32 :=
  let c52_i32_868 : BitVec 32 := 52#32
  let c0_i32_867 : BitVec 32 := 0#32
  let c4_i32_865 : BitVec 32 := 4#32
  let c15_i32_864 : BitVec 32 := 15#32
  let v1234 : BitVec 32 := Scalar.muli c4_i32_865 c15_i32_864
  let c4_i32_866 : BitVec 32 := 4#32
  let v1235 : BitVec 32 := Scalar.subi v1234 c4_i32_866
  let v1236 : BitVec 32 := Scalar.maxsi c0_i32_867 v1235
  let v1237 : BitVec 32 := Scalar.minsi c52_i32_868 v1236
  let c64_i32_869 : BitVec 32 := 64#32
  let v1238 : BitVec 32 := Scalar.muli v1237 c64_i32_869
  v1238
def k0_mult32 : BitVec 32 :=
  let c15_i32_864 : BitVec 32 := 15#32
  let c256_i32_870 : BitVec 32 := 256#32
  let v1240 : BitVec 32 := Scalar.muli c15_i32_864 c256_i32_870
  v1240
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x15x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x24576 : Shape := ⟨2, ![8192, 24576]⟩
abbrev S512x8192 : Shape := ⟨2, ![512, 8192]⟩
abbrev S16x15x31 : Shape := ⟨3, ![16, 15, 31]⟩
abbrev S2x4096x24576 : Shape := ⟨3, ![2, 4096, 24576]⟩
abbrev S2x256x8192 : Shape := ⟨3, ![2, 256, 8192]⟩
abbrev S2x4096x2048 : Shape := ⟨3, ![2, 4096, 2048]⟩
abbrev S2x256x2048 : Shape := ⟨3, ![2, 256, 2048]⟩
abbrev S2x256x16x128 : Shape := ⟨4, ![2, 256, 16, 128]⟩
abbrev S2x16x256x128 : Shape := ⟨4, ![2, 16, 256, 128]⟩
abbrev S2x4096x16x128 : Shape := ⟨4, ![2, 4096, 16, 128]⟩
abbrev S2x16x4096x128 : Shape := ⟨4, ![2, 16, 4096, 128]⟩
abbrev S2x16x64x64x128 : Shape := ⟨5, ![2, 16, 64, 64, 128]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S2x16x64x8x64x128 : Shape := ⟨6, ![2, 16, 64, 8, 64, 128]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S16x64x64x8x64 : Shape := ⟨5, ![16, 64, 64, 8, 64]⟩
abbrev S2x16x64x64x8x64 : Shape := ⟨6, ![2, 16, 64, 64, 8, 64]⟩
abbrev S1x16x64x64x8x64 : Shape := ⟨6, ![1, 16, 64, 64, 8, 64]⟩
abbrev S64x1x64 : Shape := ⟨3, ![64, 1, 64]⟩
abbrev S2x16x64x64x512 : Shape := ⟨5, ![2, 16, 64, 64, 512]⟩
abbrev S2x16x64x64x256 : Shape := ⟨5, ![2, 16, 64, 64, 256]⟩
abbrev S2x16x64x64x768 : Shape := ⟨5, ![2, 16, 64, 64, 768]⟩
abbrev S2x16x64x64 : Shape := ⟨4, ![2, 16, 64, 64]⟩
abbrev S2x16x64x64x1 : Shape := ⟨5, ![2, 16, 64, 64, 1]⟩
abbrev S8192x2048 : Shape := ⟨2, ![8192, 2048]⟩

abbrev nBuf : Space → Nat
  | .hbm => 175
  | .vmem => 0
  | .smem => 0
  | _ => 0

abbrev hbmTy0_0 (i : Nat) : BufTy := match i % 128 with
  | 0 => ⟨S8192x24576, .bf16⟩
  | 1 => ⟨S512x8192, .bf16⟩
  | 2 => ⟨S16x15x31, .f32⟩
  | 3 => ⟨S8192x24576, .f32⟩
  | 4 => ⟨S2x4096x24576, .f32⟩
  | 5 => ⟨S512x8192, .f32⟩
  | 6 => ⟨S2x256x8192, .f32⟩
  | 7 => ⟨S2x4096x2048, .f32⟩
  | 8 => ⟨S2x4096x2048, .f32⟩
  | 9 => ⟨S2x4096x2048, .f32⟩
  | 10 => ⟨S2x256x2048, .f32⟩
  | 11 => ⟨S2x256x2048, .f32⟩
  | 12 => ⟨S2x256x16x128, .f32⟩
  | 13 => ⟨S2x16x256x128, .f32⟩
  | 14 => ⟨S2x256x16x128, .f32⟩
  | 15 => ⟨S2x16x256x128, .f32⟩
  | 16 => ⟨S2x4096x16x128, .f32⟩
  | 17 => ⟨S2x16x4096x128, .f32⟩
  | 18 => ⟨S2x4096x16x128, .f32⟩
  | 19 => ⟨S2x16x4096x128, .f32⟩
  | 20 => ⟨S2x4096x16x128, .f32⟩
  | 21 => ⟨S2x16x4096x128, .f32⟩
  | 22 => ⟨S2x16x64x64x128, .f32⟩
  | 23 => ⟨S2x16x64x64x128, .f32⟩
  | 24 => ⟨S2x16x64x64x128, .f32⟩
  | 25 => ⟨S64, .i32⟩
  | 26 => ⟨S_, .i32⟩
  | 27 => ⟨S64, .i32⟩
  | 28 => ⟨S64, .i32⟩
  | 29 => ⟨S_, .i32⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i32⟩
  | 37 => ⟨S64x1, .i32⟩
  | 38 => ⟨S8, .i32⟩
  | 39 => ⟨S1x8, .i32⟩
  | 40 => ⟨S64x8, .i32⟩
  | 41 => ⟨S64x8, .i32⟩
  | 42 => ⟨S64x8, .i32⟩
  | 43 => ⟨S_, .i32⟩
  | 44 => ⟨S64x8, .i32⟩
  | 45 => ⟨S64x8, .i1⟩
  | 46 => ⟨S_, .i32⟩
  | 47 => ⟨S64x8, .i32⟩
  | 48 => ⟨S64x8, .i32⟩
  | 49 => ⟨S64x8, .i32⟩
  | 50 => ⟨S64x8x1, .i32⟩
  | 51 => ⟨S2x16x64x8x64x128, .f32⟩
  | 52 => ⟨S_, .i32⟩
  | 53 => ⟨S64x8, .i32⟩
  | 54 => ⟨S64x8, .i1⟩
  | 55 => ⟨S_, .i32⟩
  | 56 => ⟨S64x8, .i32⟩
  | 57 => ⟨S64x8, .i32⟩
  | 58 => ⟨S64x8, .i32⟩
  | 59 => ⟨S64x8x1, .i32⟩
  | 60 => ⟨S2x16x64x8x64x128, .f32⟩
  | 61 => ⟨S64, .i32⟩
  | 62 => ⟨S_, .i32⟩
  | 63 => ⟨S64, .i32⟩
  | 64 => ⟨S64, .i32⟩
  | 65 => ⟨S_, .i32⟩
  | 66 => ⟨S_, .i32⟩
  | 67 => ⟨S_, .i32⟩
  | 68 => ⟨S64, .i32⟩
  | 69 => ⟨S64, .i32⟩
  | 70 => ⟨S_, .i32⟩
  | 71 => ⟨S64, .i32⟩
  | 72 => ⟨S64, .i32⟩
  | 73 => ⟨S1x64, .i32⟩
  | 74 => ⟨S64x1, .i32⟩
  | 75 => ⟨S64x64, .i32⟩
  | 76 => ⟨S64x64, .i32⟩
  | 77 => ⟨S64x64, .i1⟩
  | 78 => ⟨S1x64, .i32⟩
  | 79 => ⟨S64x1, .i32⟩
  | 80 => ⟨S_, .i32⟩
  | 81 => ⟨S64x1, .i32⟩
  | 82 => ⟨S64x1, .i32⟩
  | 83 => ⟨S64x64, .i32⟩
  | 84 => ⟨S64x64, .i32⟩
  | 85 => ⟨S64x64, .i1⟩
  | 86 => ⟨S64x64, .i1⟩
  | 87 => ⟨S64x1, .i32⟩
  | 88 => ⟨S64x8, .i32⟩
  | 89 => ⟨S64x8, .i32⟩
  | 90 => ⟨S_, .i32⟩
  | 91 => ⟨S64x8, .i32⟩
  | 92 => ⟨S64x8, .i32⟩
  | 93 => ⟨S1x64, .i32⟩
  | 94 => ⟨S64x1, .i32⟩
  | 95 => ⟨S64x64, .i32⟩
  | 96 => ⟨S64x64, .i32⟩
  | 97 => ⟨S64x64, .i32⟩
  | 98 => ⟨S_, .i32⟩
  | 99 => ⟨S_, .i32⟩
  | 100 => ⟨S_, .i32⟩
  | 101 => ⟨S64x64, .i32⟩
  | 102 => ⟨S64x64, .i32⟩
  | 103 => ⟨S_, .i32⟩
  | 104 => ⟨S64x64, .i32⟩
  | 105 => ⟨S64x64, .i32⟩
  | 106 => ⟨S_, .i32⟩
  | 107 => ⟨S64x64, .i32⟩
  | 108 => ⟨S64x64, .i32⟩
  | 109 => ⟨S64x1x8x1, .i32⟩
  | 110 => ⟨S1x64x1x64, .i32⟩
  | 111 => ⟨S_, .i32⟩
  | 112 => ⟨S64x1x8x1, .i32⟩
  | 113 => ⟨S64x1x8x1, .i1⟩
  | 114 => ⟨S_, .i32⟩
  | 115 => ⟨S64x1x8x1, .i32⟩
  | 116 => ⟨S64x1x8x1, .i32⟩
  | 117 => ⟨S64x1x8x1, .i32⟩
  | 118 => ⟨S_, .i32⟩
  | 119 => ⟨S1x64x1x64, .i32⟩
  | 120 => ⟨S1x64x1x64, .i1⟩
  | 121 => ⟨S_, .i32⟩
  | 122 => ⟨S1x64x1x64, .i32⟩
  | 123 => ⟨S1x64x1x64, .i32⟩
  | 124 => ⟨S1x64x1x64, .i32⟩
  | 125 => ⟨S64x64x8x64, .i32⟩
  | 126 => ⟨S64x64x8x64, .i32⟩
  | 127 => ⟨S64x64x8x64x1, .i32⟩
  | _ => ⟨S8192x24576, .bf16⟩

abbrev hbmTy0_1 (i : Nat) : BufTy := match i % 128 with
  | 0 => ⟨S64x64x8x64x1, .i32⟩
  | 1 => ⟨S64x64x8x64x2, .i32⟩
  | 2 => ⟨S16x64x64x8x64, .f32⟩
  | 3 => ⟨S2x16x64x64x8x64, .f32⟩
  | 4 => ⟨S_, .f32⟩
  | 5 => ⟨S2x16x64x64x8x64, .f32⟩
  | 6 => ⟨S2x16x64x64x8x64, .f32⟩
  | 7 => ⟨S1x16x64x64x8x64, .f32⟩
  | 8 => ⟨S2x16x64x64x8x64, .f32⟩
  | 9 => ⟨S2x16x64x64x8x64, .f32⟩
  | 10 => ⟨S64x1x64, .i1⟩
  | 11 => ⟨S_, .f32⟩
  | 12 => ⟨S_, .f32⟩
  | 13 => ⟨S2x16x64x64x8x64, .i1⟩
  | 14 => ⟨S2x16x64x64x8x64, .f32⟩
  | 15 => ⟨S2x16x64x64x8x64, .f32⟩
  | 16 => ⟨S2x16x64x64x512, .f32⟩
  | 17 => ⟨S2x16x64x64x256, .f32⟩
  | 18 => ⟨S_, .f32⟩
  | 19 => ⟨S2x16x64x64x256, .f32⟩
  | 20 => ⟨S2x16x64x64x256, .f32⟩
  | 21 => ⟨S2x16x64x64x768, .f32⟩
  | 22 => ⟨S_, .f32⟩
  | 23 => ⟨S2x16x64x64, .f32⟩
  | 24 => ⟨S_, .f32⟩
  | 25 => ⟨S2x16x64x64, .f32⟩
  | 26 => ⟨S2x16x64x64, .f32⟩
  | 27 => ⟨S2x16x64x64x1, .f32⟩
  | 28 => ⟨S2x16x64x64x768, .f32⟩
  | 29 => ⟨S2x16x64x64x768, .f32⟩
  | 30 => ⟨S2x16x64x64x768, .f32⟩
  | 31 => ⟨S_, .f32⟩
  | 32 => ⟨S2x16x64x64, .f32⟩
  | 33 => ⟨S2x16x64x64x1, .f32⟩
  | 34 => ⟨S2x16x64x64x768, .f32⟩
  | 35 => ⟨S2x16x64x64x768, .f32⟩
  | 36 => ⟨S2x16x64x64x512, .f32⟩
  | 37 => ⟨S2x16x64x64x8x64, .f32⟩
  | 38 => ⟨S2x16x64x64x256, .f32⟩
  | 39 => ⟨S2x16x64x64x128, .f32⟩
  | 40 => ⟨S2x16x64x64x128, .f32⟩
  | 41 => ⟨S2x16x64x64x128, .f32⟩
  | 42 => ⟨S2x16x4096x128, .f32⟩
  | 43 => ⟨S2x4096x16x128, .f32⟩
  | 44 => ⟨S2x4096x2048, .f32⟩
  | 45 => ⟨S8192x2048, .f32⟩
  | 46 => ⟨S8192x2048, .bf16⟩
  | _ => ⟨S8192x24576, .bf16⟩

abbrev hbmTy (i : Nat) : BufTy := match i / 128 with
  | 0 => hbmTy0_0 i
  | 1 => hbmTy0_1 i
  | _ => ⟨S8192x24576, .bf16⟩

abbrev bufTy : (tb : Table) → Fin (tcTables nBuf tb) → BufTy
  | .hbm, ⟨i, _⟩ => hbmTy i
  | _, _ => ⟨S8192x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_c_8 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_11 : Ref sig .tc := ⟨.hbm, 98, rfl⟩
abbrev main_c_12 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_c_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_v83 : Ref sig .tc := ⟨.hbm, 119, rfl⟩
abbrev main_v84 : Ref sig .tc := ⟨.hbm, 120, rfl⟩
abbrev main_c_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_18 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_19 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_20 : Ref sig .tc := ⟨.hbm, 150, rfl⟩
abbrev main_v107 : Ref sig .tc := ⟨.hbm, 151, rfl⟩
abbrev main_cst_21 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_22 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩

abbrev nD : Nat := 1
abbrev τ : Topo := Topo.v7x

variable {F : FTy → Type} [FloatOps F]
-- ==== InProj.lean ====
abbrev S8192x4096 : Shape := ⟨2, ![8192, 4096]⟩
abbrev S4096x24576 : Shape := ⟨2, ![4096, 24576]⟩
abbrev S8192x24576 : Shape := ⟨2, ![8192, 24576]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x24576, .f32⟩
  | .hbm, ⟨2, _⟩ => ⟨S8192x24576, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S4096x24576 : Shape := ⟨2, ![4096, 24576]⟩
abbrev S8192x24576 : Shape := ⟨2, ![8192, 24576]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x24576, .f32⟩
  | .hbm, ⟨2, _⟩ => ⟨S8192x4096, .f32⟩
  | .hbm, ⟨3, _⟩ => ⟨S8192x24576, .f32⟩
  | .hbm, ⟨4, _⟩ => ⟨S8192x24576, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8192x2048 : Shape := ⟨2, ![8192, 2048]⟩
abbrev S2048x4096 : Shape := ⟨2, ![2048, 4096]⟩
abbrev S8192x24576 : Shape := ⟨2, ![8192, 24576]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .f32⟩
  | .hbm, ⟨3, _⟩ => ⟨S2048x4096, .f32⟩
  | .hbm, ⟨4, _⟩ => ⟨S8192x24576, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S2048x4096 : Shape := ⟨2, ![2048, 4096]⟩
abbrev S8192x24576 : Shape := ⟨2, ![8192, 24576]⟩
abbrev S8192x4096 : Shape := ⟨2, ![8192, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .f32⟩
  | .hbm, ⟨3, _⟩ => ⟨S2048x4096, .f32⟩
  | .hbm, ⟨4, _⟩ => ⟨S8192x24576, .bf16⟩
  | .hbm, ⟨5, _⟩ => ⟨S8192x2048, .f32⟩
  | .hbm, ⟨6, _⟩ => ⟨S8192x2048, .f32⟩
  | .hbm, ⟨7, _⟩ => ⟨S8192x24576, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S3x6x1x4096 : Shape := ⟨4, ![3, 6, 1, 4096]⟩
abbrev S1024x4096 : Shape := ⟨2, ![1024, 4096]⟩
abbrev S4096x512 : Shape := ⟨2, ![4096, 512]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S3x6x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  ![v16.toNat, c2_i32.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x4096 : Shape := ⟨2, ![8192, 4096]⟩
abbrev S4096x4096 : Shape := ⟨2, ![4096, 4096]⟩
abbrev S3x6x1x4096 : Shape := ⟨4, ![3, 6, 1, 4096]⟩
abbrev S2x4096x4096 : Shape := ⟨3, ![2, 4096, 4096]⟩
abbrev S2x1x1x4096 : Shape := ⟨4, ![2, 1, 1, 4096]⟩
abbrev S2x1x4096 : Shape := ⟨3, ![2, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S3x6x1x4096, .f32⟩
  | .hbm, ⟨4, _⟩ => ⟨S2x4096x4096, .f32⟩
  | .hbm, ⟨5, _⟩ => ⟨S2x1x1x4096, .f32⟩
  | .hbm, ⟨6, _⟩ => ⟨S2x1x4096, .f32⟩
  | .hbm, ⟨7, _⟩ => ⟨S8192x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S2x4096x4096, .f32⟩
  | .hbm, ⟨13, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ExpertUp.lean ====
abbrev S16x1024x4096 : Shape := ⟨3, ![16, 1024, 4096]⟩
abbrev S16x4096x2048 : Shape := ⟨3, ![16, 4096, 2048]⟩
abbrev S16x1024x2048 : Shape := ⟨3, ![16, 1024, 2048]⟩
abbrev S1x1024x4096 : Shape := ⟨3, ![1, 1024, 4096]⟩
abbrev S1x4096x256 : Shape := ⟨3, ![1, 4096, 256]⟩
abbrev S1x1024x256 : Shape := ⟨3, ![1, 1024, 256]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x4096, .bf16⟩
  | .hbm, ⟨1, _⟩ => ⟨S16x4096x2048, .f32⟩
  | .hbm, ⟨2, _⟩ => ⟨S16x4096x2048, .f32⟩
  | .hbm, ⟨3, _⟩ => ⟨S16x1024x2048, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x1024x256, .bf16⟩
  | .local _ .vmem, ⟨7, _⟩ => ⟨S1x1024x256, .bf16⟩
  | _, _ => ⟨S16x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertUpRefIdeal.lean ====
abbrev S16x1024x4096 : Shape := ⟨3, ![16, 1024, 4096]⟩
abbrev S16x4096x2048 : Shape := ⟨3, ![16, 4096, 2048]⟩
abbrev S16x1024x2048 : Shape := ⟨3, ![16, 1024, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16x1024x4096, .bf16⟩
  | .hbm, ⟨1, _⟩ => ⟨S16x4096x2048, .f32⟩
  | .hbm, ⟨2, _⟩ => ⟨S16x4096x2048, .f32⟩
  | .hbm, ⟨3, _⟩ => ⟨S16x1024x4096, .f32⟩
  | .hbm, ⟨4, _⟩ => ⟨S16x1024x2048, .f32⟩
  | .hbm, ⟨5, _⟩ => ⟨S16x1024x2048, .f32⟩
  | .hbm, ⟨6, _⟩ => ⟨S16x1024x2048, .f32⟩
  | .hbm, ⟨7, _⟩ => ⟨S16x1024x2048, .f32⟩
  | .hbm, ⟨8, _⟩ => ⟨S_, .f32⟩
  | .hbm, ⟨9, _⟩ => ⟨S16x1024x2048, .f32⟩
  | .hbm, ⟨10, _⟩ => ⟨S16x1024x2048, .f32⟩
  | .hbm, ⟨11, _⟩ => ⟨S_, .f32⟩
  | .hbm, ⟨12, _⟩ => ⟨S16x1024x2048, .f32⟩
  | .hbm, ⟨13, _⟩ => ⟨S16x1024x2048, .f32⟩
  | .hbm, ⟨14, _⟩ => ⟨S16x1024x2048, .f32⟩
  | .hbm, ⟨15, _⟩ => ⟨S16x1024x2048, .f32⟩
  | .hbm, ⟨16, _⟩ => ⟨S16x1024x2048, .bf16⟩
  | _, _ => ⟨S16x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== ExpertDown.lean ====
abbrev S16x1024x2048 : Shape := ⟨3, ![16, 1024, 2048]⟩
abbrev S16x2048x4096 : Shape := ⟨3, ![16, 2048, 4096]⟩
abbrev S16x1024x128 : Shape := ⟨3, ![16, 1024, 128]⟩
abbrev S16x1024x4096 : Shape := ⟨3, ![16, 1024, 4096]⟩
abbrev S1x1024x2048 : Shape := ⟨3, ![1, 1024, 2048]⟩
abbrev S1x2048x1024 : Shape := ⟨3, ![1, 2048, 1024]⟩
abbrev S1x1024x128 : Shape := ⟨3, ![1, 1024, 128]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩
abbrev S1x1024x1 : Shape := ⟨3, ![1, 1024, 1]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x4096, .f32⟩
  | .hbm, ⟨2, _⟩ => ⟨S16x1024x128, .f32⟩
  | .hbm, ⟨3, _⟩ => ⟨S16x1024x4096, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x1024, .bf16⟩
  | .local _ .vmem, ⟨7, _⟩ => ⟨S1x1024x1024, .bf16⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertDownRefIdeal.lean ====
abbrev S16x1024x2048 : Shape := ⟨3, ![16, 1024, 2048]⟩
abbrev S16x2048x4096 : Shape := ⟨3, ![16, 2048, 4096]⟩
abbrev S16x1024x128 : Shape := ⟨3, ![16, 1024, 128]⟩
abbrev S16x1024x4096 : Shape := ⟨3, ![16, 1024, 4096]⟩
abbrev S16x1024x1 : Shape := ⟨3, ![16, 1024, 1]⟩

abbrev nBuf : Space → Nat
  | .hbm => 9
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x4096, .f32⟩
  | .hbm, ⟨2, _⟩ => ⟨S16x1024x128, .f32⟩
  | .hbm, ⟨3, _⟩ => ⟨S16x1024x2048, .f32⟩
  | .hbm, ⟨4, _⟩ => ⟨S16x1024x4096, .f32⟩
  | .hbm, ⟨5, _⟩ => ⟨S16x1024x1, .f32⟩
  | .hbm, ⟨6, _⟩ => ⟨S16x1024x4096, .f32⟩
  | .hbm, ⟨7, _⟩ => ⟨S16x1024x4096, .f32⟩
  | .hbm, ⟨8, _⟩ => ⟨S16x1024x4096, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Modulation.lean ====
abbrev S2x4096 : Shape := ⟨2, ![2, 4096]⟩
abbrev S4096 : Shape := ⟨1, ![4096]⟩
abbrev S4096x24576 : Shape := ⟨2, ![4096, 24576]⟩
abbrev S24576 : Shape := ⟨1, ![24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S1x24576 : Shape := ⟨2, ![1, 24576]⟩
abbrev S8x24576 : Shape := ⟨2, ![8, 24576]⟩
abbrev S4096x1024 : Shape := ⟨2, ![4096, 1024]⟩
abbrev S1x1024 : Shape := ⟨2, ![1, 1024]⟩
abbrev S8x1024 : Shape := ⟨2, ![8, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S1x24576, .f32⟩
  | .hbm, ⟨9, _⟩ => ⟨S8x24576, .f32⟩
  | .local _ .vmem, ⟨0, _⟩ => ⟨S8x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S2x4096 : Shape := ⟨2, ![2, 4096]⟩
abbrev S4096 : Shape := ⟨1, ![4096]⟩
abbrev S4096x24576 : Shape := ⟨2, ![4096, 24576]⟩
abbrev S24576 : Shape := ⟨1, ![24576]⟩
abbrev S_ : Shape := ⟨0, ![]⟩
abbrev S2x24576 : Shape := ⟨2, ![2, 24576]⟩
abbrev S1x24576 : Shape := ⟨2, ![1, 24576]⟩
abbrev S1x4096 : Shape := ⟨2, ![1, 4096]⟩
abbrev S5x24576 : Shape := ⟨2, ![5, 24576]⟩
abbrev S8x24576 : Shape := ⟨2, ![8, 24576]⟩

abbrev nBuf : Space → Nat
  | .hbm => 32
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S2x4096, .f32⟩
  | .hbm, ⟨5, _⟩ => ⟨S2x4096, .f32⟩
  | .hbm, ⟨6, _⟩ => ⟨S_, .f32⟩
  | .hbm, ⟨7, _⟩ => ⟨S2x4096, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S2x4096, .f32⟩
  | .hbm, ⟨13, _⟩ => ⟨S2x24576, .f32⟩
  | .hbm, ⟨14, _⟩ => ⟨S1x24576, .f32⟩
  | .hbm, ⟨15, _⟩ => ⟨S2x24576, .f32⟩
  | .hbm, ⟨16, _⟩ => ⟨S2x24576, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x24576, .f32⟩
  | .hbm, ⟨28, _⟩ => ⟨S1x24576, .f32⟩
  | .hbm, ⟨29, _⟩ => ⟨S1x24576, .f32⟩
  | .hbm, ⟨30, _⟩ => ⟨S5x24576, .f32⟩
  | .hbm, ⟨31, _⟩ => ⟨S8x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== PreNorm.lean ====
abbrev S8192x4096 : Shape := ⟨2, ![8192, 4096]⟩
abbrev S4096 : Shape := ⟨1, ![4096]⟩
abbrev S3x6x1x4096 : Shape := ⟨4, ![3, 6, 1, 4096]⟩
abbrev S1x4096 : Shape := ⟨2, ![1, 4096]⟩
abbrev S512x4096 : Shape := ⟨2, ![512, 4096]⟩
abbrev S1x1x1x4096 : Shape := ⟨4, ![1, 1, 1, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S3x6x1x4096, .f32⟩
  | .hbm, ⟨3, _⟩ => ⟨S1x4096, .f32⟩
  | .hbm, ⟨4, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S512x4096, .bf16⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  let c0_i32_8 : BitVec 32 := 0#32
  ![v17.toNat, c0_i32_5.toNat, c0_i32_6.toNat, c0_i32_7.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let c0_i32_6 : BitVec 32 := 0#32
  let c0_i32_7 : BitVec 32 := 0#32
  let c0_i32_8 : BitVec 32 := 0#32
  ![v17.toNat, c1_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreNormRefIdeal.lean ====
abbrev S8192x4096 : Shape := ⟨2, ![8192, 4096]⟩
abbrev S4096 : Shape := ⟨1, ![4096]⟩
abbrev S3x6x1x4096 : Shape := ⟨4, ![3, 6, 1, 4096]⟩
abbrev S2x1x1x4096 : Shape := ⟨4, ![2, 1, 1, 4096]⟩
abbrev S2x1x4096 : Shape := ⟨3, ![2, 1, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S3x6x1x4096, .f32⟩
  | .hbm, ⟨3, _⟩ => ⟨S2x1x1x4096, .f32⟩
  | .hbm, ⟨4, _⟩ => ⟨S2x1x4096, .f32⟩
  | .hbm, ⟨5, _⟩ => ⟨S2x1x1x4096, .f32⟩
  | .hbm, ⟨6, _⟩ => ⟨S2x1x4096, .f32⟩
  | .hbm, ⟨7, _⟩ => ⟨S2x4096x4096, .f32⟩
  | .hbm, ⟨8, _⟩ => ⟨S2x4096x4096, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x4096, .f32⟩
  | .hbm, ⟨20, _⟩ => ⟨S2x4096x4096, .f32⟩
  | .hbm, ⟨21, _⟩ => ⟨S1x1x4096, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x1x4096, .f32⟩
  | .hbm, ⟨26, _⟩ => ⟨S2x1x4096, .f32⟩
  | .hbm, ⟨27, _⟩ => ⟨S2x4096x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S8192x4096, .f32⟩
  | .hbm, ⟨32, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== CtxNorm.lean ====
abbrev S512x4096 : Shape := ⟨2, ![512, 4096]⟩
abbrev S4096 : Shape := ⟨1, ![4096]⟩
abbrev S3x6x1x4096 : Shape := ⟨4, ![3, 6, 1, 4096]⟩
abbrev S1x4096 : Shape := ⟨2, ![1, 4096]⟩
abbrev S1x1x1x4096 : Shape := ⟨4, ![1, 1, 1, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S3x6x1x4096, .f32⟩
  | .hbm, ⟨3, _⟩ => ⟨S1x4096, .f32⟩
  | .hbm, ⟨4, _⟩ => ⟨S512x4096, .bf16⟩
  | .local _ .vmem, ⟨0, _⟩ => ⟨S512x4096, .f32⟩
  | .local _ .vmem, ⟨1, _⟩ => ⟨S1x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S512x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c0_i32_5 : BitVec 32 := 0#32
  let c0_i32_6 : BitVec 32 := 0#32
  let c0_i32_7 : BitVec 32 := 0#32
  let c0_i32_8 : BitVec 32 := 0#32
  ![v17.toNat, c0_i32_5.toNat, c0_i32_6.toNat, c0_i32_7.toNat]

def cc0_transform_3 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let c0_i32_7 : BitVec 32 := 0#32
  let c0_i32_8 : BitVec 32 := 0#32
  ![v17.toNat, c1_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== CtxNormRefIdeal.lean ====
abbrev S512x4096 : Shape := ⟨2, ![512, 4096]⟩
abbrev S4096 : Shape := ⟨1, ![4096]⟩
abbrev S3x6x1x4096 : Shape := ⟨4, ![3, 6, 1, 4096]⟩
abbrev S1x1x1x4096 : Shape := ⟨4, ![1, 1, 1, 4096]⟩
abbrev S1x4096 : Shape := ⟨2, ![1, 4096]⟩
abbrev S_ : Shape := ⟨0, ![]⟩
abbrev S512 : Shape := ⟨1, ![512]⟩
abbrev S512x1 : Shape := ⟨2, ![512, 1]⟩

abbrev nBuf : Space → Nat
  | .hbm => 31
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S3x6x1x4096, .f32⟩
  | .hbm, ⟨3, _⟩ => ⟨S1x1x1x4096, .f32⟩
  | .hbm, ⟨4, _⟩ => ⟨S1x4096, .f32⟩
  | .hbm, ⟨5, _⟩ => ⟨S1x1x1x4096, .f32⟩
  | .hbm, ⟨6, _⟩ => ⟨S1x4096, .f32⟩
  | .hbm, ⟨7, _⟩ => ⟨S512x4096, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x4096, .f32⟩
  | .hbm, ⟨19, _⟩ => ⟨S512x4096, .f32⟩
  | .hbm, ⟨20, _⟩ => ⟨S1x4096, .f32⟩
  | .hbm, ⟨21, _⟩ => ⟨S512x4096, .f32⟩
  | .hbm, ⟨22, _⟩ => ⟨S512x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== CtxProj.lean ====
abbrev S512x4096 : Shape := ⟨2, ![512, 4096]⟩
abbrev S4096x24576 : Shape := ⟨2, ![4096, 24576]⟩
abbrev S512x8192 : Shape := ⟨2, ![512, 8192]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S4096x24576, .f32⟩
  | .hbm, ⟨2, _⟩ => ⟨S512x8192, .bf16⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .bf16⟩
  | .local _ .vmem, ⟨4, _⟩ => ⟨S512x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c4_i32 : BitVec 32 := 4#32
  let v1 : BitVec 32 := Scalar.addi c4_i32 arg1
  let c16_i32 : BitVec 32 := 16#32
  let v2 : BitVec 32 := Scalar.addi c16_i32 arg1
  let c8_i32_0 : BitVec 32 := 8#32
  let v3 : BitVec 32 := Scalar.subi v2 c8_i32_0
  let v4 : BitVec 32 := Scalar.select v0 v1 v3
  let c0_i32 : BitVec 32 := 0#32
  let c0_i32_1 : BitVec 32 := 0#32
  ![c0_i32.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxProjRefIdeal.lean ====
abbrev S512x4096 : Shape := ⟨2, ![512, 4096]⟩
abbrev S4096x24576 : Shape := ⟨2, ![4096, 24576]⟩
abbrev S4096x4096 : Shape := ⟨2, ![4096, 4096]⟩
abbrev S512x8192 : Shape := ⟨2, ![512, 8192]⟩

abbrev nBuf : Space → Nat
  | .hbm => 9
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x24576, .f32⟩
  | .hbm, ⟨2, _⟩ => ⟨S512x4096, .f32⟩
  | .hbm, ⟨3, _⟩ => ⟨S4096x4096, .f32⟩
  | .hbm, ⟨4, _⟩ => ⟨S512x4096, .f32⟩
  | .hbm, ⟨5, _⟩ => ⟨S4096x4096, .f32⟩
  | .hbm, ⟨6, _⟩ => ⟨S512x4096, .f32⟩
  | .hbm, ⟨7, _⟩ => ⟨S512x8192, .f32⟩
  | .hbm, ⟨8, _⟩ => ⟨S512x8192, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Router.lean ====
abbrev S8192x4096 : Shape := ⟨2, ![8192, 4096]⟩
abbrev S4096 : Shape := ⟨1, ![4096]⟩
abbrev S3x6x1x4096 : Shape := ⟨4, ![3, 6, 1, 4096]⟩
abbrev S4096x16 : Shape := ⟨2, ![4096, 16]⟩
abbrev S_ : Shape := ⟨0, ![]⟩
abbrev S4096x128 : Shape := ⟨2, ![4096, 128]⟩
abbrev S1x4096 : Shape := ⟨2, ![1, 4096]⟩
abbrev S8192x4224 : Shape := ⟨2, ![8192, 4224]⟩
abbrev S8192x16 : Shape := ⟨2, ![8192, 16]⟩
abbrev S512x4096 : Shape := ⟨2, ![512, 4096]⟩
abbrev S1x1x1x4096 : Shape := ⟨4, ![1, 1, 1, 4096]⟩
abbrev S512x4224 : Shape := ⟨2, ![512, 4224]⟩
abbrev S512x16 : Shape := ⟨2, ![512, 16]⟩
abbrev S512 : Shape := ⟨1, ![512]⟩
abbrev S512x1 : Shape := ⟨2, ![512, 1]⟩
abbrev S512x128 : Shape := ⟨2, ![512, 128]⟩

abbrev nBuf : Space → Nat
  | .hbm => 11
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S3x6x1x4096, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S4096x128, .bf16⟩
  | .hbm, ⟨8, _⟩ => ⟨S1x4096, .f32⟩
  | .hbm, ⟨9, _⟩ => ⟨S8192x4224, .f32⟩
  | .hbm, ⟨10, _⟩ => ⟨S8192x16, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S4096x128, .bf16⟩
  | .local _ .vmem, ⟨8, _⟩ => ⟨S512x4224, .f32⟩
  | .local _ .vmem, ⟨9, _⟩ => ⟨S512x4224, .f32⟩
  | .local _ .vmem, ⟨10, _⟩ => ⟨S512x16, .f32⟩
  | .local _ .vmem, ⟨11, _⟩ => ⟨S512x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouterIdeal.lean ====
variable {F : FTy → Type} [FloatOps F] [Named F]
def κ : String → Option EReal := fun
  | "mask" => some ⊥
  | _ => none
-- ==== RouterRefIdeal.lean ====
abbrev S8192x4096 : Shape := ⟨2, ![8192, 4096]⟩
abbrev S4096 : Shape := ⟨1, ![4096]⟩
abbrev S3x6x1x4096 : Shape := ⟨4, ![3, 6, 1, 4096]⟩
abbrev S4096x16 : Shape := ⟨2, ![4096, 16]⟩
abbrev S2x1x1x4096 : Shape := ⟨4, ![2, 1, 1, 4096]⟩
abbrev S2x1x4096 : Shape := ⟨3, ![2, 1, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x16 : Shape := ⟨2, ![8192, 16]⟩
abbrev S8192x112 : Shape := ⟨2, ![8192, 112]⟩
abbrev S8192x128 : Shape := ⟨2, ![8192, 128]⟩
abbrev S8192 : Shape := ⟨1, ![8192]⟩
abbrev S8192x1 : Shape := ⟨2, ![8192, 1]⟩
abbrev S8192x4224 : Shape := ⟨2, ![8192, 4224]⟩

abbrev nBuf : Space → Nat
  | .hbm => 66
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S3x6x1x4096, .f32⟩
  | .hbm, ⟨3, _⟩ => ⟨S4096x16, .f32⟩
  | .hbm, ⟨4, _⟩ => ⟨S2x1x1x4096, .f32⟩
  | .hbm, ⟨5, _⟩ => ⟨S2x1x4096, .f32⟩
  | .hbm, ⟨6, _⟩ => ⟨S2x1x1x4096, .f32⟩
  | .hbm, ⟨7, _⟩ => ⟨S2x1x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x4096, .f32⟩
  | .hbm, ⟨21, _⟩ => ⟨S2x4096x4096, .f32⟩
  | .hbm, ⟨22, _⟩ => ⟨S1x1x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S8192x4096, .f32⟩
  | .hbm, ⟨33, _⟩ => ⟨S8192x16, .f32⟩
  | .hbm, ⟨34, _⟩ => ⟨S_, .f32⟩
  | .hbm, ⟨35, _⟩ => ⟨S8192x112, .f32⟩
  | .hbm, ⟨36, _⟩ => ⟨S8192x128, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x128, .f32⟩
  | .hbm, ⟨50, _⟩ => ⟨S8192x128, .f32⟩
  | .hbm, ⟨51, _⟩ => ⟨S8192x4224, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x16, .f32⟩
  | .hbm, ⟨65, _⟩ => ⟨S8192x16, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Proof.Rows.lean ====
/- The bias of one row of keys against one row of queries, as the kernel builds it from the bias table's diagonals, read at
   an index. -/
module

public import proofs.«01_k».proof.Proof.Gen.KernelIdeal.Skeleton
public import Idealize.ShloMosaic.Lib.Pointwise

@[expose] public section

set_option maxRecDepth 16384

noncomputable section

namespace Cert.Proof

open Cert.KernelIdeal Cert.KernelIdeal.Gen Idealize.ShloMosaic Idealize.ShloMosaic.TcCoe Idealize.SL.Sem

/-- The key column `k` lies in the window of the query column `q`. -/
def colOk (q k : ℕ) : Prop := min (max q 8 - 8) 48 ≤ k ∧ k < min (max q 8 - 8) 48 + 16

instance (q k : ℕ) : Decidable (colOk q k) := inferInstanceAs (Decidable (_ ∧ _))

theorem lane_col : ∀ l : Fin 128,
    Scalar.select
      (IntOp.andi
        (IntOp.xori
          (IntOp.cmpi CmpIPredicate.slt
            (IntOp.remsi ArithUnit.vector (BitVec.ofNat 32 l.val)
              (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 l.val)
            (Scalar.select (Scalar.cmpi CmpIPredicate.eq 64#32 0#32) 1#32 64#32)) 0#32))
      (IntOp.addi
        (IntOp.remsi ArithUnit.vector (BitVec.ofNat 32 l.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val)
        (Scalar.select (Scalar.cmpi CmpIPredicate.eq 64#32 0#32) 1#32 64#32))
      = BitVec.ofNat 32 (l.val % 64) := by
  decide +kernel

theorem win_start : ∀ q : Fin 64, IntOp.minsi (48#32) (IntOp.maxsi (0#32) (IntOp.subi (BitVec.ofNat 32 q.val) 8#32))
    = BitVec.ofNat 32 (min (max q.val 8 - 8) 48) := by
  decide +kernel

theorem in_window : ∀ m k : Fin 64, IntOp.andi (IntOp.cmpi CmpIPredicate.sge (BitVec.ofNat 32 k.val) (BitVec.ofNat 32 m.val))
      (IntOp.cmpi CmpIPredicate.slt (BitVec.ofNat 32 k.val) (IntOp.addi (BitVec.ofNat 32 m.val) 16#32))
    = if m.val ≤ k.val ∧ k.val < m.val + 16 then 1#1 else 0#1 := by
  decide +kernel

theorem pay1_apply (q : Fin 64) (l : Fin 128) : k0_pay1 (ix2 q l) = if colOk q.val (l.val % 64) then 1#1 else 0#1 := by
  pointwise [k0_pay1]
  rw [lane_col, win_start]
  exact in_window ⟨min (max q.val 8 - 8) 48, by omega⟩ ⟨l.val % 64, by omega⟩

theorem low_lane : ∀ l : Fin 128, IntOp.cmpi CmpIPredicate.slt (BitVec.ofNat 32 l.val) 64#32 = if l.val < 64 then 1#1 else 0#1 := by
  decide +kernel

theorem pay2_apply (q : Fin 64) (l : Fin 128) : k0_pay2 (ix2 q l) = if l.val < 64 then 1#1 else 0#1 := by
  pointwise [k0_pay2]
  exact low_lane l

/-- The diagonals of one row, laid out over query and key columns and masked. -/
def rowPay (v : Vec Ideal S1x1x128 .f32) : FVec Ideal S1x64x128 .f32 := k0_pay5 k0_pay1 k0_pay2 v

theorem diag_lt (q k : ℕ) (hq : q < 64) : k % 64 + 63 - q < 128 := by omega

theorem rowPay_apply (v : Vec Ideal S1x1x128 .f32) (q : Fin 64) (l : Fin 128) :
    rowPay v (ix3 0 q l) = if colOk q.val (l.val % 64) then v (ix3 0 0 ⟨l.val % 64 + 63 - q.val, diag_lt _ _ q.isLt⟩) else ⊥ := by
  pointwise [rowPay, k0_pay5]
  rw [pay1_apply, pay2_apply]

  have hq := q.isLt
  have hl := l.isLt
  by_cases hc : colOk q.val (l.val % 64)
  · rw [if_pos hc, if_pos hc]
    by_cases h : l.val < 64
    · rw [if_pos h]
      show v _ = v _
      congr 2
      apply Fin.ext
      show (l.val + 128 - (65 + q.val) % 128) % 128 = l.val % 64 + 63 - q.val
      omega
    · rw [if_neg h]
      show v _ = v _
      congr 2
      apply Fin.ext
      show (l.val + 128 - (1 + q.val) % 128) % 128 = l.val % 64 + 63 - q.val
      omega
  · rw [if_neg hc, if_neg hc]
    rfl

end Cert.Proof
-- ==== Proof.Tile.lean ====
/- One tile of the neighbourhood attention, 256 queries against 768 keys and 256 context keys, read at an index. -/
module

public import proofs.«01_k».proof.Proof.Gen.KernelIdeal.Skeleton
public import Idealize.ShloMosaic.Lib.Pointwise

@[expose] public section

noncomputable section

namespace Cert.Proof

open Cert.KernelIdeal Cert.KernelIdeal.Gen Idealize.ShloMosaic Idealize.ShloMosaic.TcCoe Idealize.SL.Sem
open scoped BigOperators

/-- The scale of the scores: the rounding of one over the square root of 128. -/
abbrev scale : EReal := Ideal.ofBits .f32 0x3DB504F3#32

/-- A query row's weighted sum of values over its tile's keys and the context's, divided by the sum of the weights. -/
def tileVal (s : Fin 768 → EReal) (c : Fin 256 → EReal) (v : Fin 768 → EReal) (u : Fin 256 → EReal)
    (o : Fin 768 → EReal) (o' : Fin 256 → EReal) : EReal :=
  Ideal.div
    (∑ j, Ideal.exp (s j - max (Finset.univ.fold max ⊥ s) (Finset.univ.fold max ⊥ c)) * v j
      + ∑ k, Ideal.exp (c k - max (Finset.univ.fold max ⊥ s) (Finset.univ.fold max ⊥ c)) * u k)
    (∑ j, Ideal.exp (s j - max (Finset.univ.fold max ⊥ s) (Finset.univ.fold max ⊥ c)) * o j
      + ∑ k, Ideal.exp (c k - max (Finset.univ.fold max ⊥ s) (Finset.univ.fold max ⊥ c)) * o' k)

theorem pay116_apply (q : Vec Ideal S256x128 .bf16) (k : Vec Ideal S768x128 .bf16) (b : Vec Ideal S1x256x768 .f32)
    (kc : Vec Ideal S256x128 .bf16) (ve : Vec Ideal S768x256 .bf16) (vce : Vec Ideal S256x256 .bf16) (r : Fin 256) (d : Fin 128) :
    k0_pay116 q k b kc ve vce (ix2 r d)
      = tileVal (fun j => (∑ x : Fin 128, q (ix2 r x) * k (ix2 j x)) * scale + b (ix3 0 r j))
          (fun j => (∑ x : Fin 128, q (ix2 r x) * kc (ix2 j x)) * scale)
          (fun j => ve (ix2 j (d.castLE (by decide)))) (fun j => vce (ix2 j (d.castLE (by decide))))
          (fun j => ve (ix2 j 128)) (fun j => vce (ix2 j 128)) := by
  pointwise [k0_pay116, tileVal]
  rfl

end Cert.Proof
-- ==== Proof.Blocks.lean ====
/- The block of the neighbourhood attention that one grid point writes, read at an index: sixteen tiles of 256 queries, each
   against the 768 keys of its rows' windows and the context. -/
module

public import proofs.«01_k».proof.Proof.Gen.KernelIdeal.Value
public import Idealize.ShloMosaic.Lib.Pipeline.ReadBack
public import Idealize.ShloMosaic.Lib.IdealHost
public import proofs.«01_k».proof.Proof.Tile

@[expose] public section

set_option maxRecDepth 16384

noncomputable section

namespace Cert.Proof

open Cert.KernelIdeal Cert.KernelIdeal.Gen Idealize.ShloMosaic Idealize.ShloMosaic.TcCoe Idealize.SL.Sem

/-- The first of the 768 keys of tile `T`. -/
def kbase (T : ℕ) : ℕ := min (max (4 * T) 4 - 4) 52 * 64

/-- Which of the three bias patterns tile `T` takes: the first tile's, an inner tile's, the last tile's. -/
def pat (T : ℕ) : Fin 3 := if T = 0 then 0 else if T = 15 then 2 else 1

theorem kbase_le (T : ℕ) (j : Fin 768) : kbase T + j.val < 4096 := by unfold kbase; omega

/-- The values with a column of ones beside them, as the scratch holds them. -/
def ext (X : Vec Ideal S4096x128 .bf16) : Vec Ideal S4096x256 .bf16 := fun j =>
  if h : (j 1).val < 128 then X (ix2 (j 0) ⟨(j 1).val, h⟩) else (1 : EReal)

/-- The context's values with a column of ones beside them. -/
def extc (X : Vec Ideal S256x128 .bf16) : Vec Ideal S256x256 .bf16 := fun j =>
  if h : (j 1).val < 128 then X (ix2 (j 0) ⟨(j 1).val, h⟩) else (1 : EReal)

/-- One head's attention for one batch, of its queries, keys, values, the context's keys and values and the bias table. -/
def attn (x0 x1 x2 : Vec Ideal S4096x128 .bf16) (x3 x4 : Vec Ideal S256x128 .bf16) (B : Vec Ideal S3x256x768 .f32) :
    Vec Ideal S4096x128 .bf16 := fun i =>
  tileVal
    (fun j => (∑ x : Fin 128, x0 (ix2 (i 0) x) * x1 (ix2 ⟨kbase ((i 0).val / 256) + j.val, kbase_le _ j⟩ x)) * scale
      + B (ix3 (pat ((i 0).val / 256)) ⟨(i 0).val % 256, Nat.mod_lt _ (by decide)⟩ j))
    (fun k => (∑ x : Fin 128, x0 (ix2 (i 0) x) * x3 (ix2 k x)) * scale)
    (fun j => x2 (ix2 ⟨kbase ((i 0).val / 256) + j.val, kbase_le _ j⟩ (i 1)))
    (fun k => x4 (ix2 k (i 1))) (fun _ => 1) (fun _ => 1)

theorem canon_ext (X : Vec Ideal S4096x128 .bf16) (h h') :
    View.canon (Val := Elt Ideal) [⟨Rect.unit (s := S4096x256) ![0, 128] ![4096, 128] h, k0_pay112 (F := Ideal)⟩,
      ⟨Rect.unit (s := S4096x256) ![0, 0] ![4096, 128] h', k0_pay111 (F := Ideal) X⟩] = ext X := by
  funext y
  refine View.canon_apply_of_pieces (ext X) _ ?_ y ?_
  · refine View.PiecesOf.mem ⟨fun x => ?_, fun x => ?_, trivial⟩
    · obtain ⟨a, b, rfl⟩ : ∃ a b, x = ix2 a b := ⟨_, _, eq_ix2 x⟩
      have h1 : ¬ (((Rect.unit (s := S4096x256) ![0, 128] ![4096, 128] h).emb (ix2 a b)) 1).val < 128 := by
        show ¬ 128 + 1 * b.val < 128; omega
      unfold ext; rw [dif_neg h1]
      show Ideal.ofBits .bf16 0x3F80#16 = 1
      exact Ideal.ofBits_one_bf16
    · obtain ⟨a, b, rfl⟩ : ∃ a b, x = ix2 a b := ⟨_, _, eq_ix2 x⟩
      have h1 : (((Rect.unit (s := S4096x256) ![0, 0] ![4096, 128] h').emb (ix2 a b)) 1).val < 128 := by
        show 0 + 1 * b.val < 128; have := b.isLt; omega
      unfold ext; rw [dif_pos h1]
      unfold k0_pay111
      dsimp only
      rw [shapeCast_self]
      refine congrArg X (funext fun c => ?_)
      apply Fin.ext
      match c with
      | ⟨0, _⟩ => show a.val = 0 + 1 * a.val; omega
      | ⟨1, _⟩ => show b.val = 0 + 1 * b.val; omega
  · by_cases hy : (y 1).val < 128
    · refine ⟨_, List.mem_cons_of_mem _ List.mem_cons_self, (Rect.mem_set_unit (inb := h')).2 fun c => ?_⟩
      match c with
      | ⟨0, _⟩ => exact ⟨Nat.zero_le _, by have := (y 0).isLt; exact this.trans_eq rfl⟩
      | ⟨1, _⟩ => exact ⟨Nat.zero_le _, hy⟩
    · refine ⟨_, List.mem_cons_self, (Rect.mem_set_unit (inb := h)).2 fun c => ?_⟩
      match c with
      | ⟨0, _⟩ => exact ⟨Nat.zero_le _, by have := (y 0).isLt; exact this.trans_eq rfl⟩
      | ⟨1, _⟩ => exact ⟨Nat.le_of_not_lt hy, by have := (y 1).isLt; exact this.trans_eq rfl⟩

theorem canon_extc (X : Vec Ideal S256x128 .bf16) (h h') :
    View.canon (Val := Elt Ideal) [⟨Rect.unit (s := S256x256) ![0, 128] ![256, 128] h, k0_pay114 (F := Ideal)⟩,
      ⟨Rect.unit (s := S256x256) ![0, 0] ![256, 128] h', k0_pay113 (F := Ideal) X⟩] = extc X := by
  funext y
  refine View.canon_apply_of_pieces (extc X) _ ?_ y ?_
  · refine View.PiecesOf.mem ⟨fun x => ?_, fun x => ?_, trivial⟩
    · obtain ⟨a, b, rfl⟩ : ∃ a b, x = ix2 a b := ⟨_, _, eq_ix2 x⟩
      have h1 : ¬ (((Rect.unit (s := S256x256) ![0, 128] ![256, 128] h).emb (ix2 a b)) 1).val < 128 := by
        show ¬ 128 + 1 * b.val < 128; omega
      unfold extc; rw [dif_neg h1]
      show Ideal.ofBits .bf16 0x3F80#16 = 1
      exact Ideal.ofBits_one_bf16
    · obtain ⟨a, b, rfl⟩ : ∃ a b, x = ix2 a b := ⟨_, _, eq_ix2 x⟩
      have h1 : (((Rect.unit (s := S256x256) ![0, 0] ![256, 128] h').emb (ix2 a b)) 1).val < 128 := by
        show 0 + 1 * b.val < 128; have := b.isLt; omega
      unfold extc; rw [dif_pos h1]
      unfold k0_pay113
      dsimp only
      rw [shapeCast_self]
      refine congrArg X (funext fun c => ?_)
      apply Fin.ext
      match c with
      | ⟨0, _⟩ => show a.val = 0 + 1 * a.val; omega
      | ⟨1, _⟩ => show b.val = 0 + 1 * b.val; omega
  · by_cases hy : (y 1).val < 128
    · refine ⟨_, List.mem_cons_of_mem _ List.mem_cons_self, (Rect.mem_set_unit (inb := h')).2 fun c => ?_⟩
      match c with
      | ⟨0, _⟩ => exact ⟨Nat.zero_le _, by have := (y 0).isLt; exact this.trans_eq rfl⟩
      | ⟨1, _⟩ => exact ⟨Nat.zero_le _, hy⟩
    · refine ⟨_, List.mem_cons_self, (Rect.mem_set_unit (inb := h)).2 fun c => ?_⟩
      match c with
      | ⟨0, _⟩ => exact ⟨Nat.zero_le _, by have := (y 0).isLt; exact this.trans_eq rfl⟩
      | ⟨1, _⟩ => exact ⟨Nat.le_of_not_lt hy, by have := (y 1).isLt; exact this.trans_eq rfl⟩

/-- Tile `T`, from the loads at its offsets, is the attention at its 256 rows. -/
theorem piece (T kb p : ℕ) (hT : T < 16) (hkb : kbase T = kb) (hp : (pat T).val = p)
    (hq : ∀ a, (![256 * T, 0] : Fin 2 → ℕ) a + (![256, 128] : Fin 2 → ℕ) a ≤ S4096x128.size a)
    (hk : ∀ a, (![kb, 0] : Fin 2 → ℕ) a + (![768, 128] : Fin 2 → ℕ) a ≤ S4096x128.size a)
    (hb : ∀ a, (![p, 0, 0] : Fin 3 → ℕ) a + (![1, 256, 768] : Fin 3 → ℕ) a ≤ S3x256x768.size a)
    (hv : ∀ a, (![kb, 0] : Fin 2 → ℕ) a + (![768, 256] : Fin 2 → ℕ) a ≤ S4096x256.size a)
    (x0 x1 x2 : Vec Ideal S4096x128 .bf16) (x3 x4 : Vec Ideal S256x128 .bf16) (B : Vec Ideal S3x256x768 .f32) (x : S256x128.Idx) :
    k0_pay116 (F := Ideal) (View.ld (Val := Elt Ideal) x0 (Rect.unit (s := S4096x128) ![256 * T, 0] ![256, 128] hq))
        (View.ld (Val := Elt Ideal) x1 (Rect.unit (s := S4096x128) ![kb, 0] ![768, 128] hk))
        (View.ld (Val := Elt Ideal) B (Rect.unit (s := S3x256x768) ![p, 0, 0] ![1, 256, 768] hb)) x3
        (View.ld (Val := Elt Ideal) (ext x2) (Rect.unit (s := S4096x256) ![kb, 0] ![768, 256] hv)) (extc x4) x
      = attn x0 x1 x2 x3 x4 B ((Rect.unit (s := S4096x128) ![256 * T, 0] ![256, 128] hq).emb x) := by
  obtain ⟨a, d, rfl⟩ : ∃ a d, x = ix2 a d := ⟨_, _, eq_ix2 x⟩
  subst hkb hp
  rw [pay116_apply]
  have ha : a.val < 256 := a.isLt
  have e0 : (((Rect.unit (s := S4096x128) ![256 * T, 0] ![256, 128] hq).emb (ix2 a d)) 0).val = 256 * T + a.val := by
    show 256 * T + 1 * a.val = _; omega
  have e1 : (((Rect.unit (s := S4096x128) ![256 * T, 0] ![256, 128] hq).emb (ix2 a d)) 1) = d := by
    apply Fin.ext; show 0 + 1 * d.val = _; omega
  have eT : (((Rect.unit (s := S4096x128) ![256 * T, 0] ![256, 128] hq).emb (ix2 a d)) 0).val / 256 = T := by rw [e0]; omega
  have em : (((Rect.unit (s := S4096x128) ![256 * T, 0] ![256, 128] hq).emb (ix2 a d)) 0).val % 256 = a.val := by rw [e0]; omega
  have q0 : ∀ y : Fin 128, View.ld (Val := Elt Ideal) x0 (Rect.unit (s := S4096x128) ![256 * T, 0] ![256, 128] hq) (ix2 a y)
      = x0 (ix2 (((Rect.unit (s := S4096x128) ![256 * T, 0] ![256, 128] hq).emb (ix2 a d)) 0) y) := fun y =>
    congrArg x0 (funext fun c => Fin.ext (match c with
      | ⟨0, _⟩ => rfl
      | ⟨1, _⟩ => by show 0 + 1 * y.val = y.val; omega))
  have k0 : ∀ (j : Fin 768) (y : Fin 128), View.ld (Val := Elt Ideal) x1 (Rect.unit (s := S4096x128) ![kbase T, 0] ![768, 128] hk) (ix2 j y)
      = x1 (ix2 ⟨kbase T + j.val, kbase_le _ j⟩ y) := fun j y =>
    congrArg x1 (funext fun c => Fin.ext (match c with
      | ⟨0, _⟩ => by show kbase T + 1 * j.val = kbase T + j.val; omega
      | ⟨1, _⟩ => by show 0 + 1 * y.val = y.val; omega))
  have b0 : ∀ j : Fin 768, View.ld (Val := Elt Ideal) B (Rect.unit (s := S3x256x768) ![(pat T).val, 0, 0] ![1, 256, 768] hb) (ix3 0 a j)
      = B (ix3 (pat T) a j) := fun j =>
    congrArg B (funext fun c => Fin.ext (match c with
      | ⟨0, _⟩ => by show (pat T).val + 1 * 0 = (pat T).val; omega
      | ⟨1, _⟩ => by show 0 + 1 * a.val = a.val; omega
      | ⟨2, _⟩ => by show 0 + 1 * j.val = j.val; omega))
  have v0 : ∀ j : Fin 768, View.ld (Val := Elt Ideal) (ext x2) (Rect.unit (s := S4096x256) ![kbase T, 0] ![768, 256] hv) (ix2 j (d.castLE (by decide)))
      = x2 (ix2 ⟨kbase T + j.val, kbase_le _ j⟩ d) := fun j => by
    have hlt : (((Rect.unit (s := S4096x256) ![kbase T, 0] ![768, 256] hv).emb (ix2 j (d.castLE (by decide)))) 1).val < 128 := by
      show 0 + 1 * d.val < 128; have := d.isLt; omega
    show ext x2 _ = _
    unfold ext; erw [dif_pos hlt]
    exact congrArg x2 (funext fun c => Fin.ext (match c with
      | ⟨0, _⟩ => by show kbase T + 1 * j.val = kbase T + j.val; omega
      | ⟨1, _⟩ => by show 0 + 1 * d.val = d.val; omega))
  have v1 : ∀ j : Fin 768, View.ld (Val := Elt Ideal) (ext x2) (Rect.unit (s := S4096x256) ![kbase T, 0] ![768, 256] hv) (ix2 j 128) = (1 : EReal) :=
    fun j => by
      have hlt : ¬ (((Rect.unit (s := S4096x256) ![kbase T, 0] ![768, 256] hv).emb (ix2 j 128)) 1).val < 128 := by
        show ¬ 0 + 1 * 128 < 128; omega
      show ext x2 _ = _
      unfold ext; erw [dif_neg hlt]
  have u0 : ∀ k : Fin 256, extc x4 (ix2 k (d.castLE (by decide))) = x4 (ix2 k d) := fun k => by
    have hlt : ((ix2 k (d.castLE (by decide : 128 ≤ 256)) : S256x256.Idx) 1).val < 128 := d.isLt
    unfold extc; erw [dif_pos hlt]; rfl
  have u1 : ∀ k : Fin 256, extc x4 (ix2 k 128) = (1 : EReal) := fun k => by
    have hlt : ¬ ((ix2 k (128 : Fin 256) : S256x256.Idx) 1).val < 128 := by show ¬ (128 : ℕ) < 128; omega
    unfold extc; erw [dif_neg hlt]
  unfold attn
  simp only [q0, k0, b0, v0, v1, u0, u1, eT, em, e1]

/-- What a grid point of the second batch writes. -/
theorem outB_eq (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x15x128 .f32) (harg7 : arg7.IsWhole) (arg8 : Memref sig .tc .vmem S4096x128 .bf16) (harg8 : arg8.IsWhole) (arg9 : Memref sig .tc .vmem S15x64x128 .f32) (harg9 : arg9.IsWhole) (arg10 : Memref sig .tc .vmem S3x256x768 .f32) (harg10 : arg10.IsWhole) (arg11 : Memref sig .tc .vmem S4096x256 .bf16) (harg11 : arg11.IsWhole) (arg12 : Memref sig .tc .vmem S256x256 .bf16) (harg12 : arg12.IsWhole) (hc0 : ¬cond0_0 i) (x0 : Vec Ideal S4096x128 .bf16) (x1 : Vec Ideal S4096x128 .bf16) (x2 : Vec Ideal S4096x128 .bf16) (x3 : Vec Ideal S256x128 .bf16) (x4 : Vec Ideal S256x128 .bf16) (x5 : Vec Ideal S1x15x128 .f32) (B : Vec Ideal S3x256x768 .f32) :
    out0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 B = attn x0 x1 x2 x3 x4 B := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 x0 x1 x2 x3 x4 x5 B)]
  funext y
  refine View.canon_apply_of_pieces _ _ ?_ y (cover0_B_6 c i arg2 harg2 arg3 harg3 arg4 harg4 arg5 harg5 arg6 harg6 arg7 harg7 arg8 harg8 arg9 harg9 arg10 harg10 arg11 harg11 arg12 harg12 hc0 x0 x1 x2 x3 x4 x5 B y)
  unfold kernelRun0_B
  dsimp only
  sl_unfold_words
  have z0 : (![0, 0] : Fin 2 → ℕ) = fun _ => 0 := by decide
  have hv : ∀ L r h h', L = ([⟨Rect.unit (s := S4096x256) ![0, 128] ![4096, 128] h, k0_pay112 (F := Ideal)⟩,
      ⟨Rect.unit (s := S4096x256) ![0, 0] ![4096, 128] h', k0_pay111 (F := Ideal) x2⟩] : List (View.Piece (Elt Ideal) S4096x256 .bf16)) →
      arg11.view.readCov L (Rect.toLoadRect r) = View.ld (ext x2) r := fun L r h h' hL => by
    rw [View.readCov_eq_canon', hL, canon_ext]
  have hu : ∀ L r h h', L = ([⟨Rect.unit (s := S256x256) ![0, 128] ![256, 128] h, k0_pay114 (F := Ideal)⟩,
      ⟨Rect.unit (s := S256x256) ![0, 0] ![256, 128] h', k0_pay113 (F := Ideal) x4⟩] : List (View.Piece (Elt Ideal) S256x256 .bf16)) →
      arg12.view.readCov L (Rect.toLoadRect r) = View.ld (extc x4) r := fun L r h h' hL => by
    rw [View.readCov_eq_canon', hL, canon_extc]
  simp only [View.readAt_eq_ld, harg2.read_unread, harg3.read_unread, harg4.read_unread, harg5.read_unread, harg6.read_unread, harg10.read_unread,
    View.ld_unit_zero (S := S4096x128) z0, View.ld_unit_zero (S := S256x128) z0]
  simp only [fun r h h' => hv _ r h h' rfl, fun r h h' => hu _ r h h' rfl, View.ld_unit_zero (S := S256x256) z0]
  exact View.PiecesOf.mem ⟨fun x => piece 15 3328 2 (by decide) (by decide) (by decide) _ _ _ _ x0 x1 x2 x3 x4 B x, fun x => piece 14 3328 1 (by decide) (by decide) (by decide) _ _ _ _ x0 x1 x2 x3 x4 B x, fun x => piece 13 3072 1 (by decide) (by decide) (by decide) _ _ _ _ x0 x1 x2 x3 x4 B x, fun x => piece 12 2816 1 (by decide) (by decide) (by decide) _ _ _ _ x0 x1 x2 x3 x4 B x, fun x => piece 11 2560 1 (by decide) (by decide) (by decide) _ _ _ _ x0 x1 x2 x3 x4 B x, fun x => piece 10 2304 1 (by decide) (by decide) (by decide) _ _ _ _ x0 x1 x2 x3 x4 B x, fun x => piece 9 2048 1 (by decide) (by decide) (by decide) _ _ _ _ x0 x1 x2 x3 x4 B x, fun x => piece 8 1792 1 (by decide) (by decide) (by decide) _ _ _ _ x0 x1 x2 x3 x4 B x, fun x => piece 7 1536 1 (by decide) (by decide) (by decide) _ _ _ _ x0 x1 x2 x3 x4 B x, fun x => piece 6 1280 1 (by decide) (by decide) (by decide) _ _ _ _ x0 x1 x2 x3 x4 B x, fun x => piece 5 1024 1 (by decide) (by decide) (by decide) _ _ _ _ x0 x1 x2 x3 x4 B x, fun x => piece 4 768 1 (by decide) (by decide) (by decide) _ _ _ _ x0 x1 x2 x3 x4 B x, fun x => piece 3 512 1 (by decide) (by decide) (by decide) _ _ _ _ x0 x1 x2 x3 x4 B x, fun x => piece 2 256 1 (by decide) (by decide) (by decide) _ _ _ _ x0 x1 x2 x3 x4 B x, fun x => piece 1 0 1 (by decide) (by decide) (by decide) _ _ _ _ x0 x1 x2 x3 x4 B x, fun x => piece 0 0 0 (by decide) (by decide) (by decide) _ _ _ _ x0 x1 x2 x3 x4 B x, trivial⟩

end Cert.Proof
-- ==== Proof.Bias.lean ====
/- The bias of the three patterns of tiles, as the first grid point of a head builds it, read at an index; and the block
   that point writes. -/
module

public import proofs.«01_k».proof.Proof.Rows
public import proofs.«01_k».proof.Proof.Blocks

@[expose] public section

set_option maxRecDepth 16384

noncomputable section

namespace Cert.Proof

open Cert.KernelIdeal Cert.KernelIdeal.Gen Idealize.ShloMosaic Idealize.ShloMosaic.TcCoe Idealize.SL.Sem

/-- The bias of a query column against a key column (twice over the 128 lanes) at each of the fifteen row distances. -/
def rowSpec (D : Vec Ideal S1x15x128 .f32) : Vec Ideal S15x64x128 .f32 := fun y =>
  if colOk (y 1).val ((y 2).val % 64) then D (ix3 0 (y 0) ⟨(y 2).val % 64 + 63 - (y 1).val, diag_lt _ _ (y 1).isLt⟩) else (⊥ : EReal)

/-- The row distance, shifted by seven, of key row `j` of the tile's twelve from query row `i` of its four; nothing outside the window. -/
def tab (p : Fin 3) (i j : ℕ) : Option (Fin 15) :=
  if p = 0 then (if j < 8 then some (Fin.ofNat 15 (j + 7 - i)) else none)
  else if p = 1 then (if i ≤ j ∧ j < i + 8 then some (Fin.ofNat 15 (j + 3 - i)) else none)
  else (if 4 ≤ j then some (Fin.ofNat 15 (j - i - 1)) else none)

/-- One row of queries against one row of keys: its bias, or minus infinity outside the window. -/
def cell (D : Vec Ideal S1x15x128 .f32) (o : Option (Fin 15)) (q k : ℕ) (hq : q < 64) : EReal :=
  match o with
  | some d => if colOk q k then D (ix3 0 d ⟨k % 64 + 63 - q, diag_lt q k hq⟩) else ⊥
  | none => ⊥

/-- The bias of the three patterns. -/
def biasSpec (D : Vec Ideal S1x15x128 .f32) : Vec Ideal S3x256x768 .f32 := fun y =>
  cell D (tab (y 0) ((y 1).val / 64) ((y 2).val / 64)) ((y 1).val % 64) ((y 2).val % 64) (Nat.mod_lt _ (by decide))

theorem rowInb (d : Fin 15) : ∀ a, (![d.val, 0, 0] : Fin 3 → ℕ) a + (![1, 64, 128] : Fin 3 → ℕ) a ≤ S15x64x128.size a := fun a =>
  match a with
  | ⟨0, _⟩ => d.isLt
  | ⟨1, _⟩ => le_refl 64
  | ⟨2, _⟩ => le_refl 128

theorem diagInb (d : Fin 15) : ∀ a, (![0, d.val, 0] : Fin 3 → ℕ) a + (![1, 1, 128] : Fin 3 → ℕ) a ≤ S1x15x128.size a := fun a =>
  match a with
  | ⟨0, _⟩ => le_refl 1
  | ⟨1, _⟩ => d.isLt
  | ⟨2, _⟩ => le_refl 128

theorem rowPiece (d : Fin 15) (D : Vec Ideal S1x15x128 .f32) (x : S1x64x128.Idx) :
    rowPay (View.ld (Val := Elt Ideal) D (Rect.unit (s := S1x15x128) ![0, d.val, 0] ![1, 1, 128] (diagInb d))) x
      = rowSpec D ((Rect.unit (s := S15x64x128) ![d.val, 0, 0] ![1, 64, 128] (rowInb d)).emb x) := by
  obtain ⟨z, q, l, rfl⟩ : ∃ z q l, x = ix3 z q l := ⟨_, _, _, eq_ix3 x⟩
  obtain rfl : z = 0 := Subsingleton.elim _ _
  rw [rowPay_apply]
  have e : (Rect.unit (s := S15x64x128) ![d.val, 0, 0] ![1, 64, 128] (rowInb d)).emb (ix3 0 q l) = ix3 d q l := funext fun c => Fin.ext (match c with
    | ⟨0, _⟩ => by show d.val + 1 * 0 = d.val; omega
    | ⟨1, _⟩ => by show 0 + 1 * q.val = q.val; omega
    | ⟨2, _⟩ => by show 0 + 1 * l.val = l.val; omega)
  rw [e]
  show _ = if colOk q.val (l.val % 64) then D (ix3 0 d ⟨l.val % 64 + 63 - q.val, _⟩) else (⊥ : EReal)
  refine if_congr Iff.rfl (congrArg D (funext fun c => Fin.ext (match c with
    | ⟨0, _⟩ => rfl
    | ⟨1, _⟩ => by show d.val + 1 * 0 = d.val; omega
    | ⟨2, _⟩ => by show 0 + 1 * (l.val % 64 + 63 - q.val) = l.val % 64 + 63 - q.val; omega))) rfl

/-- The fifteen rows, as stored, cover the scratch and hold `rowSpec`. -/
theorem canon_rows (x5 : Vec Ideal S1x15x128 .f32) :
    View.canon (Val := Elt Ideal) ([⟨Rect.unit (s := S15x64x128) ![14, 0, 0] ![1, 64, 128] inb_S15x64x128_S1x64x128_14_0_0, k0_pay23 (F := Ideal) k0_pay1 k0_pay2 (k0_pay21 (F := Ideal) (View.ld (Val := Elt Ideal) x5 (Rect.unit (s := S1x15x128) ![0, 14, 0] ![1, 1, 128] inb_S1x15x128_S1x1x128_0_14_0))) (k0_pay22 (F := Ideal) (View.ld (Val := Elt Ideal) x5 (Rect.unit (s := S1x15x128) ![0, 14, 0] ![1, 1, 128] inb_S1x15x128_S1x1x128_0_14_0))) 1#32⟩,
      ⟨Rect.unit (s := S15x64x128) ![13, 0, 0] ![1, 64, 128] inb_S15x64x128_S1x64x128_13_0_0, k0_pay20 (F := Ideal) k0_pay1 k0_pay2 (View.ld (Val := Elt Ideal) x5 (Rect.unit (s := S1x15x128) ![0, 13, 0] ![1, 1, 128] inb_S1x15x128_S1x1x128_0_13_0))⟩,
      ⟨Rect.unit (s := S15x64x128) ![12, 0, 0] ![1, 64, 128] inb_S15x64x128_S1x64x128_12_0_0, k0_pay19 (F := Ideal) k0_pay1 k0_pay2 (View.ld (Val := Elt Ideal) x5 (Rect.unit (s := S1x15x128) ![0, 12, 0] ![1, 1, 128] inb_S1x15x128_S1x1x128_0_12_0))⟩,
      ⟨Rect.unit (s := S15x64x128) ![11, 0, 0] ![1, 64, 128] inb_S15x64x128_S1x64x128_11_0_0, k0_pay18 (F := Ideal) (k0_pay17 (F := Ideal) k0_pay1 k0_pay2 (View.ld (Val := Elt Ideal) x5 (Rect.unit (s := S1x15x128) ![0, 11, 0] ![1, 1, 128] inb_S1x15x128_S1x1x128_0_11_0)))⟩,
      ⟨Rect.unit (s := S15x64x128) ![10, 0, 0] ![1, 64, 128] inb_S15x64x128_S1x64x128_10_0_0, k0_pay16 (F := Ideal) k0_pay1 k0_pay2 (View.ld (Val := Elt Ideal) x5 (Rect.unit (s := S1x15x128) ![0, 10, 0] ![1, 1, 128] inb_S1x15x128_S1x1x128_0_10_0))⟩,
      ⟨Rect.unit (s := S15x64x128) ![9, 0, 0] ![1, 64, 128] inb_S15x64x128_S1x64x128_9_0_0, k0_pay15 (F := Ideal) k0_pay1 k0_pay2 (View.ld (Val := Elt Ideal) x5 (Rect.unit (s := S1x15x128) ![0, 9, 0] ![1, 1, 128] inb_S1x15x128_S1x1x128_0_9_0))⟩,
      ⟨Rect.unit (s := S15x64x128) ![8, 0, 0] ![1, 64, 128] inb_S15x64x128_S1x64x128_8_0_0, k0_pay14 (F := Ideal) k0_pay1 k0_pay2 (View.ld (Val := Elt Ideal) x5 (Rect.unit (s := S1x15x128) ![0, 8, 0] ![1, 1, 128] inb_S1x15x128_S1x1x128_0_8_0))⟩,
      ⟨Rect.unit (s := S15x64x128) ![7, 0, 0] ![1, 64, 128] inb_S15x64x128_S1x64x128_7_0_0, k0_pay13 (F := Ideal) k0_pay1 k0_pay2 (View.ld (Val := Elt Ideal) x5 (Rect.unit (s := S1x15x128) ![0, 7, 0] ![1, 1, 128] inb_S1x15x128_S1x1x128_0_7_0))⟩,
      ⟨Rect.unit (s := S15x64x128) ![6, 0, 0] ![1, 64, 128] inb_S15x64x128_S1x64x128_6_0_0, k0_pay12 (F := Ideal) k0_pay1 k0_pay2 (k0_pay11 (F := Ideal) (View.ld (Val := Elt Ideal) x5 (Rect.unit (s := S1x15x128) ![0, 6, 0] ![1, 1, 128] inb_S1x15x128_S1x1x128_0_6_0)))⟩,
      ⟨Rect.unit (s := S15x64x128) ![5, 0, 0] ![1, 64, 128] inb_S15x64x128_S1x64x128_5_0_0, k0_pay10 (F := Ideal) k0_pay1 k0_pay2 (View.ld (Val := Elt Ideal) x5 (Rect.unit (s := S1x15x128) ![0, 5, 0] ![1, 1, 128] inb_S1x15x128_S1x1x128_0_5_0))⟩,
      ⟨Rect.unit (s := S15x64x128) ![4, 0, 0] ![1, 64, 128] inb_S15x64x128_S1x64x128_4_0_0, k0_pay9 (F := Ideal) k0_pay1 k0_pay2 (View.ld (Val := Elt Ideal) x5 (Rect.unit (s := S1x15x128) ![0, 4, 0] ![1, 1, 128] inb_S1x15x128_S1x1x128_0_4_0))⟩,
      ⟨Rect.unit (s := S15x64x128) ![3, 0, 0] ![1, 64, 128] inb_S15x64x128_S1x64x128_3_0_0, k0_pay8 (F := Ideal) k0_pay1 (k0_pay7 (F := Ideal) k0_pay2 (View.ld (Val := Elt Ideal) x5 (Rect.unit (s := S1x15x128) ![0, 3, 0] ![1, 1, 128] inb_S1x15x128_S1x1x128_0_3_0)))⟩,
      ⟨Rect.unit (s := S15x64x128) ![2, 0, 0] ![1, 64, 128] inb_S15x64x128_S1x64x128_2_0_0, k0_pay6 (F := Ideal) k0_pay1 k0_pay2 (View.ld (Val := Elt Ideal) x5 (Rect.unit (s := S1x15x128) ![0, 2, 0] ![1, 1, 128] inb_S1x15x128_S1x1x128_0_2_0))⟩,
      ⟨Rect.unit (s := S15x64x128) ![1, 0, 0] ![1, 64, 128] inb_S15x64x128_S1x64x128_1_0_0, k0_pay5 (F := Ideal) k0_pay1 k0_pay2 (View.ld (Val := Elt Ideal) x5 (Rect.unit (s := S1x15x128) ![0, 1, 0] ![1, 1, 128] inb_S1x15x128_S1x1x128_0_1_0))⟩,
      ⟨Rect.unit (s := S15x64x128) ![0, 0, 0] ![1, 64, 128] inb_S15x64x128_S1x64x128_0_0_0, k0_pay4 (F := Ideal) (k0_pay3 (F := Ideal) (View.ld (Val := Elt Ideal) x5 (Rect.unit (s := S1x15x128) ![0, 0, 0] ![1, 1, 128] inb_S1x15x128_S1x1x128_0_0_0)))⟩] : List (View.Piece (Elt Ideal) S15x64x128 .f32)) = rowSpec x5 := by
  funext y
  refine View.canon_apply_of_pieces (rowSpec x5) _ ?_ y (View.cover_of_tiledL (s := S15x64x128) _ S1x64x128.size (by sl_kernel_rfl) y)
  exact View.PiecesOf.mem ⟨fun x => rowPiece 14 x5 x, fun x => rowPiece 13 x5 x, fun x => rowPiece 12 x5 x, fun x => rowPiece 11 x5 x, fun x => rowPiece 10 x5 x, fun x => rowPiece 9 x5 x, fun x => rowPiece 8 x5 x, fun x => rowPiece 7 x5 x, fun x => rowPiece 6 x5 x, fun x => rowPiece 5 x5 x, fun x => rowPiece 4 x5 x, fun x => rowPiece 3 x5 x, fun x => rowPiece 2 x5 x, fun x => rowPiece 1 x5 x, fun x => rowPiece 0 x5 x, trivial⟩

/-- What a stored cell's half takes: a row of the row scratch, or minus infinity. -/
def half (D : Vec Ideal S1x15x128 .f32) (o : Option (Fin 15)) : FVec Ideal S64x128 .f32 :=
  match o with
  | some d => shapeCast S64x128 (View.ld (Val := Elt Ideal) (rowSpec D) (Rect.unit (s := S15x64x128) ![d.val, 0, 0] ![1, 64, 128]
      (rowInb d))) shapeCasts_S1x64x128_S64x128
  | none => k0_pay24

theorem cast_apply (A : FVec Ideal S1x64x128 .f32) (q : Fin 64) (l : Fin 128) :
    shapeCast S64x128 A shapeCasts_S1x64x128_S64x128 (ix2 q l) = A (ix3 0 q l) := by
  pointwise []

theorem half_apply (D : Vec Ideal S1x15x128 .f32) (o : Option (Fin 15)) (q : Fin 64) (l : Fin 128) :
    half D o (ix2 q l) = cell D o q.val (l.val % 64) q.isLt := by
  cases o with
  | none => rfl
  | some d =>
    unfold half
    dsimp only
    rw [cast_apply]
    have e : ∀ h, (Rect.unit (s := S15x64x128) ![d.val, 0, 0] ![1, 64, 128] h).emb (ix3 0 q l) = ix3 d q l := fun h => funext fun c => Fin.ext (match c with
      | ⟨0, _⟩ => by show d.val + 1 * 0 = d.val; omega
      | ⟨1, _⟩ => by show 0 + 1 * q.val = q.val; omega
      | ⟨2, _⟩ => by show 0 + 1 * l.val = l.val; omega)
    show rowSpec D ((Rect.unit (s := S15x64x128) ![d.val, 0, 0] ![1, 64, 128] _).emb (ix3 0 q l)) = _
    rw [e]
    show (if colOk q.val (l.val % 64) then D (ix3 0 d ⟨l.val % 64 + 63 - q.val, _⟩) else (⊥ : EReal)) = if colOk q.val (l.val % 64) then D (ix3 0 d ⟨l.val % 64 % 64 + 63 - q.val, _⟩) else (⊥ : EReal)
    simp only [Nat.mod_mod]

/-- A stored cell: two rows of keys side by side against one row of queries. -/
def pairPay (A B : FVec Ideal S64x128 .f32) : FVec Ideal S1x64x128 .f32 :=
  shapeCast S1x64x128 (Idealize.ShloMosaic.select k0_pay2 A B) shapeCasts_S64x128_S1x64x128

theorem pairPay_apply (A B : FVec Ideal S64x128 .f32) (q : Fin 64) (l : Fin 128) :
    pairPay A B (ix3 0 q l) = if l.val < 64 then A (ix2 q l) else B (ix2 q l) := by
  pointwise [pairPay]
  rw [pay2_apply]
  by_cases h : l.val < 64
  · rw [if_pos h, if_pos h]; rfl
  · rw [if_neg h, if_neg h]; rfl

theorem pairInb (p : Fin 3) (i j : ℕ) (hi : i < 4) (hj : j < 11) :
    ∀ a, (![p.val, 64 * i, 64 * j] : Fin 3 → ℕ) a + (![1, 64, 128] : Fin 3 → ℕ) a ≤ S3x256x768.size a := fun a =>
  match a with
  | ⟨0, _⟩ => p.isLt
  | ⟨1, _⟩ => by show 64 * i + 64 ≤ 256; omega
  | ⟨2, _⟩ => by show 64 * j + 128 ≤ 768; omega

theorem pairPiece (p : Fin 3) (i j : ℕ) (oA oB : Option (Fin 15)) (hoA : tab p i j = oA) (hoB : tab p i (j + 1) = oB)
    (hi : i < 4) (hj : j < 11)
    (D : Vec Ideal S1x15x128 .f32) (x : S1x64x128.Idx) :
    pairPay (half D oA) (half D oB) x = biasSpec D ((Rect.unit (s := S3x256x768) ![p.val, 64 * i, 64 * j] ![1, 64, 128] (pairInb p i j hi hj)).emb x) := by
  obtain ⟨z, q, l, rfl⟩ : ∃ z q l, x = ix3 z q l := ⟨_, _, _, eq_ix3 x⟩
  obtain rfl : z = 0 := Subsingleton.elim _ _
  subst hoA hoB
  have hq := q.isLt
  have hl := l.isLt
  rw [pairPay_apply, half_apply, half_apply]
  have e0 : ((Rect.unit (s := S3x256x768) ![p.val, 64 * i, 64 * j] ![1, 64, 128] (pairInb p i j hi hj)).emb (ix3 0 q l)) 0 = p := by
    apply Fin.ext; show p.val + 1 * 0 = p.val; omega
  have e1 : (((Rect.unit (s := S3x256x768) ![p.val, 64 * i, 64 * j] ![1, 64, 128] (pairInb p i j hi hj)).emb (ix3 0 q l)) 1).val = 64 * i + q.val := by
    show 64 * i + 1 * q.val = _; omega
  have e2 : (((Rect.unit (s := S3x256x768) ![p.val, 64 * i, 64 * j] ![1, 64, 128] (pairInb p i j hi hj)).emb (ix3 0 q l)) 2).val = 64 * j + l.val := by
    show 64 * j + 1 * l.val = _; omega
  unfold biasSpec
  simp only [e0, e1, e2]
  have a1 : (64 * i + q.val) / 64 = i := by omega
  have a2 : (64 * i + q.val) % 64 = q.val := by omega
  have a3 : (64 * j + l.val) % 64 = l.val % 64 := by omega
  simp only [a1, a2, a3]
  by_cases h : l.val < 64
  · have a4 : (64 * j + l.val) / 64 = j := by omega
    rw [if_pos h, a4]
  · have a4 : (64 * j + l.val) / 64 = j + 1 := by omega
    rw [if_neg h, a4]

set_option maxHeartbeats 4000000 in
/-- What the first grid point of a head leaves in the bias scratch. -/
theorem soutA_eq (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x15x128 .f32) (harg7 : arg7.IsWhole) (arg8 : Memref sig .tc .vmem S4096x128 .bf16) (harg8 : arg8.IsWhole) (arg9 : Memref sig .tc .vmem S15x64x128 .f32) (harg9 : arg9.IsWhole) (arg10 : Memref sig .tc .vmem S3x256x768 .f32) (harg10 : arg10.IsWhole) (arg11 : Memref sig .tc .vmem S4096x256 .bf16) (harg11 : arg11.IsWhole) (arg12 : Memref sig .tc .vmem S256x256 .bf16) (harg12 : arg12.IsWhole) (hc0 : cond0_0 i) (x0 : Vec Ideal S4096x128 .bf16) (x1 : Vec Ideal S4096x128 .bf16) (x2 : Vec Ideal S4096x128 .bf16) (x3 : Vec Ideal S256x128 .bf16) (x4 : Vec Ideal S256x128 .bf16) (x5 : Vec Ideal S1x15x128 .f32) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 x5 = biasSpec x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5)]
  funext y
  refine View.canon_apply_of_pieces (biasSpec x5) _ ?_ y (scover0_A_1 c i arg2 harg2 arg3 harg3 arg4 harg4 arg5 harg5 arg6 harg6 arg7 harg7 arg8 harg8 arg9 harg9 arg10 harg10 arg11 harg11 arg12 harg12 hc0 x0 x1 x2 x3 x4 x5 y)
  have hr : ∀ r, arg9.view.readCov ([⟨Rect.unit (s := S15x64x128) ![14, 0, 0] ![1, 64, 128] inb_S15x64x128_S1x64x128_14_0_0, k0_pay23 (F := Ideal) k0_pay1 k0_pay2 (k0_pay21 (F := Ideal) (View.ld (Val := Elt Ideal) x5 (Rect.unit (s := S1x15x128) ![0, 14, 0] ![1, 1, 128] inb_S1x15x128_S1x1x128_0_14_0))) (k0_pay22 (F := Ideal) (View.ld (Val := Elt Ideal) x5 (Rect.unit (s := S1x15x128) ![0, 14, 0] ![1, 1, 128] inb_S1x15x128_S1x1x128_0_14_0))) 1#32⟩,
      ⟨Rect.unit (s := S15x64x128) ![13, 0, 0] ![1, 64, 128] inb_S15x64x128_S1x64x128_13_0_0, k0_pay20 (F := Ideal) k0_pay1 k0_pay2 (View.ld (Val := Elt Ideal) x5 (Rect.unit (s := S1x15x128) ![0, 13, 0] ![1, 1, 128] inb_S1x15x128_S1x1x128_0_13_0))⟩,
      ⟨Rect.unit (s := S15x64x128) ![12, 0, 0] ![1, 64, 128] inb_S15x64x128_S1x64x128_12_0_0, k0_pay19 (F := Ideal) k0_pay1 k0_pay2 (View.ld (Val := Elt Ideal) x5 (Rect.unit (s := S1x15x128) ![0, 12, 0] ![1, 1, 128] inb_S1x15x128_S1x1x128_0_12_0))⟩,
      ⟨Rect.unit (s := S15x64x128) ![11, 0, 0] ![1, 64, 128] inb_S15x64x128_S1x64x128_11_0_0, k0_pay18 (F := Ideal) (k0_pay17 (F := Ideal) k0_pay1 k0_pay2 (View.ld (Val := Elt Ideal) x5 (Rect.unit (s := S1x15x128) ![0, 11, 0] ![1, 1, 128] inb_S1x15x128_S1x1x128_0_11_0)))⟩,
      ⟨Rect.unit (s := S15x64x128) ![10, 0, 0] ![1, 64, 128] inb_S15x64x128_S1x64x128_10_0_0, k0_pay16 (F := Ideal) k0_pay1 k0_pay2 (View.ld (Val := Elt Ideal) x5 (Rect.unit (s := S1x15x128) ![0, 10, 0] ![1, 1, 128] inb_S1x15x128_S1x1x128_0_10_0))⟩,
      ⟨Rect.unit (s := S15x64x128) ![9, 0, 0] ![1, 64, 128] inb_S15x64x128_S1x64x128_9_0_0, k0_pay15 (F := Ideal) k0_pay1 k0_pay2 (View.ld (Val := Elt Ideal) x5 (Rect.unit (s := S1x15x128) ![0, 9, 0] ![1, 1, 128] inb_S1x15x128_S1x1x128_0_9_0))⟩,
      ⟨Rect.unit (s := S15x64x128) ![8, 0, 0] ![1, 64, 128] inb_S15x64x128_S1x64x128_8_0_0, k0_pay14 (F := Ideal) k0_pay1 k0_pay2 (View.ld (Val := Elt Ideal) x5 (Rect.unit (s := S1x15x128) ![0, 8, 0] ![1, 1, 128] inb_S1x15x128_S1x1x128_0_8_0))⟩,
      ⟨Rect.unit (s := S15x64x128) ![7, 0, 0] ![1, 64, 128] inb_S15x64x128_S1x64x128_7_0_0, k0_pay13 (F := Ideal) k0_pay1 k0_pay2 (View.ld (Val := Elt Ideal) x5 (Rect.unit (s := S1x15x128) ![0, 7, 0] ![1, 1, 128] inb_S1x15x128_S1x1x128_0_7_0))⟩,
      ⟨Rect.unit (s := S15x64x128) ![6, 0, 0] ![1, 64, 128] inb_S15x64x128_S1x64x128_6_0_0, k0_pay12 (F := Ideal) k0_pay1 k0_pay2 (k0_pay11 (F := Ideal) (View.ld (Val := Elt Ideal) x5 (Rect.unit (s := S1x15x128) ![0, 6, 0] ![1, 1, 128] inb_S1x15x128_S1x1x128_0_6_0)))⟩,
      ⟨Rect.unit (s := S15x64x128) ![5, 0, 0] ![1, 64, 128] inb_S15x64x128_S1x64x128_5_0_0, k0_pay10 (F := Ideal) k0_pay1 k0_pay2 (View.ld (Val := Elt Ideal) x5 (Rect.unit (s := S1x15x128) ![0, 5, 0] ![1, 1, 128] inb_S1x15x128_S1x1x128_0_5_0))⟩,
      ⟨Rect.unit (s := S15x64x128) ![4, 0, 0] ![1, 64, 128] inb_S15x64x128_S1x64x128_4_0_0, k0_pay9 (F := Ideal) k0_pay1 k0_pay2 (View.ld (Val := Elt Ideal) x5 (Rect.unit (s := S1x15x128) ![0, 4, 0] ![1, 1, 128] inb_S1x15x128_S1x1x128_0_4_0))⟩,
      ⟨Rect.unit (s := S15x64x128) ![3, 0, 0] ![1, 64, 128] inb_S15x64x128_S1x64x128_3_0_0, k0_pay8 (F := Ideal) k0_pay1 (k0_pay7 (F := Ideal) k0_pay2 (View.ld (Val := Elt Ideal) x5 (Rect.unit (s := S1x15x128) ![0, 3, 0] ![1, 1, 128] inb_S1x15x128_S1x1x128_0_3_0)))⟩,
      ⟨Rect.unit (s := S15x64x128) ![2, 0, 0] ![1, 64, 128] inb_S15x64x128_S1x64x128_2_0_0, k0_pay6 (F := Ideal) k0_pay1 k0_pay2 (View.ld (Val := Elt Ideal) x5 (Rect.unit (s := S1x15x128) ![0, 2, 0] ![1, 1, 128] inb_S1x15x128_S1x1x128_0_2_0))⟩,
      ⟨Rect.unit (s := S15x64x128) ![1, 0, 0] ![1, 64, 128] inb_S15x64x128_S1x64x128_1_0_0, k0_pay5 (F := Ideal) k0_pay1 k0_pay2 (View.ld (Val := Elt Ideal) x5 (Rect.unit (s := S1x15x128) ![0, 1, 0] ![1, 1, 128] inb_S1x15x128_S1x1x128_0_1_0))⟩,
      ⟨Rect.unit (s := S15x64x128) ![0, 0, 0] ![1, 64, 128] inb_S15x64x128_S1x64x128_0_0_0, k0_pay4 (F := Ideal) (k0_pay3 (F := Ideal) (View.ld (Val := Elt Ideal) x5 (Rect.unit (s := S1x15x128) ![0, 0, 0] ![1, 1, 128] inb_S1x15x128_S1x1x128_0_0_0)))⟩] : List (View.Piece (Elt Ideal) S15x64x128 .f32)) (Rect.toLoadRect r) = View.ld (Val := Elt Ideal) (rowSpec x5) r := fun r => by
    rw [View.readCov_eq_canon', canon_rows]
  unfold kernelRun0_A
  dsimp only
  sl_unfold_words
  simp only [View.readAt_eq_ld, harg7.read_unread]
  simp only [hr]
  refine View.PiecesOf.mem ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact pairPiece 2 3 10 (some 6) (some 7) (by decide) (by decide) (by decide) (by decide) x5 x
  · exact pairPiece 2 3 8 (some 4) (some 5) (by decide) (by decide) (by decide) (by decide) x5 x
  · exact pairPiece 2 3 6 (some 2) (some 3) (by decide) (by decide) (by decide) (by decide) x5 x
  · exact pairPiece 2 3 4 (some 0) (some 1) (by decide) (by decide) (by decide) (by decide) x5 x
  · exact pairPiece 2 3 2 none none (by decide) (by decide) (by decide) (by decide) x5 x
  · exact pairPiece 2 3 0 none none (by decide) (by decide) (by decide) (by decide) x5 x
  · exact pairPiece 2 2 10 (some 7) (some 8) (by decide) (by decide) (by decide) (by decide) x5 x
  · exact pairPiece 2 2 8 (some 5) (some 6) (by decide) (by decide) (by decide) (by decide) x5 x
  · exact pairPiece 2 2 6 (some 3) (some 4) (by decide) (by decide) (by decide) (by decide) x5 x
  · exact pairPiece 2 2 4 (some 1) (some 2) (by decide) (by decide) (by decide) (by decide) x5 x
  · exact pairPiece 2 2 2 none none (by decide) (by decide) (by decide) (by decide) x5 x
  · exact pairPiece 2 2 0 none none (by decide) (by decide) (by decide) (by decide) x5 x
  · exact pairPiece 2 1 10 (some 8) (some 9) (by decide) (by decide) (by decide) (by decide) x5 x
  · exact pairPiece 2 1 8 (some 6) (some 7) (by decide) (by decide) (by decide) (by decide) x5 x
  · exact pairPiece 2 1 6 (some 4) (some 5) (by decide) (by decide) (by decide) (by decide) x5 x
  · exact pairPiece 2 1 4 (some 2) (some 3) (by decide) (by decide) (by decide) (by decide) x5 x
  · exact pairPiece 2 1 2 none none (by decide) (by decide) (by decide) (by decide) x5 x
  · exact pairPiece 2 1 0 none none (by decide) (by decide) (by decide) (by decide) x5 x
  · exact pairPiece 2 0 10 (some 9) (some 10) (by decide) (by decide) (by decide) (by decide) x5 x
  · exact pairPiece 2 0 8 (some 7) (some 8) (by decide) (by decide) (by decide) (by decide) x5 x
  · exact pairPiece 2 0 6 (some 5) (some 6) (by decide) (by decide) (by decide) (by decide) x5 x
  · exact pairPiece 2 0 4 (some 3) (some 4) (by decide) (by decide) (by decide) (by decide) x5 x
  · exact pairPiece 2 0 2 none none (by decide) (by decide) (by decide) (by decide) x5 x
  · exact pairPiece 2 0 0 none none (by decide) (by decide) (by decide) (by decide) x5 x
  · exact pairPiece 1 3 10 (some 10) none (by decide) (by decide) (by decide) (by decide) x5 x
  · exact pairPiece 1 3 8 (some 8) (some 9) (by decide) (by decide) (by decide) (by decide) x5 x
  · exact pairPiece 1 3 6 (some 6) (some 7) (by decide) (by decide) (by decide) (by decide) x5 x
  · exact pairPiece 1 3 4 (some 4) (some 5) (by decide) (by decide) (by decide) (by decide) x5 x
  · exact pairPiece 1 3 2 none (some 3) (by decide) (by decide) (by decide) (by decide) x5 x
  · exact pairPiece 1 3 0 none none (by decide) (by decide) (by decide) (by decide) x5 x
  · exact pairPiece 1 2 10 none none (by decide) (by decide) (by decide) (by decide) x5 x
  · exact pairPiece 1 2 8 (some 9) (some 10) (by decide) (by decide) (by decide) (by decide) x5 x
  · exact pairPiece 1 2 6 (some 7) (some 8) (by decide) (by decide) (by decide) (by decide) x5 x
  · exact pairPiece 1 2 4 (some 5) (some 6) (by decide) (by decide) (by decide) (by decide) x5 x
  · exact pairPiece 1 2 2 (some 3) (some 4) (by decide) (by decide) (by decide) (by decide) x5 x
  · exact pairPiece 1 2 0 none none (by decide) (by decide) (by decide) (by decide) x5 x
  · exact pairPiece 1 1 10 none none (by decide) (by decide) (by decide) (by decide) x5 x
  · exact pairPiece 1 1 8 (some 10) none (by decide) (by decide) (by decide) (by decide) x5 x
  · exact pairPiece 1 1 6 (some 8) (some 9) (by decide) (by decide) (by decide) (by decide) x5 x
  · exact pairPiece 1 1 4 (some 6) (some 7) (by decide) (by decide) (by decide) (by decide) x5 x
  · exact pairPiece 1 1 2 (some 4) (some 5) (by decide) (by decide) (by decide) (by decide) x5 x
  · exact pairPiece 1 1 0 none (some 3) (by decide) (by decide) (by decide) (by decide) x5 x
  · exact pairPiece 1 0 10 none none (by decide) (by decide) (by decide) (by decide) x5 x
  · exact pairPiece 1 0 8 none none (by decide) (by decide) (by decide) (by decide) x5 x
  · exact pairPiece 1 0 6 (some 9) (some 10) (by decide) (by decide) (by decide) (by decide) x5 x
  · exact pairPiece 1 0 4 (some 7) (some 8) (by decide) (by decide) (by decide) (by decide) x5 x
  · exact pairPiece 1 0 2 (some 5) (some 6) (by decide) (by decide) (by decide) (by decide) x5 x
  · exact pairPiece 1 0 0 (some 3) (some 4) (by decide) (by decide) (by decide) (by decide) x5 x
  · exact pairPiece 0 3 10 none none (by decide) (by decide) (by decide) (by decide) x5 x
  · exact pairPiece 0 3 8 none none (by decide) (by decide) (by decide) (by decide) x5 x
  · exact pairPiece 0 3 6 (some 10) (some 11) (by decide) (by decide) (by decide) (by decide) x5 x
  · exact pairPiece 0 3 4 (some 8) (some 9) (by decide) (by decide) (by decide) (by decide) x5 x
  · exact pairPiece 0 3 2 (some 6) (some 7) (by decide) (by decide) (by decide) (by decide) x5 x
  · exact pairPiece 0 3 0 (some 4) (some 5) (by decide) (by decide) (by decide) (by decide) x5 x
  · exact pairPiece 0 2 10 none none (by decide) (by decide) (by decide) (by decide) x5 x
  · exact pairPiece 0 2 8 none none (by decide) (by decide) (by decide) (by decide) x5 x
  · exact pairPiece 0 2 6 (some 11) (some 12) (by decide) (by decide) (by decide) (by decide) x5 x
  · exact pairPiece 0 2 4 (some 9) (some 10) (by decide) (by decide) (by decide) (by decide) x5 x
  · exact pairPiece 0 2 2 (some 7) (some 8) (by decide) (by decide) (by decide) (by decide) x5 x
  · exact pairPiece 0 2 0 (some 5) (some 6) (by decide) (by decide) (by decide) (by decide) x5 x
  · exact pairPiece 0 1 10 none none (by decide) (by decide) (by decide) (by decide) x5 x
  · exact pairPiece 0 1 8 none none (by decide) (by decide) (by decide) (by decide) x5 x
  · exact pairPiece 0 1 6 (some 12) (some 13) (by decide) (by decide) (by decide) (by decide) x5 x
  · exact pairPiece 0 1 4 (some 10) (some 11) (by decide) (by decide) (by decide) (by decide) x5 x
  · exact pairPiece 0 1 2 (some 8) (some 9) (by decide) (by decide) (by decide) (by decide) x5 x
  · exact pairPiece 0 1 0 (some 6) (some 7) (by decide) (by decide) (by decide) (by decide) x5 x
  · exact pairPiece 0 0 10 none none (by decide) (by decide) (by decide) (by decide) x5 x
  · exact pairPiece 0 0 8 none none (by decide) (by decide) (by decide) (by decide) x5 x
  · exact pairPiece 0 0 6 (some 13) (some 14) (by decide) (by decide) (by decide) (by decide) x5 x
  · exact pairPiece 0 0 4 (some 11) (some 12) (by decide) (by decide) (by decide) (by decide) x5 x
  · exact pairPiece 0 0 2 (some 9) (some 10) (by decide) (by decide) (by decide) (by decide) x5 x
  · exact pairPiece 0 0 0 (some 7) (some 8) (by decide) (by decide) (by decide) (by decide) x5 x

end Cert.Proof
-- ==== Proof.Heads.lean ====
/- What a grid point of either batch writes, and what it leaves in the bias scratch. -/
module

public import proofs.«01_k».proof.Proof.Bias

@[expose] public section

set_option maxRecDepth 16384

noncomputable section

namespace Cert.Proof

open Cert.KernelIdeal Cert.KernelIdeal.Gen Idealize.ShloMosaic Idealize.ShloMosaic.TcCoe Idealize.SL.Sem

set_option maxHeartbeats 4000000 in
/-- What the first grid point of a head writes. -/
theorem outA_eq (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x15x128 .f32) (harg7 : arg7.IsWhole) (arg8 : Memref sig .tc .vmem S4096x128 .bf16) (harg8 : arg8.IsWhole) (arg9 : Memref sig .tc .vmem S15x64x128 .f32) (harg9 : arg9.IsWhole) (arg10 : Memref sig .tc .vmem S3x256x768 .f32) (harg10 : arg10.IsWhole) (arg11 : Memref sig .tc .vmem S4096x256 .bf16) (harg11 : arg11.IsWhole) (arg12 : Memref sig .tc .vmem S256x256 .bf16) (harg12 : arg12.IsWhole) (hc0 : cond0_0 i) (x0 : Vec Ideal S4096x128 .bf16) (x1 : Vec Ideal S4096x128 .bf16) (x2 : Vec Ideal S4096x128 .bf16) (x3 : Vec Ideal S256x128 .bf16) (x4 : Vec Ideal S256x128 .bf16) (x5 : Vec Ideal S1x15x128 .f32) :
    out0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5 = attn x0 x1 x2 x3 x4 (biasSpec x5) := by
  have hs : View.canon (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.1 = biasSpec x5 := by
    rw [← soutA_eq c i arg2 harg2 arg3 harg3 arg4 harg4 arg5 harg5 arg6 harg6 arg7 harg7 arg8 harg8 arg9 harg9 arg10 harg10 arg11 harg11 arg12 harg12 hc0 x0 x1 x2 x3 x4 x5]
    unfold sout0_A_1
    rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5)]
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 x0 x1 x2 x3 x4 x5)]
  funext y
  refine View.canon_apply_of_pieces _ _ ?_ y (cover0_A_6 c i arg2 harg2 arg3 harg3 arg4 harg4 arg5 harg5 arg6 harg6 arg7 harg7 arg8 harg8 arg9 harg9 arg10 harg10 arg11 harg11 arg12 harg12 hc0 x0 x1 x2 x3 x4 x5 y)
  have z0 : (![0, 0] : Fin 2 → ℕ) = fun _ => 0 := by decide
  have hv : ∀ L r h h', L = ([⟨Rect.unit (s := S4096x256) ![0, 128] ![4096, 128] h, k0_pay112 (F := Ideal)⟩,
      ⟨Rect.unit (s := S4096x256) ![0, 0] ![4096, 128] h', k0_pay111 (F := Ideal) x2⟩] : List (View.Piece (Elt Ideal) S4096x256 .bf16)) →
      arg11.view.readCov L (Rect.toLoadRect r) = View.ld (ext x2) r := fun L r h h' hL => by
    rw [View.readCov_eq_canon', hL, canon_ext]
  have hu : ∀ L r h h', L = ([⟨Rect.unit (s := S256x256) ![0, 128] ![256, 128] h, k0_pay114 (F := Ideal)⟩,
      ⟨Rect.unit (s := S256x256) ![0, 0] ![256, 128] h', k0_pay113 (F := Ideal) x4⟩] : List (View.Piece (Elt Ideal) S256x256 .bf16)) →
      arg12.view.readCov L (Rect.toLoadRect r) = View.ld (extc x4) r := fun L r h h' hL => by
    rw [View.readCov_eq_canon', hL, canon_extc]
  suffices H : (∀ r, arg10.view.readCov (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).2.1 (Rect.toLoadRect r) = View.ld (Val := Elt Ideal) (biasSpec x5) r) →
      ∀ p ∈ (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5).1, ∀ x, p.2 x = attn x0 x1 x2 x3 x4 (biasSpec x5) (p.1.emb x) from
    H fun r => by rw [View.readCov_eq_canon', hs]
  clear hs
  unfold kernelRun0_A
  dsimp only
  sl_unfold_words
  simp only [View.readAt_eq_ld, harg2.read_unread, harg3.read_unread, harg4.read_unread, harg5.read_unread, harg6.read_unread, harg7.read_unread,
    View.ld_unit_zero (S := S4096x128) z0, View.ld_unit_zero (S := S256x128) z0]
  intro hb
  simp only [hb]
  simp only [fun r h h' => hv _ r h h' rfl, fun r h h' => hu _ r h h' rfl, View.ld_unit_zero (S := S256x256) z0]
  exact View.PiecesOf.mem ⟨fun x => piece 15 3328 2 (by decide) (by decide) (by decide) _ _ _ _ x0 x1 x2 x3 x4 (biasSpec x5) x,
    fun x => piece 14 3328 1 (by decide) (by decide) (by decide) _ _ _ _ x0 x1 x2 x3 x4 (biasSpec x5) x,
    fun x => piece 13 3072 1 (by decide) (by decide) (by decide) _ _ _ _ x0 x1 x2 x3 x4 (biasSpec x5) x,
    fun x => piece 12 2816 1 (by decide) (by decide) (by decide) _ _ _ _ x0 x1 x2 x3 x4 (biasSpec x5) x,
    fun x => piece 11 2560 1 (by decide) (by decide) (by decide) _ _ _ _ x0 x1 x2 x3 x4 (biasSpec x5) x,
    fun x => piece 10 2304 1 (by decide) (by decide) (by decide) _ _ _ _ x0 x1 x2 x3 x4 (biasSpec x5) x,
    fun x => piece 9 2048 1 (by decide) (by decide) (by decide) _ _ _ _ x0 x1 x2 x3 x4 (biasSpec x5) x,
    fun x => piece 8 1792 1 (by decide) (by decide) (by decide) _ _ _ _ x0 x1 x2 x3 x4 (biasSpec x5) x,
    fun x => piece 7 1536 1 (by decide) (by decide) (by decide) _ _ _ _ x0 x1 x2 x3 x4 (biasSpec x5) x,
    fun x => piece 6 1280 1 (by decide) (by decide) (by decide) _ _ _ _ x0 x1 x2 x3 x4 (biasSpec x5) x,
    fun x => piece 5 1024 1 (by decide) (by decide) (by decide) _ _ _ _ x0 x1 x2 x3 x4 (biasSpec x5) x,
    fun x => piece 4 768 1 (by decide) (by decide) (by decide) _ _ _ _ x0 x1 x2 x3 x4 (biasSpec x5) x,
    fun x => piece 3 512 1 (by decide) (by decide) (by decide) _ _ _ _ x0 x1 x2 x3 x4 (biasSpec x5) x,
    fun x => piece 2 256 1 (by decide) (by decide) (by decide) _ _ _ _ x0 x1 x2 x3 x4 (biasSpec x5) x,
    fun x => piece 1 0 1 (by decide) (by decide) (by decide) _ _ _ _ x0 x1 x2 x3 x4 (biasSpec x5) x,
    fun x => piece 0 0 0 (by decide) (by decide) (by decide) _ _ _ _ x0 x1 x2 x3 x4 (biasSpec x5) x, trivial⟩

end Cert.Proof
-- ==== Proof.NaValue.lean ====
/- What the attention kernel leaves in its result, at an index: the block of the head and batch the index lies in, read off
   the arguments. -/
module

public import proofs.«01_k».proof.Proof.Heads
public import Idealize.ShloMosaic.Lib.StableHlo.ReadAt

@[expose] public section

set_option maxRecDepth 16384

noncomputable section

namespace Cert.Proof

open Cert.KernelIdeal Cert.KernelIdeal.Gen Cert.KernelIdeal.Value Idealize.ShloMosaic Idealize.ShloMosaic.TcCoe Idealize.SL.Sem

variable (m : (ℓ : Loc nD τ sig) → Buf (Elt Ideal) ℓ)

theorem t_lt (t : Fin cfg0.N) : t.val < 32 := t.isLt.trans_eq N_0

theorem index_facts : ∀ t : Fin grid0.N, win0_0.index t = ![t.val % 2, t.val / 2] ∧ win0_1.index t = ![t.val % 2, 16 + t.val / 2]
    ∧ win0_2.index t = ![t.val % 2, 32 + t.val / 2] ∧ win0_3.index t = ![t.val % 2, t.val / 2]
    ∧ win0_4.index t = ![t.val % 2, 16 + t.val / 2] ∧ win0_5.index t = ![t.val / 2, 0, 0] := by
  decide +kernel

theorem lit_tab : ∀ x : Fin 128, min ((broadcastInDim S128x1 ![0] bcast_S128_S128x1_0
        (select (constantI S128 1 0#1)
          (addi (fun i => lit0 (S128.rowMajor i)) (broadcastInDim S128 ![] bcast_S_S128 (constantI S_ 32 31#32)))
          fun i => lit0 (S128.rowMajor i)) (ix2 x 0)).toInt).toNat 30 = min (max x.val 48) 78 - 48 := by
  decide +kernel

theorem diag_at (c : Dev nD) (h : Fin 16) (dr : Fin 15) (x : Fin 128) :
    V m c main_v4 (ix3 h dr x) = m ((c : Thread nD τ).loc main_arg2) (ix3 h dr ⟨min (max x.val 48) 78 - 48, by omega⟩) := by
  unfold V
  after_reads_at
  refine congrArg (m _) (funext fun a => Fin.ext ?_)
  match a with
  | ⟨0, _⟩ =>
    show (0 + 0 + h.val) = h.val
    omega
  | ⟨1, _⟩ =>
    show (0 + 0 + dr.val) = dr.val
    omega
  | ⟨2, _⟩ => exact lit_tab x

theorem iblk0_apply (c : Dev nD) (t : Fin cfg0.N) (r : Fin 4096) (x : Fin 128) :
    iblk m c 0 t (ix2 r x) = m ((c : Thread nD τ).loc main_arg0)
      (ix2 ⟨t.val % 2 * 4096 + r.val, by have := r.isLt; omega⟩ ⟨t.val / 2 * 128 + x.val, by have := t_lt t; have := x.isLt; omega⟩) := by
  unfold iblk
  show V m c main_arg0 (((cfg0.win 0).blk t).view.emb (ix2 r x)) = _
  rw [V_main_arg0]
  refine congrArg (m _) (funext fun a => Fin.ext ?_)
  have hx := (index_facts t).1
  match a with
  | ⟨0, _⟩ =>
    show win0_0.index t 0 * 4096 + 1 * r.val = t.val % 2 * 4096 + r.val
    rw [hx]
    show t.val % 2 * 4096 + 1 * r.val = t.val % 2 * 4096 + r.val
    omega
  | ⟨1, _⟩ =>
    show win0_0.index t 1 * 128 + 1 * x.val = t.val / 2 * 128 + x.val
    rw [hx]
    show (t.val / 2) * 128 + 1 * x.val = t.val / 2 * 128 + x.val
    omega

theorem iblk1_apply (c : Dev nD) (t : Fin cfg0.N) (r : Fin 4096) (x : Fin 128) :
    iblk m c 1 t (ix2 r x) = m ((c : Thread nD τ).loc main_arg0)
      (ix2 ⟨t.val % 2 * 4096 + r.val, by have := r.isLt; omega⟩ ⟨2048 + (t.val / 2 * 128 + x.val), by have := t_lt t; have := x.isLt; omega⟩) := by
  unfold iblk
  show V m c main_arg0 (((cfg0.win 1).blk t).view.emb (ix2 r x)) = _
  rw [V_main_arg0]
  refine congrArg (m _) (funext fun a => Fin.ext ?_)
  have hx := (index_facts t).2.1
  match a with
  | ⟨0, _⟩ =>
    show win0_1.index t 0 * 4096 + 1 * r.val = t.val % 2 * 4096 + r.val
    rw [hx]
    show t.val % 2 * 4096 + 1 * r.val = t.val % 2 * 4096 + r.val
    omega
  | ⟨1, _⟩ =>
    show win0_1.index t 1 * 128 + 1 * x.val = 2048 + (t.val / 2 * 128 + x.val)
    rw [hx]
    show (16 + t.val / 2) * 128 + 1 * x.val = 2048 + (t.val / 2 * 128 + x.val)
    omega

theorem iblk2_apply (c : Dev nD) (t : Fin cfg0.N) (r : Fin 4096) (x : Fin 128) :
    iblk m c 2 t (ix2 r x) = m ((c : Thread nD τ).loc main_arg0)
      (ix2 ⟨t.val % 2 * 4096 + r.val, by have := r.isLt; omega⟩ ⟨4096 + (t.val / 2 * 128 + x.val), by have := t_lt t; have := x.isLt; omega⟩) := by
  unfold iblk
  show V m c main_arg0 (((cfg0.win 2).blk t).view.emb (ix2 r x)) = _
  rw [V_main_arg0]
  refine congrArg (m _) (funext fun a => Fin.ext ?_)
  have hx := (index_facts t).2.2.1
  match a with
  | ⟨0, _⟩ =>
    show win0_2.index t 0 * 4096 + 1 * r.val = t.val % 2 * 4096 + r.val
    rw [hx]
    show t.val % 2 * 4096 + 1 * r.val = t.val % 2 * 4096 + r.val
    omega
  | ⟨1, _⟩ =>
    show win0_2.index t 1 * 128 + 1 * x.val = 4096 + (t.val / 2 * 128 + x.val)
    rw [hx]
    show (32 + t.val / 2) * 128 + 1 * x.val = 4096 + (t.val / 2 * 128 + x.val)
    omega

theorem iblk3_apply (c : Dev nD) (t : Fin cfg0.N) (r : Fin 256) (x : Fin 128) :
    iblk m c 3 t (ix2 r x) = m ((c : Thread nD τ).loc main_arg1)
      (ix2 ⟨t.val % 2 * 256 + r.val, by have := r.isLt; omega⟩ ⟨t.val / 2 * 128 + x.val, by have := t_lt t; have := x.isLt; omega⟩) := by
  unfold iblk
  show V m c main_arg1 (((cfg0.win 3).blk t).view.emb (ix2 r x)) = _
  rw [V_main_arg1]
  refine congrArg (m _) (funext fun a => Fin.ext ?_)
  have hx := (index_facts t).2.2.2.1
  match a with
  | ⟨0, _⟩ =>
    show win0_3.index t 0 * 256 + 1 * r.val = t.val % 2 * 256 + r.val
    rw [hx]
    show t.val % 2 * 256 + 1 * r.val = t.val % 2 * 256 + r.val
    omega
  | ⟨1, _⟩ =>
    show win0_3.index t 1 * 128 + 1 * x.val = t.val / 2 * 128 + x.val
    rw [hx]
    show (t.val / 2) * 128 + 1 * x.val = t.val / 2 * 128 + x.val
    omega

theorem iblk4_apply (c : Dev nD) (t : Fin cfg0.N) (r : Fin 256) (x : Fin 128) :
    iblk m c 4 t (ix2 r x) = m ((c : Thread nD τ).loc main_arg1)
      (ix2 ⟨t.val % 2 * 256 + r.val, by have := r.isLt; omega⟩ ⟨2048 + (t.val / 2 * 128 + x.val), by have := t_lt t; have := x.isLt; omega⟩) := by
  unfold iblk
  show V m c main_arg1 (((cfg0.win 4).blk t).view.emb (ix2 r x)) = _
  rw [V_main_arg1]
  refine congrArg (m _) (funext fun a => Fin.ext ?_)
  have hx := (index_facts t).2.2.2.2.1
  match a with
  | ⟨0, _⟩ =>
    show win0_4.index t 0 * 256 + 1 * r.val = t.val % 2 * 256 + r.val
    rw [hx]
    show t.val % 2 * 256 + 1 * r.val = t.val % 2 * 256 + r.val
    omega
  | ⟨1, _⟩ =>
    show win0_4.index t 1 * 128 + 1 * x.val = 2048 + (t.val / 2 * 128 + x.val)
    rw [hx]
    show (16 + t.val / 2) * 128 + 1 * x.val = 2048 + (t.val / 2 * 128 + x.val)
    omega

theorem iblk5_apply (c : Dev nD) (t : Fin cfg0.N) (dr : Fin 15) (x : Fin 128) :
    iblk m c 5 t (ix3 0 dr x) = m ((c : Thread nD τ).loc main_arg2)
      (ix3 ⟨t.val / 2, by have := t_lt t; omega⟩ dr ⟨min (max x.val 48) 78 - 48, by omega⟩) := by
  refine Eq.trans ?_ (diag_at m c ⟨t.val / 2, by have := t_lt t; omega⟩ dr x)
  unfold iblk
  show V m c main_v4 (((cfg0.win 5).blk t).view.emb (ix3 0 dr x)) = _
  refine congrArg (V m c main_v4) (funext fun a => Fin.ext ?_)
  have hx := (index_facts t).2.2.2.2.2
  match a with
  | ⟨0, _⟩ =>
    show win0_5.index t 0 * 1 + 1 * 0 = t.val / 2
    rw [hx]
    show t.val / 2 * 1 + 1 * 0 = t.val / 2
    omega
  | ⟨1, _⟩ =>
    show win0_5.index t 1 * 15 + 1 * dr.val = dr.val
    rw [hx]
    show 0 * 15 + 1 * dr.val = dr.val
    omega
  | ⟨2, _⟩ =>
    show win0_5.index t 2 * 128 + 1 * x.val = x.val
    rw [hx]
    show 0 * 128 + 1 * x.val = x.val
    omega

theorem iblk5_eq (c : Dev nD) (t t' : Fin cfg0.N) (h : t.val / 2 = t'.val / 2) : iblk m c 5 t = iblk m c 5 t' := by
  funext y
  obtain ⟨z, dr, x, rfl⟩ : ∃ z dr x, y = ix3 z dr x := ⟨_, _, _, eq_ix3 (n0 := 1) (n1 := 15) (n2 := 128) y⟩
  obtain rfl : z = 0 := Subsingleton.elim _ _
  rw [iblk5_apply, iblk5_apply]
  refine congrArg (m _) (funext fun a => Fin.ext ?_)
  match a with
  | ⟨0, _⟩ => exact h
  | ⟨1, _⟩ => rfl
  | ⟨2, _⟩ => rfl

theorem even_scratch (c : Dev nD) (t : Fin cfg0.N) (h0 : t.val % 2 = 0) :
    (outsAt0 m c t.val t.isLt).2 = biasSpec (iblk m c 5 t) := by
  rw [outsAt0_A m c t h0]
  dsimp only
  rw [soutA_eq]

theorem outsAt_eq (c : Dev nD) (t : Fin cfg0.N) :
    (outsAt0 m c t.val t.isLt).1
      = attn (iblk m c 0 t) (iblk m c 1 t) (iblk m c 2 t) (iblk m c 3 t) (iblk m c 4 t) (biasSpec (iblk m c 5 t)) := by
  by_cases h0 : t.val % 2 = 0
  · rw [outsAt0_A m c t h0]
    dsimp only
    rw [outA_eq]
  · have h1 : (t.val - 1) % 2 = 0 := by omega
    have h2 := even_scratch m c ⟨t.val - 1, Nat.lt_of_le_of_lt (Nat.sub_le _ _) t.isLt⟩ h1
    rw [iblk5_eq m c _ t (by show (t.val - 1) / 2 = t.val / 2; omega)] at h2
    rw [outsAt0_B m c t h0]
    dsimp only
    rw [outB_eq]
    exact congrArg (attn _ _ _ _ _) h2

/-- The point that writes the block of the index. -/
def ptOf (i : S8192x2048.Idx) : Fin cfg0.N := ⟨pt6Of i, by
  have h0 : (i 0).val < 8192 := (i 0).isLt
  have h1 : (i 1).val < 2048 := (i 1).isLt
  rw [show cfg0.N = 32 from N_0]
  show 1 * ((i 0).val / 4096 - 0) + 2 * ((i 1).val / 128 - 0) < 32
  omega⟩

theorem G6_apply (c : Dev nD) (i : S8192x2048.Idx) :
    G6 m c i = attn (iblk m c 0 (ptOf i)) (iblk m c 1 (ptOf i)) (iblk m c 2 (ptOf i)) (iblk m c 3 (ptOf i)) (iblk m c 4 (ptOf i))
      (biasSpec (iblk m c 5 (ptOf i))) (loc6Of i) := by
  rw [← outsAt_eq]
  unfold G6
  rw [dif_pos (show pt6Of i < cfg0.N from (ptOf i).isLt)]
  rw [outsAt0_sweep]
  rfl

end Cert.Proof
-- ==== Proof.Stages.lean ====
/- The reference's stages as functions of its three arguments, and its result as their composition. -/
module

public import proofs.«01_k».proof.Proof.Gen.ReferenceIdeal.Run
public import Idealize.ShloMosaic.Lib.Pointwise

@[expose] public section

set_option maxRecDepth 16384

noncomputable section

namespace Cert.Proof

open Cert.ReferenceIdeal Cert.ReferenceIdeal.Gen Idealize.ShloMosaic Idealize.ShloMosaic.TcCoe Idealize.SL.Sem

/-- The projections, by batch. -/
def rProj (a0 : Vec Ideal S8192x24576 .bf16) : FVec Ideal S2x4096x24576 .f32 :=
  shapeCast _ (extf .f32 a0 bitsLt_bf16_f32) shapeCasts_S8192x24576_S2x4096x24576

/-- The context's projections, by batch. -/
def rCproj (a1 : Vec Ideal S512x8192 .bf16) : FVec Ideal S2x256x8192 .f32 :=
  shapeCast _ (extf .f32 a1 bitsLt_bf16_f32) shapeCasts_S512x8192_S2x256x8192

/-- The queries, by head and grid place. -/
def rQ (a0 : Vec Ideal S8192x24576 .bf16) : FVec Ideal S2x16x64x64x128 .f32 :=
  shapeCast _ (transpose S2x16x4096x128 [0, 2, 1, 3] (shapeCast _ (extractStridedSlice S2x4096x2048 ![0, 0, 0] (rProj a0) slices_S2x4096x24576_S2x4096x2048_0_0_0) shapeCasts_S2x4096x2048_S2x4096x16x128) transposes_S2x4096x16x128_S2x16x4096x128_0_2_1_3) shapeCasts_S2x16x4096x128_S2x16x64x64x128

/-- The keys. -/
def rK (a0 : Vec Ideal S8192x24576 .bf16) : FVec Ideal S2x16x64x64x128 .f32 :=
  shapeCast _ (transpose S2x16x4096x128 [0, 2, 1, 3] (shapeCast _ (extractStridedSlice S2x4096x2048 ![0, 0, 2048] (rProj a0) slices_S2x4096x24576_S2x4096x2048_0_0_2048) shapeCasts_S2x4096x2048_S2x4096x16x128) transposes_S2x4096x16x128_S2x16x4096x128_0_2_1_3) shapeCasts_S2x16x4096x128_S2x16x64x64x128

/-- The values. -/
def rV (a0 : Vec Ideal S8192x24576 .bf16) : FVec Ideal S2x16x64x64x128 .f32 :=
  shapeCast _ (transpose S2x16x4096x128 [0, 2, 1, 3] (shapeCast _ (extractStridedSlice S2x4096x2048 ![0, 0, 4096] (rProj a0) slices_S2x4096x24576_S2x4096x2048_0_0_4096) shapeCasts_S2x4096x2048_S2x4096x16x128) transposes_S2x4096x16x128_S2x16x4096x128_0_2_1_3) shapeCasts_S2x16x4096x128_S2x16x64x64x128

/-- The context's keys. -/
def rKc (a1 : Vec Ideal S512x8192 .bf16) : FVec Ideal S2x16x256x128 .f32 :=
  transpose S2x16x256x128 [0, 2, 1, 3] (shapeCast _ (extractStridedSlice S2x256x2048 ![0, 0, 0] (rCproj a1) slices_S2x256x8192_S2x256x2048_0_0_0) shapeCasts_S2x256x2048_S2x256x16x128) transposes_S2x256x16x128_S2x16x256x128_0_2_1_3

/-- The context's values. -/
def rVc (a1 : Vec Ideal S512x8192 .bf16) : FVec Ideal S2x16x256x128 .f32 :=
  transpose S2x16x256x128 [0, 2, 1, 3] (shapeCast _ (extractStridedSlice S2x256x2048 ![0, 0, 2048] (rCproj a1) slices_S2x256x8192_S2x256x2048_0_0_2048) shapeCasts_S2x256x2048_S2x256x16x128) transposes_S2x256x16x128_S2x16x256x128_0_2_1_3

/-- The key rows of the window of each query row. -/
def rRows  : IVec S64x8x1 32 :=
  broadcastInDim S64x8x1 ![0, 1] bcast_S64x8_S64x8x1_0_1 (select (cmpi .slt (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![] bcast_S_S64x8 (constantI S_ 32 0#32))) (addi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![] bcast_S_S64x8 (constantI S_ 32 64#32))) (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))))

/-- The keys of the window of each query row. -/
def rKw (a0 : Vec Ideal S8192x24576 .bf16) : FVec Ideal S2x16x64x8x64x128 .f32 :=
  Host.gather gather_S2x16x64x64x128_S64x8x1_S2x16x64x8x64x128_0145_2_n_n_2_2_216164128 (rK a0) rRows

/-- The values of the window of each query row. -/
def rVw (a0 : Vec Ideal S8192x24576 .bf16) : FVec Ideal S2x16x64x8x64x128 .f32 :=
  Host.gather gather_S2x16x64x64x128_S64x8x1_S2x16x64x8x64x128_0145_2_n_n_2_2_216164128 (rV a0) rRows

/-- The places in the bias table of a query and a key of its row window. -/
def rRel  : IVec S64x64x8x64x2 32 :=
  concatenate S64x64x8x64x2 4 [⟨S64x64x8x64x1, (broadcastInDim S64x64x8x64x1 ![0, 1, 2, 3] bcast_S64x64x8x64_S64x64x8x64x1_0_1_2_3 (broadcastInDim S64x64x8x64 ![0, 1, 2, 3] bcast_S64x1x8x1_S64x64x8x64_0_1_2_3 (select (cmpi .slt (broadcastInDim S64x1x8x1 ![0, 2] bcast_S64x8_S64x1x8x1_0_2 (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 7#32)))) (broadcastInDim S64x1x8x1 ![] bcast_S_S64x1x8x1 (constantI S_ 32 0#32))) (addi (broadcastInDim S64x1x8x1 ![0, 2] bcast_S64x8_S64x1x8x1_0_2 (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 7#32)))) (broadcastInDim S64x1x8x1 ![] bcast_S_S64x1x8x1 (constantI S_ 32 15#32))) (broadcastInDim S64x1x8x1 ![0, 2] bcast_S64x8_S64x1x8x1_0_2 (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 7#32)))))))⟩, ⟨S64x64x8x64x1, (broadcastInDim S64x64x8x64x1 ![0, 1, 2, 3] bcast_S64x64x8x64_S64x64x8x64x1_0_1_2_3 (broadcastInDim S64x64x8x64 ![0, 1, 2, 3] bcast_S1x64x1x64_S64x64x8x64_0_1_2_3 (select (cmpi .slt (broadcastInDim S1x64x1x64 ![1, 3] bcast_S64x64_S1x64x1x64_1_3 (addi (minsi (broadcastInDim S64x64 ![] bcast_S_S64x64 (id (constantI S_ 32 15#32))) (maxsi (broadcastInDim S64x64 ![] bcast_S_S64x64 (id (constantI S_ 32 4294967281#32))) (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S64x64 ![] bcast_S_S64x64 (constantI S_ 32 15#32)))) (broadcastInDim S1x64x1x64 ![] bcast_S_S1x64x1x64 (constantI S_ 32 0#32))) (addi (broadcastInDim S1x64x1x64 ![1, 3] bcast_S64x64_S1x64x1x64_1_3 (addi (minsi (broadcastInDim S64x64 ![] bcast_S_S64x64 (id (constantI S_ 32 15#32))) (maxsi (broadcastInDim S64x64 ![] bcast_S_S64x64 (id (constantI S_ 32 4294967281#32))) (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S64x64 ![] bcast_S_S64x64 (constantI S_ 32 15#32)))) (broadcastInDim S1x64x1x64 ![] bcast_S_S1x64x1x64 (constantI S_ 32 31#32))) (broadcastInDim S1x64x1x64 ![1, 3] bcast_S64x64_S1x64x1x64_1_3 (addi (minsi (broadcastInDim S64x64 ![] bcast_S_S64x64 (id (constantI S_ 32 15#32))) (maxsi (broadcastInDim S64x64 ![] bcast_S_S64x64 (id (constantI S_ 32 4294967281#32))) (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S64x64 ![] bcast_S_S64x64 (constantI S_ 32 15#32)))))))⟩] concatenates_S64x64x8x64x1_S64x64x8x64x1_S64x64x8x64x2_d4

/-- The bias of a query and a key of its row window. -/
def rBias (a2 : Vec Ideal S16x15x31 .f32) : FVec Ideal S16x64x64x8x64 .f32 :=
  Host.gather gather_S16x15x31_S64x64x8x64x2_S16x64x64x8x64_0_12_n_n_12_4_1611 a2 rRel

/-- The key columns of the window of each query column. -/
def rOk  : IVec S64x1x64 1 :=
  broadcastInDim S64x1x64 ![0, 2] bcast_S64x64_S64x1x64_0_2 (andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))) (broadcastInDim S64x1 ![] bcast_S_S64x1 (constantI S_ 32 16#32))))))

/-- The scores against the window. -/
def rSw (a0 : Vec Ideal S8192x24576 .bf16) (a2 : Vec Ideal S16x15x31 .f32) : FVec Ideal S2x16x64x64x8x64 .f32 :=
  select (broadcastInDim S2x16x64x64x8x64 ![3, 4, 5] bcast_S64x1x64_S2x16x64x64x8x64_3_4_5 rOk) (addf (mulf (Host.dotGeneral dot_S2x16x64x64x128_S2x16x64x8x64x128_S2x16x64x64x8x64_4_5_3_34_012_012 none (rQ a0) (rKw a0)) (broadcastInDim S2x16x64x64x8x64 ![] bcast_S_S2x16x64x64x8x64 (constant S_ .f32 0x3DB504F3#32))) (broadcastInDim S2x16x64x64x8x64 ![0, 1, 2, 3, 4, 5] bcast_S1x16x64x64x8x64_S2x16x64x64x8x64_0_1_2_3_4_5 (broadcastInDim S1x16x64x64x8x64 ![1, 2, 3, 4, 5] bcast_S16x64x64x8x64_S1x16x64x64x8x64_1_2_3_4_5 (rBias a2)))) (broadcastInDim S2x16x64x64x8x64 ![] bcast_S_S2x16x64x64x8x64 (id (constant S_ .f32 0xFF800000#32)))

/-- The scores against the context. -/
def rSc (a0 : Vec Ideal S8192x24576 .bf16) (a1 : Vec Ideal S512x8192 .bf16) : FVec Ideal S2x16x64x64x256 .f32 :=
  mulf (Host.dotGeneral dot_S2x16x64x64x128_S2x16x256x128_S2x16x64x64x256_4_3_23_2_01_01 none (rQ a0) (rKc a1)) (broadcastInDim S2x16x64x64x256 ![] bcast_S_S2x16x64x64x256 (constant S_ .f32 0x3DB504F3#32))

/-- All the scores of a query. -/
def rS (a0 : Vec Ideal S8192x24576 .bf16) (a1 : Vec Ideal S512x8192 .bf16) (a2 : Vec Ideal S16x15x31 .f32) : FVec Ideal S2x16x64x64x768 .f32 :=
  concatenate S2x16x64x64x768 4 [⟨S2x16x64x64x512, (shapeCast _ (rSw a0 a2) shapeCasts_S2x16x64x64x8x64_S2x16x64x64x512)⟩, ⟨S2x16x64x64x256, (rSc a0 a1)⟩] concatenates_S2x16x64x64x512_S2x16x64x64x256_S2x16x64x64x768_d4

/-- A query's largest score. -/
def rMax (a0 : Vec Ideal S8192x24576 .bf16) (a1 : Vec Ideal S512x8192 .bf16) (a2 : Vec Ideal S16x15x31 .f32) : FVec Ideal S2x16x64x64 .f32 :=
  maximumf (broadcastInDim S2x16x64x64 ![] bcast_S_S2x16x64x64 (constant S_ .f32 0xFF800000#32)) (Host.reduce FloatOps.maximumf (rS a0 a1 a2) (constant S_ .f32 0xFF800000#32) reducesTo_S2x16x64x64x768_S2x16x64x64_d4 h_S_)

/-- The exponentials of the scores less the largest. -/
def rE (a0 : Vec Ideal S8192x24576 .bf16) (a1 : Vec Ideal S512x8192 .bf16) (a2 : Vec Ideal S16x15x31 .f32) : FVec Ideal S2x16x64x64x768 .f32 :=
  Host.exp (subf (rS a0 a1 a2) (broadcastInDim S2x16x64x64x768 ![0, 1, 2, 3, 4] bcast_S2x16x64x64x1_S2x16x64x64x768_0_1_2_3_4 (broadcastInDim S2x16x64x64x1 ![0, 1, 2, 3] bcast_S2x16x64x64_S2x16x64x64x1_0_1_2_3 (rMax a0 a1 a2))))

/-- Their sum. -/
def rSum (a0 : Vec Ideal S8192x24576 .bf16) (a1 : Vec Ideal S512x8192 .bf16) (a2 : Vec Ideal S16x15x31 .f32) : FVec Ideal S2x16x64x64 .f32 :=
  Host.reduceAdd (rE a0 a1 a2) (constant S_ .f32 0x00000000#32) reducesTo_S2x16x64x64x768_S2x16x64x64_d4 h_S_

/-- The softmax. -/
def rP (a0 : Vec Ideal S8192x24576 .bf16) (a1 : Vec Ideal S512x8192 .bf16) (a2 : Vec Ideal S16x15x31 .f32) : FVec Ideal S2x16x64x64x768 .f32 :=
  Host.divf (rE a0 a1 a2) (broadcastInDim S2x16x64x64x768 ![0, 1, 2, 3, 4] bcast_S2x16x64x64x1_S2x16x64x64x768_0_1_2_3_4 (broadcastInDim S2x16x64x64x1 ![0, 1, 2, 3] bcast_S2x16x64x64_S2x16x64x64x1_0_1_2_3 (rSum a0 a1 a2)))

/-- The attention, by head and grid place. -/
def rAtt (a0 : Vec Ideal S8192x24576 .bf16) (a1 : Vec Ideal S512x8192 .bf16) (a2 : Vec Ideal S16x15x31 .f32) : FVec Ideal S2x16x64x64x128 .f32 :=
  addf (Host.dotGeneral dot_S2x16x64x64x8x64_S2x16x64x8x64x128_S2x16x64x64x128_54_43_3_5_012_012 none (shapeCast _ (extractStridedSlice S2x16x64x64x512 ![0, 0, 0, 0, 0] (rP a0 a1 a2) slices_S2x16x64x64x768_S2x16x64x64x512_0_0_0_0_0) shapeCasts_S2x16x64x64x512_S2x16x64x64x8x64) (rVw a0)) (Host.dotGeneral dot_S2x16x64x64x256_S2x16x256x128_S2x16x64x64x128_4_2_23_3_01_01 none (extractStridedSlice S2x16x64x64x256 ![0, 0, 0, 0, 512] (rP a0 a1 a2) slices_S2x16x64x64x768_S2x16x64x64x256_0_0_0_0_512) (rVc a1))

/-- The result. -/
def rOut (a0 : Vec Ideal S8192x24576 .bf16) (a1 : Vec Ideal S512x8192 .bf16) (a2 : Vec Ideal S16x15x31 .f32) : Vec Ideal S8192x2048 .bf16 :=
  truncf .bf16 (shapeCast _ (shapeCast _ (transpose S2x4096x16x128 [0, 2, 1, 3] (shapeCast _ (rAtt a0 a1 a2) shapeCasts_S2x16x64x64x128_S2x16x4096x128) transposes_S2x16x4096x128_S2x4096x16x128_0_2_1_3) shapeCasts_S2x4096x16x128_S2x4096x2048) shapeCasts_S2x4096x2048_S8192x2048) bitsLt_bf16_f32

theorem res_eq (m : (ℓ : Loc nD τ sig) → Buf (Elt Ideal) ℓ) (c : Dev nD) :
    Cert.ReferenceIdeal.Value.res_out0 m c = rOut (m ((c.tc : Thread nD τ).loc main_arg0)) (m ((c.tc : Thread nD τ).loc main_arg1))
      (m ((c.tc : Thread nD τ).loc main_arg2)) := rfl

end Cert.Proof
-- ==== Proof.RefRead.lean ====
/- The reference's stages, read at an index. -/
module

public import proofs.«01_k».proof.Proof.Stages
public import proofs.«01_k».proof.Proof.Rows

@[expose] public section

set_option maxRecDepth 16384

noncomputable section

namespace Cert.Proof

open Cert.ReferenceIdeal Cert.ReferenceIdeal.Gen Idealize.ShloMosaic Idealize.ShloMosaic.TcCoe Idealize.SL.Sem

/-- The key row of the window of query row `r` at place `w`. -/
def keyRow (r : Fin 64) (w : Fin 8) : Fin 64 := ⟨min (max r.val 4 - 4) 56 + w.val, by omega⟩

theorem rRows_apply : ∀ (r : Fin 64) (w : Fin 8), min ((rRows (ix3 r w 0)).toInt).toNat 63 = (keyRow r w).val := by
  decide +kernel

theorem gatherRow (X : FVec Ideal S2x16x64x64x128 .f32) (b : Fin 2) (h : Fin 16) (r k : Fin 64) (w : Fin 8) (d : Fin 128) :
    Host.gather gather_S2x16x64x64x128_S64x8x1_S2x16x64x8x64x128_0145_2_n_n_2_2_216164128 X rRows (ix6 b h r w k d)
      = X (ix5 b h (keyRow r w) k d) := by
  refine congrArg X (funext fun a => Fin.ext ?_)
  match a with
  | ⟨0, _⟩ =>
    show (0 + 0 + b.val) = b.val
    omega
  | ⟨1, _⟩ =>
    show (0 + 0 + h.val) = h.val
    omega
  | ⟨2, _⟩ => exact rRows_apply r w
  | ⟨3, _⟩ =>
    show (0 + 0 + k.val) = k.val
    omega
  | ⟨4, _⟩ =>
    show (0 + 0 + d.val) = d.val
    omega

/-- The row of the projections' array of a batch and a grid place. -/
def tokIx (b : Fin 2) (r q : Fin 64) : Fin 8192 := ⟨b.val * 4096 + (r.val * 64 + q.val), by have := b.isLt; have := r.isLt; have := q.isLt; omega⟩

/-- The row of the context's array of a batch and a place. -/
def ctxIx (b : Fin 2) (k : Fin 256) : Fin 512 := ⟨b.val * 256 + k.val, by have := b.isLt; have := k.isLt; omega⟩

theorem rQ_apply (a0 : Vec Ideal S8192x24576 .bf16) (b : Fin 2) (h : Fin 16) (r q : Fin 64) (d : Fin 128) :
    rQ a0 (ix5 b h r q d) = a0 (ix2 (tokIx b r q) ⟨h.val * 128 + d.val, by have := h.isLt; have := d.isLt; omega⟩) := by
  pointwise [rQ, rProj]
  rfl

theorem rK_apply (a0 : Vec Ideal S8192x24576 .bf16) (b : Fin 2) (h : Fin 16) (r q : Fin 64) (d : Fin 128) :
    rK a0 (ix5 b h r q d) = a0 (ix2 (tokIx b r q) ⟨2048 + (h.val * 128 + d.val), by have := h.isLt; have := d.isLt; omega⟩) := by
  pointwise [rK, rProj]
  rfl

theorem rV_apply (a0 : Vec Ideal S8192x24576 .bf16) (b : Fin 2) (h : Fin 16) (r q : Fin 64) (d : Fin 128) :
    rV a0 (ix5 b h r q d) = a0 (ix2 (tokIx b r q) ⟨4096 + (h.val * 128 + d.val), by have := h.isLt; have := d.isLt; omega⟩) := by
  pointwise [rV, rProj]
  rfl

theorem rKc_apply (a1 : Vec Ideal S512x8192 .bf16) (b : Fin 2) (h : Fin 16) (k : Fin 256) (d : Fin 128) :
    rKc a1 (ix4 b h k d) = a1 (ix2 (ctxIx b k) ⟨h.val * 128 + d.val, by have := h.isLt; have := d.isLt; omega⟩) := by
  pointwise [rKc, rCproj]
  rfl

theorem rVc_apply (a1 : Vec Ideal S512x8192 .bf16) (b : Fin 2) (h : Fin 16) (k : Fin 256) (d : Fin 128) :
    rVc a1 (ix4 b h k d) = a1 (ix2 (ctxIx b k) ⟨2048 + (h.val * 128 + d.val), by have := h.isLt; have := d.isLt; omega⟩) := by
  pointwise [rVc, rCproj]
  rfl

theorem rOk_apply (q k : Fin 64) : rOk (ix3 q 0 k) = if colOk q.val k.val then 1#1 else 0#1 := by
  have h := in_window ⟨min (max q.val 8 - 8) 48, by omega⟩ k
  pointwise [rOk]
  refine Eq.trans ?_ h
  dsimp only
  rw [← win_start]
  rfl

/-- The row distance, shifted by seven. -/
def relRow (r : Fin 64) (w : Fin 8) : Fin 15 := ⟨(keyRow r w).val + 7 - r.val, by
  have := r.isLt; have := w.isLt; show min (max r.val 4 - 4) 56 + w.val + 7 - r.val < 15; omega⟩

/-- The column distance, clipped to fifteen and shifted by fifteen. -/
def relCol (q k : Fin 64) : Fin 31 := ⟨min (k.val + 15 - q.val) 30, by omega⟩

theorem rRel_row (r q : Fin 64) (w : Fin 8) (k : Fin 64) : min ((rRel (ix5 r q w k 0)).toInt).toNat 14 = (relRow r w).val := by
  pointwise [rRel]
  clear q k
  revert r w
  decide +kernel

theorem rRel_col (r q : Fin 64) (w : Fin 8) (k : Fin 64) : min ((rRel (ix5 r q w k 1)).toInt).toNat 30 = (relCol q k).val := by
  pointwise [rRel]
  clear r w
  revert q k
  decide +kernel

theorem gatherBias (a2 : Vec Ideal S16x15x31 .f32) (I : IVec S64x64x8x64x2 32) (h : Fin 16) (r q : Fin 64) (w : Fin 8) (k : Fin 64) :
    Host.gather gather_S16x15x31_S64x64x8x64x2_S16x64x64x8x64_0_12_n_n_12_4_1611 a2 I (ix5 h r q w k)
      = a2 (ix3 h ⟨min ((I (ix5 r q w k 0)).toInt).toNat 14, by omega⟩ ⟨min ((I (ix5 r q w k 1)).toInt).toNat 30, by omega⟩) := by
  have e0 : gather_S16x15x31_S64x64x8x64x2_S16x64x64x8x64_0_12_n_n_12_4_1611.siIdx (ix5 h r q w k) (0 : Fin 2) = ix5 r q w k 0 :=
    funext fun b => Fin.ext (match b with
      | ⟨0, _⟩ => rfl
      | ⟨1, _⟩ => rfl
      | ⟨2, _⟩ => rfl
      | ⟨3, _⟩ => rfl
      | ⟨4, _⟩ => rfl)
  have e1 : gather_S16x15x31_S64x64x8x64x2_S16x64x64x8x64_0_12_n_n_12_4_1611.siIdx (ix5 h r q w k) (1 : Fin 2) = ix5 r q w k 1 :=
    funext fun b => Fin.ext (match b with
      | ⟨0, _⟩ => rfl
      | ⟨1, _⟩ => rfl
      | ⟨2, _⟩ => rfl
      | ⟨3, _⟩ => rfl
      | ⟨4, _⟩ => rfl)
  refine congrArg a2 (funext fun a => Fin.ext ?_)
  match a with
  | ⟨0, _⟩ =>
    show (0 + 0 + h.val) = h.val
    omega
  | ⟨1, _⟩ => exact congrArg (fun z => min ((I z).toInt).toNat 14) e0
  | ⟨2, _⟩ => exact congrArg (fun z => min ((I z).toInt).toNat 30) e1

theorem rBias_apply (a2 : Vec Ideal S16x15x31 .f32) (h : Fin 16) (r q : Fin 64) (w : Fin 8) (k : Fin 64) :
    rBias a2 (ix5 h r q w k) = a2 (ix3 h (relRow r w) (relCol q k)) := by
  unfold rBias
  rw [gatherBias]
  exact congrArg₂ (fun x y => a2 (ix3 h x y)) (Fin.ext (rRel_row r q w k)) (Fin.ext (rRel_col r q w k))

end Cert.Proof
-- ==== Proof.RefSoft.lean ====
/- The reference's scores, softmax and weighted sums of values, read at an index. -/
module

public import proofs.«01_k».proof.Proof.RefRead
public import Idealize.ShloMosaic.Lib.IdealHost

@[expose] public section

set_option maxRecDepth 16384

noncomputable section

namespace Cert.Proof

open Cert.ReferenceIdeal Cert.ReferenceIdeal.Gen Idealize.ShloMosaic Idealize.ShloMosaic.TcCoe Idealize.SL.Sem

theorem neg_inf : Ideal.ofBits .f32 0xFF800000#32 = (⊥ : EReal) := by
  simp [Ideal.ofBits, Ideal.ieee]

theorem fold_last {n0 n1 n2 n3 n4 : ℕ} {t u : Shape} (X : FVec Ideal ⟨5, ![n0, n1, n2, n3, n4]⟩ .f32) (init : FVec Ideal u .f32)
    (h : (⟨5, ![n0, n1, n2, n3, n4]⟩ : Shape).ReducesTo [4] t) (hu : 0 < u.numel) (j : t.Idx) :
    Host.reduce FloatOps.maximumf X init h hu j
      = (Finset.univ : Finset (Fin n4)).fold max (init (Shape.Idx.first hu)) (fun k => X (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k)) := by
  have e : (FloatOps.maximumf (F := Ideal) (φ := .f32)) = (max : EReal → EReal → EReal) := rfl
  rw [e, Host.reduce_eq_fold, Shape.ReducesTo.fold_fiber_r5_a4]

theorem red_read (X : FVec Ideal S2x16x64x64x768 .f32) (b : Fin 2) (h : Fin 16) (r q : Fin 64) :
    Host.reduce FloatOps.maximumf X (constant S_ .f32 0xFF800000#32) reducesTo_S2x16x64x64x768_S2x16x64x64_d4 h_S_ (ix4 b h r q)
      = (Finset.univ : Finset (Fin 768)).fold max ((constant (F := Ideal) S_ .f32 0xFF800000#32) (Shape.Idx.first h_S_)) (fun k => X (ix5 b h r q k)) :=
  fold_last X (constant (F := Ideal) S_ .f32 0xFF800000#32) reducesTo_S2x16x64x64x768_S2x16x64x64_d4 h_S_ (ix4 b h r q)

theorem mx_read (Y : FVec Ideal S2x16x64x64 .f32) (b : Fin 2) (h : Fin 16) (r q : Fin 64) :
    maximumf (broadcastInDim S2x16x64x64 ![] bcast_S_S2x16x64x64 (constant S_ .f32 0xFF800000#32)) Y (ix4 b h r q)
      = max (⊥ : EReal) (Y (ix4 b h r q)) := by
  rw [← neg_inf]
  rfl

theorem init_read : ((constant (F := Ideal) S_ .f32 0xFF800000#32) (Shape.Idx.first h_S_)) = (⊥ : EReal) := neg_inf

theorem fold_sup (f : Fin 768 → EReal) : (Finset.univ : Finset (Fin 768)).fold max ⊥ f = Finset.univ.sup f := rfl

theorem max_read (X : FVec Ideal S2x16x64x64x768 .f32) (b : Fin 2) (h : Fin 16) (r q : Fin 64) :
    maximumf (broadcastInDim S2x16x64x64 ![] bcast_S_S2x16x64x64 (constant S_ .f32 0xFF800000#32))
      (Host.reduce FloatOps.maximumf X (constant S_ .f32 0xFF800000#32) reducesTo_S2x16x64x64x768_S2x16x64x64_d4 h_S_) (ix4 b h r q)
      = Finset.univ.sup fun j : Fin 768 => (X (ix5 b h r q j) : EReal) :=
  (mx_read _ b h r q).trans ((congrArg (max ⊥) ((red_read X b h r q).trans
    ((congrArg (fun z => (Finset.univ : Finset (Fin 768)).fold max z (fun k => X (ix5 b h r q k))) init_read).trans
      (fold_sup fun k => X (ix5 b h r q k))))).trans (max_bot_left _))

theorem cat_read (X : FVec Ideal S2x16x64x64x8x64 .f32) (Y : FVec Ideal S2x16x64x64x256 .f32) (b : Fin 2) (h : Fin 16) (r q : Fin 64) (j : Fin 768) :
    concatenate S2x16x64x64x768 4 [⟨S2x16x64x64x512, (shapeCast _ X shapeCasts_S2x16x64x64x8x64_S2x16x64x64x512)⟩, ⟨S2x16x64x64x256, Y⟩]
        concatenates_S2x16x64x64x512_S2x16x64x64x256_S2x16x64x64x768_d4 (ix5 b h r q j)
      = if hj : j.val < 512 then X (ix6 b h r q ⟨j.val / 64, by omega⟩ ⟨j.val % 64, by omega⟩)
        else Y (ix5 b h r q ⟨j.val - 512, by have := j.isLt; omega⟩) := by
  pointwise []

theorem soft_read (X : FVec Ideal S2x16x64x64x768 .f32) (M : FVec Ideal S2x16x64x64 .f32) (b : Fin 2) (h : Fin 16) (r q : Fin 64) (j : Fin 768) :
    Host.exp (subf X (broadcastInDim S2x16x64x64x768 ![0, 1, 2, 3, 4] bcast_S2x16x64x64x1_S2x16x64x64x768_0_1_2_3_4 (broadcastInDim S2x16x64x64x1 ![0, 1, 2, 3] bcast_S2x16x64x64_S2x16x64x64x1_0_1_2_3 M))) (ix5 b h r q j)
      = Ideal.exp (X (ix5 b h r q j) - M (ix4 b h r q)) := by
  pointwise []

theorem sum_read (X : FVec Ideal S2x16x64x64x768 .f32) (b : Fin 2) (h : Fin 16) (r q : Fin 64) :
    Host.reduceAdd X (constant S_ .f32 0x00000000#32) reducesTo_S2x16x64x64x768_S2x16x64x64_d4 h_S_ (ix4 b h r q)
      = ∑ j : Fin 768, X (ix5 b h r q j) := by
  pointwise []

theorem div_read (X : FVec Ideal S2x16x64x64x768 .f32) (M : FVec Ideal S2x16x64x64 .f32) (b : Fin 2) (h : Fin 16) (r q : Fin 64) (j : Fin 768) :
    Host.divf X (broadcastInDim S2x16x64x64x768 ![0, 1, 2, 3, 4] bcast_S2x16x64x64x1_S2x16x64x64x768_0_1_2_3_4 (broadcastInDim S2x16x64x64x1 ![0, 1, 2, 3] bcast_S2x16x64x64_S2x16x64x64x1_0_1_2_3 M)) (ix5 b h r q j)
      = Ideal.div (X (ix5 b h r q j)) (M (ix4 b h r q)) := by
  pointwise []

theorem att_read (P : FVec Ideal S2x16x64x64x768 .f32) (V : FVec Ideal S2x16x64x8x64x128 .f32) (U : FVec Ideal S2x16x256x128 .f32)
    (b : Fin 2) (h : Fin 16) (r q : Fin 64) (d : Fin 128) :
    addf (Host.dotGeneral dot_S2x16x64x64x8x64_S2x16x64x8x64x128_S2x16x64x64x128_54_43_3_5_012_012 none (shapeCast _ (extractStridedSlice S2x16x64x64x512 ![0, 0, 0, 0, 0] P slices_S2x16x64x64x768_S2x16x64x64x512_0_0_0_0_0) shapeCasts_S2x16x64x64x512_S2x16x64x64x8x64) V) (Host.dotGeneral dot_S2x16x64x64x256_S2x16x256x128_S2x16x64x64x128_4_2_23_3_01_01 none (extractStridedSlice S2x16x64x64x256 ![0, 0, 0, 0, 512] P slices_S2x16x64x64x768_S2x16x64x64x256_0_0_0_0_512) U)
        (ix5 b h r q d)
      = (∑ k : Fin 64, ∑ w : Fin 8, P (ix5 b h r q ⟨w.val * 64 + k.val, by have := w.isLt; have := k.isLt; omega⟩) * V (ix6 b h r w k d))
        + ∑ k : Fin 256, P (ix5 b h r q ⟨512 + k.val, by have := k.isLt; omega⟩) * U (ix4 b h k d) := by
  pointwise []

theorem out_read (X : FVec Ideal S2x16x64x64x128 .f32) (i : Fin 8192) (l : Fin 2048) :
    truncf .bf16 (shapeCast S8192x2048 (shapeCast S2x4096x2048 (transpose S2x4096x16x128 [0, 2, 1, 3] (shapeCast S2x16x4096x128 X shapeCasts_S2x16x64x64x128_S2x16x4096x128) transposes_S2x16x4096x128_S2x4096x16x128_0_2_1_3) shapeCasts_S2x4096x16x128_S2x4096x2048) shapeCasts_S2x4096x2048_S8192x2048) bitsLt_bf16_f32 (ix2 i l)
      = X (ix5 ⟨i.val / 4096, by have := i.isLt; omega⟩ ⟨l.val / 128, by have := l.isLt; omega⟩ ⟨i.val % 4096 / 64, by omega⟩ ⟨i.val % 4096 % 64, by omega⟩ ⟨l.val % 128, by omega⟩) := by
  pointwise []

theorem rSw_read (Q : FVec Ideal S2x16x64x64x128 .f32) (K : FVec Ideal S2x16x64x8x64x128 .f32) (O : IVec S64x1x64 1) (B : FVec Ideal S16x64x64x8x64 .f32)
    (b : Fin 2) (h : Fin 16) (r q : Fin 64) (w : Fin 8) (k : Fin 64) :
    select (broadcastInDim S2x16x64x64x8x64 ![3, 4, 5] bcast_S64x1x64_S2x16x64x64x8x64_3_4_5 O) (addf (mulf (Host.dotGeneral dot_S2x16x64x64x128_S2x16x64x8x64x128_S2x16x64x64x8x64_4_5_3_34_012_012 none Q K) (broadcastInDim S2x16x64x64x8x64 ![] bcast_S_S2x16x64x64x8x64 (constant S_ .f32 0x3DB504F3#32))) (broadcastInDim S2x16x64x64x8x64 ![0, 1, 2, 3, 4, 5] bcast_S1x16x64x64x8x64_S2x16x64x64x8x64_0_1_2_3_4_5 (broadcastInDim S1x16x64x64x8x64 ![1, 2, 3, 4, 5] bcast_S16x64x64x8x64_S1x16x64x64x8x64_1_2_3_4_5 B))) (broadcastInDim S2x16x64x64x8x64 ![] bcast_S_S2x16x64x64x8x64 (id (constant S_ .f32 0xFF800000#32))) (ix6 b h r q w k)
      = Scalar.select (O (ix3 q 0 k)) ((∑ x : Fin 128, Q (ix5 b h r q x) * K (ix6 b h r w k x)) * Ideal.ofBits .f32 0x3DB504F3#32 + B (ix5 h r q w k)) ⊥ := by
  rw [← neg_inf]
  pointwise []
  rfl

theorem rSc_read (Q : FVec Ideal S2x16x64x64x128 .f32) (K : FVec Ideal S2x16x256x128 .f32) (b : Fin 2) (h : Fin 16) (r q : Fin 64) (k : Fin 256) :
    mulf (Host.dotGeneral dot_S2x16x64x64x128_S2x16x256x128_S2x16x64x64x256_4_3_23_2_01_01 none Q K) (broadcastInDim S2x16x64x64x256 ![] bcast_S_S2x16x64x64x256 (constant S_ .f32 0x3DB504F3#32)) (ix5 b h r q k)
      = (∑ x : Fin 128, Q (ix5 b h r q x) * K (ix4 b h k x)) * Ideal.ofBits .f32 0x3DB504F3#32 := by
  pointwise []

/-- The score of a query against a key of its window, minus infinity outside the column window. -/
def wScore (a0 : Vec Ideal S8192x24576 .bf16) (a2 : Vec Ideal S16x15x31 .f32) (b : Fin 2) (h : Fin 16) (r q : Fin 64) (p : Fin 8 × Fin 64) : EReal :=
  if colOk q.val p.2.val then
    (∑ x : Fin 128, rQ a0 (ix5 b h r q x) * rK a0 (ix5 b h (keyRow r p.1) p.2 x)) * Ideal.ofBits .f32 0x3DB504F3#32
      + a2 (ix3 h (relRow r p.1) (relCol q p.2))
  else ⊥

/-- The score of a query against a key of the context. -/
def cScore (a0 : Vec Ideal S8192x24576 .bf16) (a1 : Vec Ideal S512x8192 .bf16) (b : Fin 2) (h : Fin 16) (r q : Fin 64) (k : Fin 256) : EReal :=
  (∑ x : Fin 128, rQ a0 (ix5 b h r q x) * rKc a1 (ix4 b h k x)) * Ideal.ofBits .f32 0x3DB504F3#32

/-- The place among a query's 768 scores of a key of its window. -/
def wIx (p : Fin 8 × Fin 64) : Fin 768 := ⟨p.1.val * 64 + p.2.val, by have := p.1.isLt; have := p.2.isLt; omega⟩

/-- The place among a query's 768 scores of a key of the context. -/
def cIx (k : Fin 256) : Fin 768 := ⟨512 + k.val, by have := k.isLt; omega⟩

theorem rSw_apply (a0 : Vec Ideal S8192x24576 .bf16) (a2 : Vec Ideal S16x15x31 .f32) (b : Fin 2) (h : Fin 16) (r q : Fin 64) (w : Fin 8) (k : Fin 64) :
    rSw a0 a2 (ix6 b h r q w k) = wScore a0 a2 b h r q (w, k) := by
  unfold rSw
  rw [rSw_read, rOk_apply, rBias_apply]
  have e : ∀ x : Fin 128, rKw a0 (ix6 b h r w k x) = rK a0 (ix5 b h (keyRow r w) k x) := fun x => by
    unfold rKw
    exact gatherRow _ b h r k w x
  simp only [e]
  unfold wScore
  by_cases hk : colOk q.val k.val
  · rw [if_pos hk, if_pos hk]
    rfl
  · rw [if_neg hk, if_neg hk]
    rfl

theorem rS_win (a0 : Vec Ideal S8192x24576 .bf16) (a1 : Vec Ideal S512x8192 .bf16) (a2 : Vec Ideal S16x15x31 .f32) (b : Fin 2) (h : Fin 16)
    (r q : Fin 64) (p : Fin 8 × Fin 64) : rS a0 a1 a2 (ix5 b h r q (wIx p)) = wScore a0 a2 b h r q p := by
  obtain ⟨w, k⟩ := p
  have hw := w.isLt
  have hk := k.isLt
  unfold rS
  rw [cat_read, dif_pos (show (wIx (w, k)).val < 512 by show w.val * 64 + k.val < 512; omega), ← rSw_apply]
  have e1 : (⟨(wIx (w, k)).val / 64, by have := (wIx (w, k)).isLt; show (w.val * 64 + k.val) / 64 < 8; omega⟩ : Fin 8) = w :=
    Fin.ext (by show (w.val * 64 + k.val) / 64 = w.val; omega)
  have e2 : (⟨(wIx (w, k)).val % 64, by omega⟩ : Fin 64) = k :=
    Fin.ext (by show (w.val * 64 + k.val) % 64 = k.val; omega)
  rw [e1, e2]

theorem rS_ctx (a0 : Vec Ideal S8192x24576 .bf16) (a1 : Vec Ideal S512x8192 .bf16) (a2 : Vec Ideal S16x15x31 .f32) (b : Fin 2) (h : Fin 16)
    (r q : Fin 64) (k : Fin 256) : rS a0 a1 a2 (ix5 b h r q (cIx k)) = cScore a0 a1 b h r q k := by
  unfold rS
  rw [cat_read, dif_neg (show ¬ (cIx k).val < 512 by show ¬ 512 + k.val < 512; omega)]
  have e1 : (⟨(cIx k).val - 512, by have := k.isLt; show 512 + k.val - 512 < 256; omega⟩ : Fin 256) = k :=
    Fin.ext (by show 512 + k.val - 512 = k.val; omega)
  rw [e1]
  unfold rSc
  rw [rSc_read]
  rfl

theorem sum_split (f : Fin 768 → EReal) : ∑ j, f j = ∑ p : Fin 8 × Fin 64, f (wIx p) + ∑ k : Fin 256, f (cIx k) := by
  have h1 : ∑ j : Fin 768, f j = ∑ i : Fin 512, f (Fin.castAdd 256 i) + ∑ k : Fin 256, f (Fin.natAdd 512 k) :=
    Fin.sum_univ_add (a := 512) (b := 256) f
  have h2 : ∑ p : Fin 8 × Fin 64, f (wIx p) = ∑ i : Fin 512, f (Fin.castAdd 256 i) :=
    Fintype.sum_equiv (finProdFinEquiv (m := 8) (n := 64)) _ _ fun p => congrArg f (Fin.ext (by
      show p.1.val * 64 + p.2.val = p.2.val + 64 * p.1.val
      omega))
  rw [h1, h2]
  rfl

theorem sup_split (f : Fin 768 → EReal) :
    Finset.univ.sup f = Finset.univ.sup (fun p : Fin 8 × Fin 64 => f (wIx p)) ⊔ Finset.univ.sup (fun k : Fin 256 => f (cIx k)) := by
  apply le_antisymm
  · refine Finset.sup_le fun j _ => ?_
    have hj := j.isLt
    by_cases h : j.val < 512
    · refine le_trans ?_ le_sup_left
      have e : j = wIx (⟨j.val / 64, by omega⟩, ⟨j.val % 64, by omega⟩) := Fin.ext (by
        show j.val = j.val / 64 * 64 + j.val % 64; omega)
      have h2 := Finset.le_sup (f := fun p : Fin 8 × Fin 64 => f (wIx p)) (Finset.mem_univ ((⟨j.val / 64, by omega⟩, ⟨j.val % 64, by omega⟩) : Fin 8 × Fin 64))
      rw [e]
      exact h2
    · refine le_trans ?_ le_sup_right
      have e : j = cIx ⟨j.val - 512, by omega⟩ := Fin.ext (by
        show j.val = 512 + (j.val - 512); omega)
      have h2 := Finset.le_sup (f := fun k : Fin 256 => f (cIx k)) (Finset.mem_univ (⟨j.val - 512, by omega⟩ : Fin 256))
      rw [e]
      exact h2
  · refine sup_le (Finset.sup_le fun p _ => ?_) (Finset.sup_le fun k _ => ?_)
    · exact Finset.le_sup (f := f) (Finset.mem_univ (wIx p))
    · exact Finset.le_sup (f := f) (Finset.mem_univ (cIx k))

/-- A query's largest score. -/
def top (a0 : Vec Ideal S8192x24576 .bf16) (a1 : Vec Ideal S512x8192 .bf16) (a2 : Vec Ideal S16x15x31 .f32) (b : Fin 2) (h : Fin 16) (r q : Fin 64) : EReal :=
  Finset.univ.sup (wScore a0 a2 b h r q) ⊔ Finset.univ.sup (cScore a0 a1 b h r q)

theorem rMax_apply (a0 : Vec Ideal S8192x24576 .bf16) (a1 : Vec Ideal S512x8192 .bf16) (a2 : Vec Ideal S16x15x31 .f32) (b : Fin 2) (h : Fin 16)
    (r q : Fin 64) : rMax a0 a1 a2 (ix4 b h r q) = top a0 a1 a2 b h r q := by
  unfold rMax
  rw [max_read, sup_split]
  simp only [rS_win, rS_ctx]
  rfl

theorem rE_win (a0 : Vec Ideal S8192x24576 .bf16) (a1 : Vec Ideal S512x8192 .bf16) (a2 : Vec Ideal S16x15x31 .f32) (b : Fin 2) (h : Fin 16)
    (r q : Fin 64) (p : Fin 8 × Fin 64) :
    rE a0 a1 a2 (ix5 b h r q (wIx p)) = Ideal.exp (wScore a0 a2 b h r q p - top a0 a1 a2 b h r q) := by
  unfold rE
  rw [soft_read, rS_win, rMax_apply]

theorem rE_ctx (a0 : Vec Ideal S8192x24576 .bf16) (a1 : Vec Ideal S512x8192 .bf16) (a2 : Vec Ideal S16x15x31 .f32) (b : Fin 2) (h : Fin 16)
    (r q : Fin 64) (k : Fin 256) :
    rE a0 a1 a2 (ix5 b h r q (cIx k)) = Ideal.exp (cScore a0 a1 b h r q k - top a0 a1 a2 b h r q) := by
  unfold rE
  rw [soft_read, rS_ctx, rMax_apply]

/-- The sum of a query's exponentials. -/
def tot (a0 : Vec Ideal S8192x24576 .bf16) (a1 : Vec Ideal S512x8192 .bf16) (a2 : Vec Ideal S16x15x31 .f32) (b : Fin 2) (h : Fin 16) (r q : Fin 64) : EReal :=
  ∑ p, Ideal.exp (wScore a0 a2 b h r q p - top a0 a1 a2 b h r q) + ∑ k, Ideal.exp (cScore a0 a1 b h r q k - top a0 a1 a2 b h r q)

theorem rSum_apply (a0 : Vec Ideal S8192x24576 .bf16) (a1 : Vec Ideal S512x8192 .bf16) (a2 : Vec Ideal S16x15x31 .f32) (b : Fin 2) (h : Fin 16)
    (r q : Fin 64) : rSum a0 a1 a2 (ix4 b h r q) = tot a0 a1 a2 b h r q := by
  unfold rSum
  rw [sum_read, sum_split]
  simp only [rE_win, rE_ctx]
  rfl

theorem rAtt_apply (a0 : Vec Ideal S8192x24576 .bf16) (a1 : Vec Ideal S512x8192 .bf16) (a2 : Vec Ideal S16x15x31 .f32) (b : Fin 2) (h : Fin 16)
    (r q : Fin 64) (d : Fin 128) :
    rAtt a0 a1 a2 (ix5 b h r q d)
      = ∑ p : Fin 8 × Fin 64, Ideal.div (Ideal.exp (wScore a0 a2 b h r q p - top a0 a1 a2 b h r q)) (tot a0 a1 a2 b h r q)
            * rV a0 (ix5 b h (keyRow r p.1) p.2 d)
        + ∑ k : Fin 256, Ideal.div (Ideal.exp (cScore a0 a1 b h r q k - top a0 a1 a2 b h r q)) (tot a0 a1 a2 b h r q)
            * rVc a1 (ix4 b h k d) := by
  have ew : ∀ p : Fin 8 × Fin 64, rP a0 a1 a2 (ix5 b h r q (wIx p))
      = Ideal.div (Ideal.exp (wScore a0 a2 b h r q p - top a0 a1 a2 b h r q)) (tot a0 a1 a2 b h r q) := fun p => by
    unfold rP
    rw [div_read, rE_win, rSum_apply]
  have ec : ∀ k : Fin 256, rP a0 a1 a2 (ix5 b h r q (cIx k))
      = Ideal.div (Ideal.exp (cScore a0 a1 b h r q k - top a0 a1 a2 b h r q)) (tot a0 a1 a2 b h r q) := fun k => by
    unfold rP
    rw [div_read, rE_ctx, rSum_apply]
  have ev : ∀ (w : Fin 8) (k : Fin 64), rVw a0 (ix6 b h r w k d) = rV a0 (ix5 b h (keyRow r w) k d) := fun w k => by
    unfold rVw
    exact gatherRow _ b h r k w d
  unfold rAtt
  rw [att_read]
  refine congrArg₂ (· + ·) ?_ (Finset.sum_congr rfl fun k _ => congrArg (· * rVc a1 (ix4 b h k d)) (ec k))
  rw [Finset.sum_comm, Fintype.sum_prod_type]
  refine Finset.sum_congr rfl fun w _ => Finset.sum_congr rfl fun k _ => ?_
  exact congrArg₂ (· * ·) (ew (w, k)) (ev w k)

/-- The column of a head's entry. -/
def colIx (h : Fin 16) (d : Fin 128) : Fin 2048 := ⟨h.val * 128 + d.val, by have := h.isLt; have := d.isLt; omega⟩

theorem rOut_apply (a0 : Vec Ideal S8192x24576 .bf16) (a1 : Vec Ideal S512x8192 .bf16) (a2 : Vec Ideal S16x15x31 .f32) (b : Fin 2) (h : Fin 16)
    (r q : Fin 64) (d : Fin 128) : rOut a0 a1 a2 (ix2 (tokIx b r q) (colIx h d)) = rAtt a0 a1 a2 (ix5 b h r q d) := by
  have hb := b.isLt
  have hh := h.isLt
  have hr := r.isLt
  have hq := q.isLt
  have hd := d.isLt
  unfold rOut
  rw [out_read]
  refine congrArg (rAtt a0 a1 a2) (funext fun a => Fin.ext ?_)
  match a with
  | ⟨0, _⟩ => show (b.val * 4096 + (r.val * 64 + q.val)) / 4096 = b.val; omega
  | ⟨1, _⟩ => show (h.val * 128 + d.val) / 128 = h.val; omega
  | ⟨2, _⟩ => show (b.val * 4096 + (r.val * 64 + q.val)) % 4096 / 64 = r.val; omega
  | ⟨3, _⟩ => show (b.val * 4096 + (r.val * 64 + q.val)) % 4096 % 64 = q.val; omega
  | ⟨4, _⟩ => show (h.val * 128 + d.val) % 128 = d.val; omega

end Cert.Proof
-- ==== Proof.Softmax.lean ====
/- A softmax-weighted sum over a window of scores and a second list of scores, computed over a wider window whose further
   scores are minus infinity and divided once at the end. Over the extended reals. -/
module

public import Idealize.ShloMosaic.PureOps.Ideal
public import Idealize.ShloMosaic.PureOps.Ideal.Laws

@[expose] public section

noncomputable section

namespace Cert.Proof

open Idealize.ShloMosaic
open scoped BigOperators

variable {ι W C J : Type} [Fintype W] [Fintype C] [Fintype J]

/-- A sum times a real that is not negative is the sum of the products, at infinities too. -/
theorem sum_mul_coe (r : ℝ) (hr : 0 ≤ r) (s : Finset ι) (f : ι → EReal) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of reals, as an extended real. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- Below a real, the exponential of the difference is a real that is not negative. -/
theorem exp_sub_coe (x : EReal) (hx : x ≠ ⊤) (m : ℝ) : ∃ p : ℝ, 0 ≤ p ∧ Ideal.exp (x - (m : EReal)) = (p : EReal) := by
  induction x using EReal.rec with
  | bot => exact ⟨0, le_refl _, by rw [EReal.bot_sub]; rfl⟩
  | coe r => exact ⟨Real.exp (r - m), (Real.exp_pos _).le, by rw [← EReal.coe_sub]; rfl⟩
  | top => exact absurd rfl hx

theorem exp_sub_pos (x : EReal) (hx : x ≠ ⊤) (hb : x ≠ ⊥) (m : ℝ) : ∃ p : ℝ, 0 < p ∧ Ideal.exp (x - (m : EReal)) = (p : EReal) := by
  induction x using EReal.rec with
  | bot => exact absurd rfl hb
  | coe r => exact ⟨Real.exp (r - m), Real.exp_pos _, by rw [← EReal.coe_sub]; rfl⟩
  | top => exact absurd rfl hx

theorem exp_bot_sub (m : EReal) : Ideal.exp (⊥ - m) = 0 := by rw [EReal.bot_sub]; rfl

/-- The greatest of finitely many scores none of which is plus infinity is not plus infinity. -/
theorem sup_ne_top (s : W → EReal) (hs : ∀ w, s w ≠ ⊤) : Finset.univ.sup s ≠ ⊤ := by
  have h : Finset.univ.sup s < ⊤ := (Finset.sup_lt_iff (by exact bot_lt_top)).2 fun w _ => lt_top_iff_ne_top.2 (hs w)
  exact h.ne

/-- Scores that are minus infinity off the image of the window do not change the greatest. -/
theorem sup_embed (s : W → EReal) (t : J → EReal) (e : W → J) (hte : ∀ w, t (e w) = s w)
    (ht : ∀ j, (∀ w, e w ≠ j) → t j = ⊥) : Finset.univ.sup t = Finset.univ.sup s := by
  apply le_antisymm
  · refine Finset.sup_le fun j _ => ?_
    by_cases h : ∃ w, e w = j
    · obtain ⟨w, rfl⟩ := h
      rw [hte]; exact Finset.le_sup (Finset.mem_univ w)
    · rw [ht j fun w hw => h ⟨w, hw⟩]; exact bot_le
  · refine Finset.sup_le fun w _ => ?_
    rw [← hte w]; exact Finset.le_sup (Finset.mem_univ _)

/-- A sum over the wider window whose terms vanish off the image is the sum over the window. -/
theorem sum_embed (f : J → EReal) (e : W → J) (he : Function.Injective e) (hf : ∀ j, (∀ w, e w ≠ j) → f j = 0) :
    ∑ j, f j = ∑ w, f (e w) :=
  (Finset.sum_of_injOn e he.injOn (fun _ _ => Finset.mem_coe.2 (Finset.mem_univ _))
    (fun j _ hj => hf j fun w hw => hj ⟨w, by simp, hw⟩) (fun _ _ => rfl)).symm

/-- THE LAW. Over the wider window and divided once, the weighted sum is the softmax-weighted sum over the window. -/
theorem softmax_window (s : W → EReal) (c : C → EReal) (t : J → EReal) (e : W → J) (he : Function.Injective e)
    (hs : ∀ w, s w ≠ ⊤) (hc : ∀ k, c k ≠ ⊤) (hcb : ∃ k, c k ≠ ⊥) (hte : ∀ w, t (e w) = s w)
    (ht : ∀ j, (∀ w, e w ≠ j) → t j = ⊥) (v : J → EReal) (u : C → EReal) (M M' : EReal)
    (hM : M = Finset.univ.sup t ⊔ Finset.univ.sup c) (hM' : M' = Finset.univ.sup s ⊔ Finset.univ.sup c) :
    Ideal.div (∑ j, Ideal.exp (t j - M) * v j + ∑ k, Ideal.exp (c k - M) * u k)
        (∑ j, Ideal.exp (t j - M) + ∑ k, Ideal.exp (c k - M))
      = ∑ w, Ideal.div (Ideal.exp (s w - M')) (∑ w, Ideal.exp (s w - M') + ∑ k, Ideal.exp (c k - M')) * v (e w)
        + ∑ k, Ideal.div (Ideal.exp (c k - M')) (∑ w, Ideal.exp (s w - M') + ∑ k, Ideal.exp (c k - M')) * u k := by
  rw [sup_embed s t e hte ht, ← hM'] at hM
  subst hM
  have hMtop : M ≠ ⊤ := by
    rw [hM']; exact (max_lt (lt_top_iff_ne_top.2 (sup_ne_top s hs)) (lt_top_iff_ne_top.2 (sup_ne_top c hc))).ne
  have hMbot : M ≠ ⊥ := by
    obtain ⟨k, hk⟩ := hcb
    intro h
    apply hk
    have h1 : c k ≤ M := by rw [hM']; exact le_trans (Finset.le_sup (Finset.mem_univ k)) le_sup_right
    rw [h] at h1; exact le_bot_iff.1 h1
  lift M to ℝ using ⟨hMtop, hMbot⟩
  clear hM' hMtop hMbot
  rw [sum_embed (fun j => Ideal.exp (t j - M) * v j) e he (fun j hj => by rw [ht j hj, exp_bot_sub, zero_mul]),
    sum_embed (fun j => Ideal.exp (t j - M)) e he (fun j hj => by rw [ht j hj, exp_bot_sub])]
  simp only [hte]
  choose p hp0 hp using fun w => exp_sub_coe (s w) (hs w) M
  choose q hq0 hq using fun k => exp_sub_coe (c k) (hc k) M
  simp only [hp, hq, ← coe_sum, ← EReal.coe_add]
  have hpos : 0 < ∑ w, p w + ∑ k, q k := by
    obtain ⟨k, hk⟩ := hcb
    obtain ⟨r, hr, hr'⟩ := exp_sub_pos (c k) (hc k) hk M
    have hqk : 0 < q k := by
      have : (r : EReal) = (q k : EReal) := by rw [← hr', hq]
      have := EReal.coe_injective this
      rw [← this]; exact hr
    exact add_pos_of_nonneg_of_pos (Finset.sum_nonneg fun w _ => hp0 w)
      (Finset.sum_pos' (fun k _ => hq0 k) ⟨k, Finset.mem_univ k, hqk⟩)
  generalize ∑ w, p w + ∑ k, q k = Z at hpos
  have hZ : (0 : ℝ) ≤ 1 / Z := by positivity
  simp only [Ideal.div_coe hpos.ne']
  rw [EReal.right_distrib_of_nonneg_of_ne_top (by exact_mod_cast hZ) (EReal.coe_ne_top _), sum_mul_coe _ hZ, sum_mul_coe _ hZ]
  congr 1
  · exact Finset.sum_congr rfl fun w _ => by rw [mul_assoc, mul_comm (v (e w)), ← mul_assoc]
  · exact Finset.sum_congr rfl fun k _ => by rw [mul_assoc, mul_comm (u k), ← mul_assoc]

end Cert.Proof

end
-- ==== Proof.NaMain.lean ====
/- The attention kernel's result and the reference's, entry by entry. -/
module

public import proofs.«01_k».proof.Proof.NaValue
public import proofs.«01_k».proof.Proof.RefSoft
public import proofs.«01_k».proof.Proof.Softmax

@[expose] public section

set_option maxRecDepth 16384

noncomputable section

namespace Cert.Proof

open Cert.KernelIdeal Cert.KernelIdeal.Gen Cert.KernelIdeal.Value Idealize.ShloMosaic Idealize.ShloMosaic.TcCoe Idealize.SL.Sem

/-- A query row's score against a key of its tile. -/
def kScore (x0 x1 : Vec Ideal S4096x128 .bf16) (B : Vec Ideal S3x256x768 .f32) (i : Fin 4096) (j : Fin 768) : EReal :=
  (∑ x : Fin 128, x0 (ix2 i x) * x1 (ix2 ⟨kbase (i.val / 256) + j.val, kbase_le _ j⟩ x)) * scale
    + B (ix3 (pat (i.val / 256)) ⟨i.val % 256, Nat.mod_lt _ (by decide)⟩ j)

theorem attn_softmax (x0 x1 x2 : Vec Ideal S4096x128 .bf16) (x3 x4 : Vec Ideal S256x128 .bf16) (B : Vec Ideal S3x256x768 .f32)
    (i : Fin 4096) (d : Fin 128) (s : Fin 8 × Fin 64 → EReal) (cs : Fin 256 → EReal) (e : Fin 8 × Fin 64 → Fin 768)
    (he : Function.Injective e) (hs : ∀ p, s p ≠ ⊤) (hc : ∀ k, cs k ≠ ⊤) (hcb : ∃ k, cs k ≠ ⊥)
    (hte : ∀ p, kScore x0 x1 B i (e p) = s p) (ht : ∀ j, (∀ p, e p ≠ j) → kScore x0 x1 B i j = ⊥)
    (hcs : ∀ k, (∑ x : Fin 128, x0 (ix2 i x) * x3 (ix2 k x)) * scale = cs k) (M Z : EReal)
    (hM : M = Finset.univ.sup s ⊔ Finset.univ.sup cs) (hZ : Z = ∑ p, Ideal.exp (s p - M) + ∑ k, Ideal.exp (cs k - M)) :
    attn x0 x1 x2 x3 x4 B (ix2 i d)
      = ∑ p, Ideal.div (Ideal.exp (s p - M)) Z * x2 (ix2 ⟨kbase (i.val / 256) + (e p).val, kbase_le _ _⟩ d)
        + ∑ k, Ideal.div (Ideal.exp (cs k - M)) Z * x4 (ix2 k d) := by
  have hcs' : (fun k => (∑ x : Fin 128, x0 (ix2 i x) * x3 (ix2 k x)) * scale) = cs := funext hcs
  have h0 : attn x0 x1 x2 x3 x4 B (ix2 i d)
      = tileVal (kScore x0 x1 B i) (fun k => (∑ x : Fin 128, x0 (ix2 i x) * x3 (ix2 k x)) * scale)
        (fun j => x2 (ix2 ⟨kbase (i.val / 256) + j.val, kbase_le _ j⟩ d)) (fun k => x4 (ix2 k d)) (fun _ => 1) (fun _ => 1) := rfl
  rw [h0, hcs', hZ]
  unfold tileVal
  simp only [mul_one]
  exact softmax_window s cs (kScore x0 x1 B i) e he hs hc hcb hte ht _ _ _ M rfl hM

theorem tab_in : ∀ (r : Fin 64) (w : Fin 8), tab (pat (r.val / 4)) (r.val % 4) ((keyRow r w).val - kbase (r.val / 4) / 64) = some (relRow r w) := by
  decide +kernel

theorem tab_out : ∀ (r : Fin 64) (j : Fin 12), (∀ w : Fin 8, (keyRow r w).val ≠ kbase (r.val / 4) / 64 + j.val) →
    tab (pat (r.val / 4)) (r.val % 4) j.val = none := by
  decide +kernel

/-- The place among the keys of the tile of a key of the window. -/
def eIx (r : Fin 64) (p : Fin 8 × Fin 64) : Fin 768 := ⟨(keyRow r p.1).val * 64 + p.2.val - kbase (r.val / 4), by
  have := r.isLt; have := p.1.isLt; have := p.2.isLt
  show (min (max r.val 4 - 4) 56 + p.1.val) * 64 + p.2.val - min (max (4 * (r.val / 4)) 4 - 4) 52 * 64 < 768
  omega⟩

theorem kbase_key (r : Fin 64) (w : Fin 8) : kbase (r.val / 4) ≤ (keyRow r w).val * 64 := by
  have := r.isLt; have := w.isLt
  show min (max (4 * (r.val / 4)) 4 - 4) 52 * 64 ≤ (min (max r.val 4 - 4) 56 + w.val) * 64
  omega

theorem eIx_add (r : Fin 64) (p : Fin 8 × Fin 64) : kbase (r.val / 4) + (eIx r p).val = (keyRow r p.1).val * 64 + p.2.val := by
  have := kbase_key r p.1
  show kbase (r.val / 4) + ((keyRow r p.1).val * 64 + p.2.val - kbase (r.val / 4)) = _
  omega

theorem eIx_inj (r : Fin 64) : Function.Injective (eIx r) := by
  rintro ⟨w, k⟩ ⟨w', k'⟩ h
  have h1 := eIx_add r (w, k)
  have h2 := eIx_add r (w', k')
  rw [h] at h1
  rw [h1] at h2
  have hk := k.isLt
  have hk' := k'.isLt
  have h3 : (min (max r.val 4 - 4) 56 + w.val) * 64 + k.val = (min (max r.val 4 - 4) 56 + w'.val) * 64 + k'.val := h2
  exact Prod.ext (Fin.ext (by show w.val = w'.val; omega)) (Fin.ext (by show k.val = k'.val; omega))

/-- The row of a grid place within a batch. -/
def rowIx (r q : Fin 64) : Fin 4096 := ⟨r.val * 64 + q.val, by have := r.isLt; have := q.isLt; omega⟩

theorem bias_at (D : Vec Ideal S1x15x128 .f32) (r q : Fin 64) (j : Fin 768) :
    biasSpec D (ix3 (pat ((rowIx r q).val / 256)) ⟨(rowIx r q).val % 256, Nat.mod_lt _ (by decide)⟩ j)
      = cell D (tab (pat (r.val / 4)) (r.val % 4) (j.val / 64)) q.val (j.val % 64) q.isLt := by
  have hr := r.isLt
  have hq := q.isLt
  have h1 : (rowIx r q).val / 256 = r.val / 4 := by show (r.val * 64 + q.val) / 256 = r.val / 4; omega
  have h2 : (rowIx r q).val % 256 / 64 = r.val % 4 := by show (r.val * 64 + q.val) % 256 / 64 = r.val % 4; omega
  have h3 : (rowIx r q).val % 256 % 64 = q.val := by show (r.val * 64 + q.val) % 256 % 64 = q.val; omega
  show cell D (tab (pat ((rowIx r q).val / 256)) ((rowIx r q).val % 256 / 64) (j.val / 64)) ((rowIx r q).val % 256 % 64) (j.val % 64) _ = _
  simp only [h1, h2, h3]

variable (m : (ℓ : Loc nD τ sig) → Buf (Elt Ideal) ℓ) (c : Dev nD)

/-- The projections. -/
abbrev A0 : Vec Ideal S8192x24576 .bf16 := m ((c : Thread nD τ).loc main_arg0)

/-- The context's projections. -/
abbrev A1 : Vec Ideal S512x8192 .bf16 := m ((c : Thread nD τ).loc main_arg1)

/-- The bias table. -/
abbrev A2 : Vec Ideal S16x15x31 .f32 := m ((c : Thread nD τ).loc main_arg2)

/-- The grid point of a batch and a head. -/
def ptAt (b : Fin 2) (h : Fin 16) : Fin cfg0.N := ⟨b.val + 2 * h.val, by
  have := b.isLt; have := h.isLt; rw [show cfg0.N = 32 from N_0]; omega⟩

theorem ptAt_mod (b : Fin 2) (h : Fin 16) : (ptAt b h).val % 2 = b.val := by
  have := b.isLt; show (b.val + 2 * h.val) % 2 = b.val; omega

theorem ptAt_div (b : Fin 2) (h : Fin 16) : (ptAt b h).val / 2 = h.val := by
  have := b.isLt; show (b.val + 2 * h.val) / 2 = h.val; omega

theorem G6_at (b : Fin 2) (h : Fin 16) (r q : Fin 64) (d : Fin 128) :
    G6 m c (ix2 (tokIx b r q) (colIx h d))
      = attn (iblk m c 0 (ptAt b h)) (iblk m c 1 (ptAt b h)) (iblk m c 2 (ptAt b h)) (iblk m c 3 (ptAt b h)) (iblk m c 4 (ptAt b h))
          (biasSpec (iblk m c 5 (ptAt b h))) (ix2 (rowIx r q) d) := by
  have hb := b.isLt
  have hh := h.isLt
  have hr := r.isLt
  have hq := q.isLt
  have hd := d.isLt
  have e1 : ptOf (ix2 (tokIx b r q) (colIx h d)) = ptAt b h := Fin.ext (by
    show 1 * ((b.val * 4096 + (r.val * 64 + q.val)) / 4096 - 0) + 2 * ((h.val * 128 + d.val) / 128 - 0) = b.val + 2 * h.val
    omega)
  have e2 : loc6Of (ix2 (tokIx b r q) (colIx h d)) = ix2 (rowIx r q) d := funext fun a => Fin.ext (match a with
    | ⟨0, _⟩ => by show (b.val * 4096 + (r.val * 64 + q.val)) % 4096 = r.val * 64 + q.val; omega
    | ⟨1, _⟩ => by show (h.val * 128 + d.val) % 128 = d.val; omega)
  rw [G6_apply, e1, e2]

theorem q_at (b : Fin 2) (h : Fin 16) (r q : Fin 64) (x : Fin 128) :
    iblk m c 0 (ptAt b h) (ix2 (rowIx r q) x) = rQ (A0 m c) (ix5 b h r q x) := by
  rw [iblk0_apply, rQ_apply]
  refine congrArg (A0 m c) (congrArg₂ ix2 (Fin.ext ?_) (Fin.ext ?_))
  · show (ptAt b h).val % 2 * 4096 + (r.val * 64 + q.val) = b.val * 4096 + (r.val * 64 + q.val)
    rw [ptAt_mod]
  · show (ptAt b h).val / 2 * 128 + x.val = h.val * 128 + x.val
    rw [ptAt_div]

theorem k_at (b : Fin 2) (h : Fin 16) (r k : Fin 64) (x : Fin 128) :
    iblk m c 1 (ptAt b h) (ix2 (rowIx r k) x) = rK (A0 m c) (ix5 b h r k x) := by
  rw [iblk1_apply, rK_apply]
  refine congrArg (A0 m c) (congrArg₂ ix2 (Fin.ext ?_) (Fin.ext ?_))
  · show (ptAt b h).val % 2 * 4096 + (r.val * 64 + k.val) = b.val * 4096 + (r.val * 64 + k.val)
    rw [ptAt_mod]
  · show 2048 + ((ptAt b h).val / 2 * 128 + x.val) = 2048 + (h.val * 128 + x.val)
    rw [ptAt_div]

theorem v_at (b : Fin 2) (h : Fin 16) (r k : Fin 64) (x : Fin 128) :
    iblk m c 2 (ptAt b h) (ix2 (rowIx r k) x) = rV (A0 m c) (ix5 b h r k x) := by
  rw [iblk2_apply, rV_apply]
  refine congrArg (A0 m c) (congrArg₂ ix2 (Fin.ext ?_) (Fin.ext ?_))
  · show (ptAt b h).val % 2 * 4096 + (r.val * 64 + k.val) = b.val * 4096 + (r.val * 64 + k.val)
    rw [ptAt_mod]
  · show 4096 + ((ptAt b h).val / 2 * 128 + x.val) = 4096 + (h.val * 128 + x.val)
    rw [ptAt_div]

theorem kc_at (b : Fin 2) (h : Fin 16) (k : Fin 256) (x : Fin 128) :
    iblk m c 3 (ptAt b h) (ix2 k x) = rKc (A1 m c) (ix4 b h k x) := by
  rw [iblk3_apply, rKc_apply]
  refine congrArg (A1 m c) (congrArg₂ ix2 (Fin.ext ?_) (Fin.ext ?_))
  · show (ptAt b h).val % 2 * 256 + k.val = b.val * 256 + k.val
    rw [ptAt_mod]
  · show (ptAt b h).val / 2 * 128 + x.val = h.val * 128 + x.val
    rw [ptAt_div]

theorem vc_at (b : Fin 2) (h : Fin 16) (k : Fin 256) (x : Fin 128) :
    iblk m c 4 (ptAt b h) (ix2 k x) = rVc (A1 m c) (ix4 b h k x) := by
  rw [iblk4_apply, rVc_apply]
  refine congrArg (A1 m c) (congrArg₂ ix2 (Fin.ext ?_) (Fin.ext ?_))
  · show (ptAt b h).val % 2 * 256 + k.val = b.val * 256 + k.val
    rw [ptAt_mod]
  · show 2048 + ((ptAt b h).val / 2 * 128 + x.val) = 2048 + (h.val * 128 + x.val)
    rw [ptAt_div]

theorem key_ix (r q : Fin 64) (p : Fin 8 × Fin 64) :
    (⟨kbase ((rowIx r q).val / 256) + (eIx r p).val, kbase_le _ _⟩ : Fin 4096) = rowIx (keyRow r p.1) p.2 := Fin.ext (by
  have hq := q.isLt
  have h1 : (rowIx r q).val / 256 = r.val / 4 := by show (r.val * 64 + q.val) / 256 = r.val / 4; omega
  show kbase ((rowIx r q).val / 256) + (eIx r p).val = (keyRow r p.1).val * 64 + p.2.val
  rw [h1]
  exact eIx_add r p)

theorem diag_col (b : Fin 2) (h : Fin 16) (dr : Fin 15) (q k : Fin 64) :
    iblk m c 5 (ptAt b h) (ix3 0 dr ⟨k.val % 64 + 63 - q.val, diag_lt q.val k.val q.isLt⟩) = A2 m c (ix3 h dr (relCol q k)) := by
  rw [iblk5_apply]
  have hk := k.isLt
  have hq := q.isLt
  refine congrArg (A2 m c) (funext fun a => Fin.ext (match a with
    | ⟨0, _⟩ => ptAt_div b h
    | ⟨1, _⟩ => rfl
    | ⟨2, _⟩ => ?_))
  show min (max (k.val % 64 + 63 - q.val) 48) 78 - 48 = min (k.val + 15 - q.val) 30
  omega

theorem score_in (b : Fin 2) (h : Fin 16) (r q : Fin 64) (p : Fin 8 × Fin 64) :
    kScore (iblk m c 0 (ptAt b h)) (iblk m c 1 (ptAt b h)) (biasSpec (iblk m c 5 (ptAt b h))) (rowIx r q) (eIx r p)
      = wScore (A0 m c) (A2 m c) b h r q p := by
  have hk := p.2.isLt
  unfold kScore
  rw [bias_at, key_ix]
  simp only [q_at, k_at]
  have h1 := eIx_add r p
  have h2 := kbase_key r p.1
  have h4 : kbase (r.val / 4) / 64 * 64 = kbase (r.val / 4) := by
    show min (max (4 * (r.val / 4)) 4 - 4) 52 * 64 / 64 * 64 = min (max (4 * (r.val / 4)) 4 - 4) 52 * 64
    omega
  have e1 : (eIx r p).val / 64 = (keyRow r p.1).val - kbase (r.val / 4) / 64 := by omega
  have e2 : (eIx r p).val % 64 = p.2.val := by omega
  simp only [e1, e2, tab_in]
  unfold wScore
  show _ + (if colOk q.val p.2.val then iblk m c 5 (ptAt b h) (ix3 0 (relRow r p.1) ⟨p.2.val % 64 + 63 - q.val, _⟩) else (⊥ : EReal)) = _
  by_cases ho : colOk q.val p.2.val
  · rw [if_pos ho, if_pos ho, diag_col]
  · rw [if_neg ho, if_neg ho, EReal.add_bot]

theorem score_out (b : Fin 2) (h : Fin 16) (r q : Fin 64) (j : Fin 768) (hj : ∀ p, eIx r p ≠ j) :
    kScore (iblk m c 0 (ptAt b h)) (iblk m c 1 (ptAt b h)) (biasSpec (iblk m c 5 (ptAt b h))) (rowIx r q) j = ⊥ := by
  have hlt := j.isLt
  unfold kScore
  rw [bias_at]
  have h4 : kbase (r.val / 4) / 64 * 64 = kbase (r.val / 4) := by
    show min (max (4 * (r.val / 4)) 4 - 4) 52 * 64 / 64 * 64 = min (max (4 * (r.val / 4)) 4 - 4) 52 * 64
    omega
  have h5 := tab_out r ⟨j.val / 64, by omega⟩ (fun w hw => hj (w, ⟨j.val % 64, by omega⟩) (Fin.ext (by
    have hw' : (keyRow r w).val = kbase (r.val / 4) / 64 + j.val / 64 := hw
    show (keyRow r w).val * 64 + j.val % 64 - kbase (r.val / 4) = j.val
    omega)))
  have h6 : tab (pat (r.val / 4)) (r.val % 4) (j.val / 64) = none := h5
  rw [h6]
  exact EReal.add_bot _

theorem ieee_real (e k : ℕ) {w : ℕ} (b : BitVec w) (h : (b.extractLsb' k e).toNat ≠ 2 ^ e - 1) : ∃ r : ℝ, Ideal.ieee e k b = r := by
  unfold Ideal.ieee
  dsimp only
  rw [if_neg h]
  split
  · exact ⟨_, rfl⟩
  · exact ⟨_, rfl⟩

theorem real_sum (f g : Fin 128 → EReal) (hf : ∀ x, ∃ r : ℝ, f x = r) (hg : ∀ x, ∃ r : ℝ, g x = r) :
    ∃ r : ℝ, (∑ x, f x * g x) * scale = r := by
  choose f' hf using hf
  choose g' hg using hg
  have hs : ∃ s : ℝ, scale = (s : EReal) := ieee_real 8 23 (0x3DB504F3#32) (by decide)
  obtain ⟨s, hs⟩ := hs
  refine ⟨(∑ x, f' x * g' x) * s, ?_⟩
  rw [hs, EReal.coe_mul, coe_sum]
  refine congrArg (· * (s : EReal)) (Finset.sum_congr rfl fun x _ => ?_)
  rw [hf, hg, EReal.coe_mul]

theorem value_at (f0 : ∀ (i : Fin 8192) (l : Fin 4096), ∃ r : ℝ, A0 m c (ix2 i ⟨l.val, by have := l.isLt; omega⟩) = (r : EReal))
    (f1 : ∀ (i : Fin 512) (l : Fin 2048), ∃ r : ℝ, A1 m c (ix2 i ⟨l.val, by have := l.isLt; omega⟩) = (r : EReal))
    (f2 : ∀ i j k, ∃ r : ℝ, A2 m c (ix3 i j k) = (r : EReal)) (b : Fin 2) (h : Fin 16) (r q : Fin 64) (d : Fin 128) :
    G6 m c (ix2 (tokIx b r q) (colIx h d)) = rOut (A0 m c) (A1 m c) (A2 m c) (ix2 (tokIx b r q) (colIx h d)) := by
  have hq : ∀ (r q : Fin 64) (x : Fin 128), ∃ s : ℝ, rQ (A0 m c) (ix5 b h r q x) = s := fun r q x => by
    rw [rQ_apply]; exact f0 _ ⟨h.val * 128 + x.val, by have := h.isLt; have := x.isLt; omega⟩
  have hk : ∀ (r q : Fin 64) (x : Fin 128), ∃ s : ℝ, rK (A0 m c) (ix5 b h r q x) = s := fun r q x => by
    rw [rK_apply]; exact f0 _ ⟨2048 + (h.val * 128 + x.val), by have := h.isLt; have := x.isLt; omega⟩
  have hkc : ∀ (k : Fin 256) (x : Fin 128), ∃ s : ℝ, rKc (A1 m c) (ix4 b h k x) = s := fun k x => by
    rw [rKc_apply]; exact f1 _ ⟨h.val * 128 + x.val, by have := h.isLt; have := x.isLt; omega⟩
  have hcr : ∀ k, ∃ s : ℝ, cScore (A0 m c) (A1 m c) b h r q k = s := fun k => real_sum _ _ (hq r q) (hkc k)
  have hs : ∀ p, wScore (A0 m c) (A2 m c) b h r q p ≠ ⊤ := fun p => by
    unfold wScore
    by_cases ho : colOk q.val p.2.val
    · rw [if_pos ho]
      obtain ⟨s, hs⟩ := real_sum _ _ (hq r q) (hk (keyRow r p.1) p.2)
      obtain ⟨u, hu⟩ := f2 h (relRow r p.1) (relCol q p.2)
      have e : (∑ x : Fin 128, rQ (A0 m c) (ix5 b h r q x) * rK (A0 m c) (ix5 b h (keyRow r p.1) p.2 x)) * Ideal.ofBits .f32 0x3DB504F3#32
          = (s : EReal) := hs
      rw [e, hu, ← EReal.coe_add]
      exact EReal.coe_ne_top _
    · rw [if_neg ho]
      exact bot_ne_top
  rw [rOut_apply, rAtt_apply, G6_at]
  rw [attn_softmax _ _ _ _ _ _ (rowIx r q) d (wScore (A0 m c) (A2 m c) b h r q) (cScore (A0 m c) (A1 m c) b h r q) (eIx r) (eIx_inj r) hs
    (fun k => by obtain ⟨s, hs⟩ := hcr k; rw [hs]; exact EReal.coe_ne_top _)
    ⟨0, by obtain ⟨s, hs⟩ := hcr 0; rw [hs]; exact EReal.coe_ne_bot _⟩
    (score_in m c b h r q) (score_out m c b h r q) (fun k => by simp only [q_at, kc_at]; rfl)
    (top (A0 m c) (A1 m c) (A2 m c) b h r q) (tot (A0 m c) (A1 m c) (A2 m c) b h r q) rfl rfl]
  simp only [key_ix, v_at, vc_at]

theorem value_eq (f0 : ∀ (i : Fin 8192) (l : Fin 4096), ∃ r : ℝ, A0 m c (ix2 i ⟨l.val, by have := l.isLt; omega⟩) = (r : EReal))
    (f1 : ∀ (i : Fin 512) (l : Fin 2048), ∃ r : ℝ, A1 m c (ix2 i ⟨l.val, by have := l.isLt; omega⟩) = (r : EReal))
    (f2 : ∀ i j k, ∃ r : ℝ, A2 m c (ix3 i j k) = (r : EReal)) :
    rOut (A0 m c) (A1 m c) (A2 m c) = G6 m c := by
  funext y
  obtain ⟨i, l, rfl⟩ : ∃ (i : Fin 8192) (l : Fin 2048), y = ix2 i l := ⟨_, _, eq_ix2 y⟩
  have hi := i.isLt
  have hl := l.isLt
  have e1 : i = tokIx ⟨i.val / 4096, by omega⟩ ⟨i.val % 4096 / 64, by omega⟩ ⟨i.val % 64, by omega⟩ := Fin.ext (by
    show i.val = i.val / 4096 * 4096 + (i.val % 4096 / 64 * 64 + i.val % 64); omega)
  have e2 : l = colIx ⟨l.val / 128, by omega⟩ ⟨l.val % 128, by omega⟩ := Fin.ext (by
    show l.val = l.val / 128 * 128 + l.val % 128; omega)
  rw [e1, e2]
  exact (value_at m c f0 f1 f2 _ _ _ _ _).symm

end Cert.Proof
-- ==== Proof.InProjValue.lean ====
/- The input projection: what the tiled product leaves in its result, and the reference's product, both as one sum. -/
module

public import proofs.«01_k».proof.Proof.Gen.InProjIdeal.Value
public import proofs.«01_k».proof.Proof.Gen.InProjRefIdeal.Run
public import Idealize.ShloMosaic.Lib.Pointwise

@[expose] public section

set_option maxRecDepth 16384

noncomputable section

namespace Cert.Proof.InProj

open Cert.InProjIdeal Cert.InProjIdeal.Gen Cert.InProjIdeal.Value Idealize.ShloMosaic Idealize.ShloMosaic.TcCoe Idealize.SL.Sem
open scoped BigOperators

/-- The product of the tokens by the weights. -/
def val (A : Vec Ideal S8192x4096 .bf16) (W : Vec Ideal S4096x24576 .f32) : Vec Ideal S8192x24576 .bf16 :=
  fun i => ∑ k : Fin 4096, A (ix2 (n0 := 8192) (i 0) k) * W (ix2 (n1 := 24576) k (i 1))

/-- One block of the product: 2048 rows of tokens by 512 columns of weights. -/
theorem pay_apply (a : Vec Ideal S2048x4096 .bf16) (w : Vec Ideal S4096x512 .f32) (r : Fin 2048) (x : Fin 512) :
    k0_pay1 a w (ix2 r x) = ∑ k : Fin 4096, a (ix2 r k) * w (ix2 k x) := by
  pointwise [k0_pay1]

theorem out_eq (a : Vec Ideal S2048x4096 .bf16) (w : Vec Ideal S4096x512 .f32) : out0_2 a w = k0_pay1 a w := by
  have hz : (![0, 0] : Fin 2 → Nat) = fun _ => 0 := by decide
  show View.canon [⟨Rect.unit (s := S2048x512) ![0, 0] S2048x512.size _, _⟩] = _
  rw [View.canon_unit_zero hz, View.ld_unit_zero hz, View.ld_unit_zero hz]

variable (m : (ℓ : Loc nD τ sig) → Buf (Elt Ideal) ℓ)

theorem index_facts : ∀ t : Fin grid0.N, win0_0.index t = ![t.val / 48, 0] ∧ win0_1.index t = ![0, t.val % 48]
    ∧ win0_2.index t = ![t.val / 48, t.val % 48] := by
  decide +kernel

theorem t_lt (t : Fin cfg0.N) : t.val < 192 := t.isLt.trans_eq N_0

theorem iblk0_apply (c : Dev nD) (t : Fin cfg0.N) (r : Fin 2048) (k : Fin 4096) :
    iblk m c 0 t (ix2 r k) = m ((c : Thread nD τ).loc main_arg0)
      (ix2 ⟨t.val / 48 * 2048 + r.val, by have := t_lt t; have := r.isLt; omega⟩ k) := by
  unfold iblk
  show V m c main_arg0 (((cfg0.win 0).blk t).view.emb (ix2 r k)) = _
  rw [V_main_arg0]
  refine congrArg (m _) (funext fun a => Fin.ext ?_)
  have hx := (index_facts t).1
  match a with
  | ⟨0, _⟩ =>
    show win0_0.index t 0 * 2048 + 1 * r.val = t.val / 48 * 2048 + r.val
    rw [hx]
    show t.val / 48 * 2048 + 1 * r.val = t.val / 48 * 2048 + r.val
    omega
  | ⟨1, _⟩ =>
    show win0_0.index t 1 * 4096 + 1 * k.val = k.val
    rw [hx]
    show 0 * 4096 + 1 * k.val = k.val
    omega

theorem iblk1_apply (c : Dev nD) (t : Fin cfg0.N) (k : Fin 4096) (x : Fin 512) :
    iblk m c 1 t (ix2 k x) = m ((c : Thread nD τ).loc main_arg1)
      (ix2 k ⟨t.val % 48 * 512 + x.val, by have := x.isLt; omega⟩) := by
  unfold iblk
  show V m c main_arg1 (((cfg0.win 1).blk t).view.emb (ix2 k x)) = _
  rw [V_main_arg1]
  refine congrArg (m _) (funext fun a => Fin.ext ?_)
  have hx := (index_facts t).2.1
  match a with
  | ⟨0, _⟩ =>
    show win0_1.index t 0 * 4096 + 1 * k.val = k.val
    rw [hx]
    show 0 * 4096 + 1 * k.val = k.val
    omega
  | ⟨1, _⟩ =>
    show win0_1.index t 1 * 512 + 1 * x.val = t.val % 48 * 512 + x.val
    rw [hx]
    show t.val % 48 * 512 + 1 * x.val = t.val % 48 * 512 + x.val
    omega

/-- The whole product, of the arguments. -/
abbrev whole (c : Dev nD) : Vec Ideal S8192x24576 .bf16 :=
  val (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (whole m c) := by
  rw [flushed2, out_eq]
  funext y
  obtain ⟨r, x, rfl⟩ : ∃ r x, y = ix2 r x := ⟨_, _, eq_ix2 (n0 := 2048) (n1 := 512) y⟩
  show k0_pay1 (iblk m c 0 t) (iblk m c 1 t) (ix2 r x) = whole m c (((cfg0.win 2).blk t).view.emb (ix2 r x))
  have hx := (index_facts t).2.2
  have e : ((cfg0.win 2).blk t).view.emb (ix2 r x)
      = ix2 (n0 := 8192) (n1 := 24576) ⟨t.val / 48 * 2048 + r.val, by have := t_lt t; have := r.isLt; omega⟩
        ⟨t.val % 48 * 512 + x.val, by have := x.isLt; omega⟩ := by
    refine funext fun a => Fin.ext ?_
    match a with
    | ⟨0, _⟩ =>
      show win0_2.index t 0 * 2048 + 1 * r.val = t.val / 48 * 2048 + r.val
      rw [hx]
      show t.val / 48 * 2048 + 1 * r.val = t.val / 48 * 2048 + r.val
      omega
    | ⟨1, _⟩ =>
      show win0_2.index t 1 * 512 + 1 * x.val = t.val % 48 * 512 + x.val
      rw [hx]
      show t.val % 48 * 512 + 1 * x.val = t.val % 48 * 512 + x.val
      omega
  rw [e, pay_apply]
  refine Finset.sum_congr rfl fun k _ => ?_
  rw [iblk0_apply, iblk1_apply]
  rfl

/-- Every entry of the result lies in the block of some point. -/
theorem cover (i : S8192x24576.Idx) : ∃ t : Fin cfg0.N, (cfg0.win 2).flush t = true ∧ i ∈ ((cfg0.win 2).blk t).view.set := by
  have h0 : (i 0).val < 8192 := (i 0).isLt
  have h1 : (i 1).val < 24576 := (i 1).isLt
  have hN : cfg0.N = 192 := N_0
  obtain ⟨t, ht⟩ : ∃ t : Fin cfg0.N, t.val = (i 0).val / 2048 * 48 + (i 1).val / 512 := ⟨⟨_, by omega⟩, rfl⟩
  refine ⟨t, flush0_2 t, ?_⟩
  have hx := (index_facts t).2.2
  show i ∈ ((View.whole main_v0).slice (win0_2.rect t)).set
  rw [View.set_slice_whole, Rect.mem_set_unit]
  intro a
  match a with
  | ⟨0, _⟩ =>
    show win0_2.index t 0 * 2048 ≤ (i 0).val ∧ (i 0).val < win0_2.index t 0 * 2048 + 2048
    rw [hx]
    show t.val / 48 * 2048 ≤ (i 0).val ∧ (i 0).val < t.val / 48 * 2048 + 2048
    omega
  | ⟨1, _⟩ =>
    show win0_2.index t 1 * 512 ≤ (i 1).val ∧ (i 1).val < win0_2.index t 1 * 512 + 512
    rw [hx]
    show t.val % 48 * 512 ≤ (i 1).val ∧ (i 1).val < t.val % 48 * 512 + 512
    omega

/-- The result after the run is the whole product. -/
theorem final (c : Dev nD) : (dats m 0 c).arrAt 2 cfg0.N = whole m c :=
  (dats m 0 c).arrAt_eq_of_cover 2 _ (fun t _ => flushed_eq m c t) cover

end Cert.Proof.InProj

namespace Cert.Proof.InProj

open Cert.InProjRefIdeal Cert.InProjRefIdeal.Gen Idealize.ShloMosaic

/-- The reference's product is the same sum. -/
theorem ref_eq (A : Vec Ideal S8192x4096 .bf16) (W : Vec Ideal S4096x24576 .f32) :
    (truncf .bf16 (Host.dotGeneral (φ₂ := .f32) dot_S8192x4096_S4096x24576_S8192x24576_1_0_0_1_n_n none (extf .f32 A bitsLt_bf16_f32) W) bitsLt_bf16_f32 : FVec Ideal S8192x24576 .bf16)
      = val A W := by
  funext i
  pointwise [val]

end Cert.Proof.InProj

end
-- ==== Proof.BlockAt.lean ====
/- Arithmetic of a block's place in its array. -/
module

public import Mathlib.Algebra.Order.Ring.Nat

@[expose] public section

namespace Cert.Proof

/-- A coordinate inside block `q` of size `b`, as a coordinate of the array. -/
theorem at_coord {n q b r v : ℕ} (h : n = q) (e : q * b + r = v) : n * b + 1 * r = v := by
  rw [h, Nat.one_mul, e]

/-- A coordinate inside the first block. -/
theorem at_start {n b r : ℕ} (h : n = 0) : n * b + 1 * r = r := by
  rw [h, Nat.one_mul, Nat.zero_mul, Nat.zero_add]

/-- A coordinate lies in the block whose number is its quotient by the block's size. -/
theorem in_block {n q b i : ℕ} (h : n = q) (e : q = i / b) (hb : 0 < b) : n * b ≤ i ∧ i < n * b + b := by
  subst h e
  exact ⟨Nat.div_mul_le_self i b, Nat.lt_div_mul_add hb⟩

end Cert.Proof
-- ==== Proof.MergeValue.lean ====
/- The gated merge of the two mixers: what the tiled kernel leaves in its result, and the reference's, both as one formula. -/
module

public import proofs.«01_k».proof.Proof.Gen.MergeIdeal.Value
public import proofs.«01_k».proof.Proof.Gen.MergeRefIdeal.Run
public import proofs.«01_k».proof.Proof.BlockAt
public import Idealize.ShloMosaic.Lib.Pointwise

@[expose] public section

set_option maxRecDepth 16384

noncomputable section

namespace Cert.Proof.Merge

open Cert.MergeIdeal Cert.MergeIdeal.Gen Cert.MergeIdeal.Value Idealize.ShloMosaic Idealize.ShloMosaic.TcCoe Idealize.SL.Sem
open scoped BigOperators

/-- Each mixer's output by its weights, times the logistic of its gate, the two added. -/
def val (A B : Vec Ideal S8192x2048 .bf16) (W U : Vec Ideal S2048x4096 .f32) (P : Vec Ideal S8192x24576 .bf16) :
    Vec Ideal S8192x4096 .bf16 :=
  fun i =>
    Ideal.logistic (P (ix2 (n0 := 8192) (n1 := 24576) (i 0) ⟨16384 + (i 1).val, by have : (i 1).val < 4096 := (i 1).isLt; omega⟩))
        * (∑ k : Fin 2048, A (ix2 (n0 := 8192) (i 0) k) * W (ix2 (n1 := 4096) k (i 1)))
      + Ideal.logistic (P (ix2 (n0 := 8192) (n1 := 24576) (i 0) ⟨20480 + (i 1).val, by have : (i 1).val < 4096 := (i 1).isLt; omega⟩))
        * (∑ k : Fin 2048, B (ix2 (n0 := 8192) (i 0) k) * U (ix2 (n1 := 4096) k (i 1)))

/-- One block of the merge. -/
theorem pay_apply (a b : Vec Ideal S1024x2048 .bf16) (w u : Vec Ideal S2048x512 .f32) (p q : Vec Ideal S1024x512 .bf16)
    (r : Fin 1024) (x : Fin 512) :
    k0_pay1 a w b u p q (ix2 r x)
      = Ideal.logistic (p (ix2 r x)) * (∑ k : Fin 2048, a (ix2 r k) * w (ix2 k x))
        + Ideal.logistic (q (ix2 r x)) * (∑ k : Fin 2048, b (ix2 r k) * u (ix2 k x)) := by
  pointwise [k0_pay1]

theorem out_eq (a b : Vec Ideal S1024x2048 .bf16) (w u : Vec Ideal S2048x512 .f32) (p q : Vec Ideal S1024x512 .bf16) :
    out0_6 a b w u p q = k0_pay1 a w b u p q := by
  have hz : (![0, 0] : Fin 2 → Nat) = fun _ => 0 := by decide
  show View.canon [⟨Rect.unit (s := S1024x512) ![0, 0] S1024x512.size _, _⟩] = _
  rw [View.canon_unit_zero hz, View.ld_unit_zero hz, View.ld_unit_zero hz, View.ld_unit_zero hz, View.ld_unit_zero hz,
    View.ld_unit_zero hz, View.ld_unit_zero hz]

variable (m : (ℓ : Loc nD τ sig) → Buf (Elt Ideal) ℓ)

theorem index_facts : ∀ t : Fin grid0.N, win0_0.index t = ![t.val / 8, 0] ∧ win0_1.index t = ![t.val / 8, 0]
    ∧ win0_2.index t = ![0, t.val % 8] ∧ win0_3.index t = ![0, t.val % 8] ∧ win0_4.index t = ![t.val / 8, 32 + t.val % 8]
    ∧ win0_5.index t = ![t.val / 8, 40 + t.val % 8] ∧ win0_6.index t = ![t.val / 8, t.val % 8] := by
  decide +kernel

theorem t_lt (t : Fin cfg0.N) : t.val < 64 := t.isLt.trans_eq N_0

/-- The row of the result that row `r` of the point's block is. -/
def row (t : Fin cfg0.N) (r : Fin 1024) : Fin 8192 := ⟨t.val / 8 * 1024 + r.val, by have := t_lt t; have := r.isLt; omega⟩

/-- The column of the result that column `x` of the point's block is. -/
def col (t : Fin cfg0.N) (x : Fin 512) : Fin 4096 := ⟨t.val % 8 * 512 + x.val, by have := x.isLt; omega⟩

theorem iblk0_apply (c : Dev nD) (t : Fin cfg0.N) (r : Fin 1024) (k : Fin 2048) :
    iblk m c 0 t (ix2 r k) = m ((c : Thread nD τ).loc main_arg0) (ix2 (row t r) k) := by
  refine congrArg (m ((c : Thread nD τ).loc main_arg0)) (funext fun a => Fin.ext ?_)
  have hx := (index_facts t).1
  match a with
  | ⟨0, _⟩ => show win0_0.index t 0 * 1024 + 1 * r.val = _; exact at_coord (congrFun hx 0) rfl
  | ⟨1, _⟩ => show win0_0.index t 1 * 2048 + 1 * k.val = _; exact at_start (congrFun hx 1)

theorem iblk1_apply (c : Dev nD) (t : Fin cfg0.N) (r : Fin 1024) (k : Fin 2048) :
    iblk m c 1 t (ix2 r k) = m ((c : Thread nD τ).loc main_arg1) (ix2 (row t r) k) := by
  refine congrArg (m ((c : Thread nD τ).loc main_arg1)) (funext fun a => Fin.ext ?_)
  have hx := (index_facts t).2.1
  match a with
  | ⟨0, _⟩ => show win0_1.index t 0 * 1024 + 1 * r.val = _; exact at_coord (congrFun hx 0) rfl
  | ⟨1, _⟩ => show win0_1.index t 1 * 2048 + 1 * k.val = _; exact at_start (congrFun hx 1)

theorem iblk2_apply (c : Dev nD) (t : Fin cfg0.N) (k : Fin 2048) (x : Fin 512) :
    iblk m c 2 t (ix2 k x) = m ((c : Thread nD τ).loc main_arg2) (ix2 k (col t x)) := by
  refine congrArg (m ((c : Thread nD τ).loc main_arg2)) (funext fun a => Fin.ext ?_)
  have hx := (index_facts t).2.2.1
  match a with
  | ⟨0, _⟩ => show win0_2.index t 0 * 2048 + 1 * k.val = _; exact at_start (congrFun hx 0)
  | ⟨1, _⟩ => show win0_2.index t 1 * 512 + 1 * x.val = _; exact at_coord (congrFun hx 1) rfl

theorem iblk3_apply (c : Dev nD) (t : Fin cfg0.N) (k : Fin 2048) (x : Fin 512) :
    iblk m c 3 t (ix2 k x) = m ((c : Thread nD τ).loc main_arg3) (ix2 k (col t x)) := by
  refine congrArg (m ((c : Thread nD τ).loc main_arg3)) (funext fun a => Fin.ext ?_)
  have hx := (index_facts t).2.2.2.1
  match a with
  | ⟨0, _⟩ => show win0_3.index t 0 * 2048 + 1 * k.val = _; exact at_start (congrFun hx 0)
  | ⟨1, _⟩ => show win0_3.index t 1 * 512 + 1 * x.val = _; exact at_coord (congrFun hx 1) rfl

theorem iblk4_apply (c : Dev nD) (t : Fin cfg0.N) (r : Fin 1024) (x : Fin 512) :
    iblk m c 4 t (ix2 r x) = m ((c : Thread nD τ).loc main_arg4)
      (ix2 (row t r) ⟨16384 + (col t x).val, by have := (col t x).isLt; omega⟩) := by
  refine congrArg (m ((c : Thread nD τ).loc main_arg4)) (funext fun a => Fin.ext ?_)
  have hx := (index_facts t).2.2.2.2.1
  match a with
  | ⟨0, _⟩ => show win0_4.index t 0 * 1024 + 1 * r.val = _; exact at_coord (congrFun hx 0) rfl
  | ⟨1, _⟩ =>
    show win0_4.index t 1 * 512 + 1 * x.val = _
    exact at_coord (congrFun hx 1) (by show (32 + t.val % 8) * 512 + x.val = 16384 + (t.val % 8 * 512 + x.val); omega)

theorem iblk5_apply (c : Dev nD) (t : Fin cfg0.N) (r : Fin 1024) (x : Fin 512) :
    iblk m c 5 t (ix2 r x) = m ((c : Thread nD τ).loc main_arg4)
      (ix2 (row t r) ⟨20480 + (col t x).val, by have := (col t x).isLt; omega⟩) := by
  refine congrArg (m ((c : Thread nD τ).loc main_arg4)) (funext fun a => Fin.ext ?_)
  have hx := (index_facts t).2.2.2.2.2.1
  match a with
  | ⟨0, _⟩ => show win0_5.index t 0 * 1024 + 1 * r.val = _; exact at_coord (congrFun hx 0) rfl
  | ⟨1, _⟩ =>
    show win0_5.index t 1 * 512 + 1 * x.val = _
    exact at_coord (congrFun hx 1) (by show (40 + t.val % 8) * 512 + x.val = 20480 + (t.val % 8 * 512 + x.val); omega)

/-- The whole merge, of the arguments. -/
abbrev whole (c : Dev nD) : Vec Ideal S8192x4096 .bf16 :=
  val (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 6 t = ((cfg0.win 6).blk t).view.read (Elt Ideal) (whole m c) := by
  rw [flushed6, out_eq]
  funext y
  obtain ⟨r, x, rfl⟩ : ∃ r x, y = ix2 r x := ⟨_, _, eq_ix2 (n0 := 1024) (n1 := 512) y⟩
  show k0_pay1 (iblk m c 0 t) (iblk m c 2 t) (iblk m c 1 t) (iblk m c 3 t) (iblk m c 4 t) (iblk m c 5 t) (ix2 r x)
    = whole m c (((cfg0.win 6).blk t).view.emb (ix2 r x))
  have hx := (index_facts t).2.2.2.2.2.2
  have e : ((cfg0.win 6).blk t).view.emb (ix2 r x) = ix2 (row t r) (col t x) := by
    refine funext fun a => Fin.ext ?_
    match a with
    | ⟨0, _⟩ => show win0_6.index t 0 * 1024 + 1 * r.val = _; exact at_coord (congrFun hx 0) rfl
    | ⟨1, _⟩ => show win0_6.index t 1 * 512 + 1 * x.val = _; exact at_coord (congrFun hx 1) rfl
  rw [e, pay_apply]
  simp only [iblk0_apply, iblk1_apply, iblk2_apply, iblk3_apply, iblk4_apply, iblk5_apply]
  rfl

/-- Every entry of the result lies in the block of some point. -/
theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 64 := N_0
  obtain ⟨t, ht⟩ : ∃ t : Fin cfg0.N, t.val = (i 0).val / 1024 * 8 + (i 1).val / 512 := ⟨⟨_, by omega⟩, rfl⟩
  refine ⟨t, flush0_6 t, ?_⟩
  have hx := (index_facts t).2.2.2.2.2.2
  show i ∈ ((View.whole main_v0).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    exact in_block (congrFun hx 0) (by show t.val / 8 = (i 0).val / 1024; omega) (by decide)
  | ⟨1, _⟩ =>
    show win0_6.index t 1 * 512 ≤ (i 1).val ∧ (i 1).val < win0_6.index t 1 * 512 + 512
    exact in_block (congrFun hx 1) (by show t.val % 8 = (i 1).val / 512; omega) (by decide)

/-- The result after the run is the whole merge. -/
theorem final (c : Dev nD) : (dats m 0 c).arrAt 6 cfg0.N = whole m c :=
  (dats m 0 c).arrAt_eq_of_cover 6 _ (fun t _ => flushed_eq m c t) cover

end Cert.Proof.Merge

namespace Cert.Proof.Merge

open Cert.MergeRefIdeal Cert.MergeRefIdeal.Gen Idealize.ShloMosaic Idealize.ShloMosaic.TcCoe

/-- The reference's result is the same formula. -/
theorem ref_eq (A B : Vec Ideal S8192x2048 .bf16) (W U : Vec Ideal S2048x4096 .f32) (P : Vec Ideal S8192x24576 .bf16) :
    (truncf .bf16 (addf (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 16384] (extf .f32 P bitsLt_bf16_f32) slices_S8192x24576_S8192x4096_0_16384)))))
        (Host.dotGeneral (φ₂ := .f32) dot_S8192x2048_S2048x4096_S8192x4096_1_0_0_1_n_n none (extf .f32 A bitsLt_bf16_f32) W))
      (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 20480] (extf .f32 P bitsLt_bf16_f32) slices_S8192x24576_S8192x4096_0_20480)))))
        (Host.dotGeneral (φ₂ := .f32) dot_S8192x2048_S2048x4096_S8192x4096_1_0_0_1_n_n none (extf .f32 B bitsLt_bf16_f32) U))) bitsLt_bf16_f32 : FVec Ideal S8192x4096 .bf16)
      = val A B W U P := by
  funext i
  pointwise [val, Ideal.logistic]

end Cert.Proof.Merge

end
-- ==== Proof.OutProjValue.lean ====
/- The output projection: what the tiled kernel leaves in its result, and the reference's, both as one formula. -/
module

public import proofs.«01_k».proof.Proof.Gen.OutProjIdeal.Value
public import proofs.«01_k».proof.Proof.Gen.OutProjRefIdeal.Run
public import proofs.«01_k».proof.Proof.BlockAt
public import Idealize.ShloMosaic.Lib.Pointwise

@[expose] public section

set_option maxRecDepth 16384

noncomputable section

namespace Cert.Proof.OutProj

open Cert.OutProjIdeal Cert.OutProjIdeal.Gen Cert.OutProjIdeal.Value Idealize.ShloMosaic Idealize.ShloMosaic.TcCoe Idealize.SL.Sem
open scoped BigOperators

/-- The tokens plus the sample's gate times the merged mixers by the output weights. -/
def val (A : Vec Ideal S8192x4096 .bf16) (W : Vec Ideal S4096x4096 .f32) (X : Vec Ideal S8192x4096 .f32) (G : Vec Ideal S3x6x1x4096 .f32) :
    Vec Ideal S8192x4096 .f32 :=
  fun i =>
    X (ix2 (n0 := 8192) (n1 := 4096) (i 0) (i 1))
      + G (ix4 (n0 := 3) (n1 := 6) (n2 := 1) (n3 := 4096) ⟨(i 0).val / 4096, by have : (i 0).val < 8192 := (i 0).isLt; omega⟩ 2 0 (i 1))
        * (∑ k : Fin 4096, A (ix2 (n0 := 8192) (i 0) k) * W (ix2 (n1 := 4096) k (i 1)))

/-- One block of the output projection. -/
theorem pay_apply (a : Vec Ideal S1024x4096 .bf16) (w : Vec Ideal S4096x512 .f32) (x : Vec Ideal S1024x512 .f32)
    (g : Vec Ideal S1x1x1x512 .f32) (r : Fin 1024) (j : Fin 512) :
    k0_pay1 x g a w (ix2 r j)
      = x (ix2 r j) + g (ix4 0 0 0 j) * (∑ k : Fin 4096, a (ix2 r k) * w (ix2 k j)) := by
  pointwise [k0_pay1]

theorem out_eq (a : Vec Ideal S1024x4096 .bf16) (w : Vec Ideal S4096x512 .f32) (x : Vec Ideal S1024x512 .f32)
    (g : Vec Ideal S1x1x1x512 .f32) : out0_4 a w x g = k0_pay1 x g a w := by
  have hz : (![0, 0] : Fin 2 → Nat) = fun _ => 0 := by decide
  have hz' : (![0, 0, 0, 0] : Fin 4 → Nat) = fun _ => 0 := by decide
  show View.canon [⟨Rect.unit (s := S1024x512) ![0, 0] S1024x512.size _, _⟩] = _
  rw [View.canon_unit_zero hz, View.ld_unit_zero hz, View.ld_unit_zero hz', View.ld_unit_zero hz, View.ld_unit_zero hz]

variable (m : (ℓ : Loc nD τ sig) → Buf (Elt Ideal) ℓ)

theorem index_facts : ∀ t : Fin grid0.N, win0_0.index t = ![t.val / 8, 0] ∧ win0_1.index t = ![0, t.val % 8]
    ∧ win0_2.index t = ![t.val / 8, t.val % 8] ∧ win0_3.index t = ![t.val / 32, 2, 0, t.val % 8]
    ∧ win0_4.index t = ![t.val / 8, t.val % 8] := by
  decide +kernel

theorem t_lt (t : Fin cfg0.N) : t.val < 64 := t.isLt.trans_eq N_0

/-- The row of the result that row `r` of the point's block is. -/
def row (t : Fin cfg0.N) (r : Fin 1024) : Fin 8192 := ⟨t.val / 8 * 1024 + r.val, by have := t_lt t; have := r.isLt; omega⟩

/-- The column of the result that column `x` of the point's block is. -/
def col (t : Fin cfg0.N) (x : Fin 512) : Fin 4096 := ⟨t.val % 8 * 512 + x.val, by have := x.isLt; omega⟩

theorem iblk0_apply (c : Dev nD) (t : Fin cfg0.N) (r : Fin 1024) (k : Fin 4096) :
    iblk m c 0 t (ix2 r k) = m ((c : Thread nD τ).loc main_arg0) (ix2 (row t r) k) := by
  refine congrArg (m ((c : Thread nD τ).loc main_arg0)) (funext fun a => Fin.ext ?_)
  have hx := (index_facts t).1
  match a with
  | ⟨0, _⟩ => show win0_0.index t 0 * 1024 + 1 * r.val = _; exact at_coord (congrFun hx 0) rfl
  | ⟨1, _⟩ => show win0_0.index t 1 * 4096 + 1 * k.val = _; exact at_start (congrFun hx 1)

theorem iblk1_apply (c : Dev nD) (t : Fin cfg0.N) (k : Fin 4096) (x : Fin 512) :
    iblk m c 1 t (ix2 k x) = m ((c : Thread nD τ).loc main_arg1) (ix2 k (col t x)) := by
  refine congrArg (m ((c : Thread nD τ).loc main_arg1)) (funext fun a => Fin.ext ?_)
  have hx := (index_facts t).2.1
  match a with
  | ⟨0, _⟩ => show win0_1.index t 0 * 4096 + 1 * k.val = _; exact at_start (congrFun hx 0)
  | ⟨1, _⟩ => show win0_1.index t 1 * 512 + 1 * x.val = _; exact at_coord (congrFun hx 1) rfl

theorem iblk2_apply (c : Dev nD) (t : Fin cfg0.N) (r : Fin 1024) (x : Fin 512) :
    iblk m c 2 t (ix2 r x) = m ((c : Thread nD τ).loc main_arg2) (ix2 (row t r) (col t x)) := by
  refine congrArg (m ((c : Thread nD τ).loc main_arg2)) (funext fun a => Fin.ext ?_)
  have hx := (index_facts t).2.2.1
  match a with
  | ⟨0, _⟩ => show win0_2.index t 0 * 1024 + 1 * r.val = _; exact at_coord (congrFun hx 0) rfl
  | ⟨1, _⟩ => show win0_2.index t 1 * 512 + 1 * x.val = _; exact at_coord (congrFun hx 1) rfl

theorem iblk3_apply (c : Dev nD) (t : Fin cfg0.N) (x : Fin 512) :
    iblk m c 3 t (ix4 0 0 0 x) = m ((c : Thread nD τ).loc main_arg3) (ix4 ⟨t.val / 32, by have := t_lt t; omega⟩ 2 0 (col t x)) := by
  refine congrArg (m ((c : Thread nD τ).loc main_arg3)) (funext fun a => Fin.ext ?_)
  have hx := (index_facts t).2.2.2.1
  match a with
  | ⟨0, _⟩ => show win0_3.index t 0 * 1 + 1 * 0 = t.val / 32; exact at_coord (congrFun hx 0) (Nat.mul_one _)
  | ⟨1, _⟩ => show win0_3.index t 1 * 1 + 1 * 0 = 2; exact at_coord (congrFun hx 1) rfl
  | ⟨2, _⟩ => show win0_3.index t 2 * 1 + 1 * 0 = 0; exact at_coord (congrFun hx 2) rfl
  | ⟨3, _⟩ => show win0_3.index t 3 * 512 + 1 * x.val = _; exact at_coord (congrFun hx 3) rfl

/-- The whole output projection, of the arguments. -/
abbrev whole (c : Dev nD) : Vec Ideal S8192x4096 .f32 :=
  val (m ((c : Thread nD τ).loc main_arg0)) (m ((c : Thread nD τ).loc main_arg1)) (m ((c : Thread nD τ).loc main_arg2))
    (m ((c : Thread nD τ).loc main_arg3))

theorem flushed_eq (c : Dev nD) (t : Fin cfg0.N) :
    (dats m 0 c).flushed 4 t = ((cfg0.win 4).blk t).view.read (Elt Ideal) (whole m c) := by
  rw [flushed4, out_eq]
  funext y
  obtain ⟨r, x, rfl⟩ : ∃ r x, y = ix2 r x := ⟨_, _, eq_ix2 (n0 := 1024) (n1 := 512) y⟩
  show k0_pay1 (iblk m c 2 t) (iblk m c 3 t) (iblk m c 0 t) (iblk m c 1 t) (ix2 r x)
    = whole m c (((cfg0.win 4).blk t).view.emb (ix2 r x))
  have hx := (index_facts t).2.2.2.2
  have e : ((cfg0.win 4).blk t).view.emb (ix2 r x) = ix2 (row t r) (col t x) := by
    refine funext fun a => Fin.ext ?_
    match a with
    | ⟨0, _⟩ => show win0_4.index t 0 * 1024 + 1 * r.val = _; exact at_coord (congrFun hx 0) rfl
    | ⟨1, _⟩ => show win0_4.index t 1 * 512 + 1 * x.val = _; exact at_coord (congrFun hx 1) rfl
  have es : (⟨t.val / 32, by have := t_lt t; omega⟩ : Fin 3) = ⟨(row t r).val / 4096, by have := (row t r).isLt; omega⟩ :=
    Fin.ext (by show t.val / 32 = (t.val / 8 * 1024 + r.val) / 4096; have := r.isLt; omega)
  rw [e, pay_apply]
  simp only [iblk0_apply, iblk1_apply, iblk2_apply, iblk3_apply]
  rw [es]
  rfl

/-- Every entry of the result lies in the block of some point. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 64 := N_0
  obtain ⟨t, ht⟩ : ∃ t : Fin cfg0.N, t.val = (i 0).val / 1024 * 8 + (i 1).val / 512 := ⟨⟨_, by omega⟩, rfl⟩
  refine ⟨t, flush0_4 t, ?_⟩
  have hx := (index_facts t).2.2.2.2
  show i ∈ ((View.whole main_v0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    exact in_block (congrFun hx 0) (by show t.val / 8 = (i 0).val / 1024; omega) (by decide)
  | ⟨1, _⟩ =>
    show win0_4.index t 1 * 512 ≤ (i 1).val ∧ (i 1).val < win0_4.index t 1 * 512 + 512
    exact in_block (congrFun hx 1) (by show t.val % 8 = (i 1).val / 512; omega) (by decide)

/-- The result after the run is the whole output projection. -/
theorem final (c : Dev nD) : (dats m 0 c).arrAt 4 cfg0.N = whole m c :=
  (dats m 0 c).arrAt_eq_of_cover 4 _ (fun t _ => flushed_eq m c t) cover

end Cert.Proof.OutProj

namespace Cert.Proof.OutProj

open Cert.OutProjRefIdeal Cert.OutProjRefIdeal.Gen Idealize.ShloMosaic

/-- The reference's result is the same formula. -/
theorem ref_eq (A : Vec Ideal S8192x4096 .bf16) (W : Vec Ideal S4096x4096 .f32) (X : Vec Ideal S8192x4096 .f32) (G : Vec Ideal S3x6x1x4096 .f32) :
    (shapeCast _ (addf (shapeCast _ X shapeCasts_S8192x4096_S2x4096x4096) (mulf (broadcastInDim S2x4096x4096 ![0, 1, 2] bcast_S2x1x4096_S2x4096x4096_0_1_2 (shapeCast _ (extractStridedSlice S2x1x1x4096 ![0, 2, 0, 0] G slices_S3x6x1x4096_S2x1x1x4096_0_2_0_0) shapeCasts_S2x1x1x4096_S2x1x4096)) (Host.dotGeneral (φ₂ := .f32) dot_S2x4096x4096_S4096x4096_S2x4096x4096_2_0_01_1_n_n none (shapeCast _ (extf .f32 A bitsLt_bf16_f32) shapeCasts_S8192x4096_S2x4096x4096) W))) shapeCasts_S2x4096x4096_S8192x4096
        : FVec Ideal S8192x4096 .f32)
      = val A W X G := by
  funext i
  obtain ⟨r, x, rfl⟩ : ∃ (r : Fin 8192) (x : Fin 4096), i = ix2 r x := ⟨_, _, eq_ix2 i⟩
  pointwise [val]

end Cert.Proof.OutProj

end
-- ==== Proof.ExpertUpValue.lean ====
/- The experts' first layer: what the tiled kernel leaves in its result, and the reference's, both as one formula. -/
module

public import proofs.«01_k».proof.Proof.Gen.ExpertUpIdeal.Value
public import proofs.«01_k».proof.Proof.Gen.ExpertUpRefIdeal.Run
public import proofs.«01_k».proof.Proof.BlockAt
public import Idealize.ShloMosaic.Lib.Pointwise

@[expose] public section

set_option maxRecDepth 16384

noncomputable section

namespace Cert.Proof.ExpertUp

open Cert.ExpertUpIdeal Cert.ExpertUpIdeal.Gen Cert.ExpertUpIdeal.Value Idealize.ShloMosaic Idealize.ShloMosaic.TcCoe Idealize.SL.Sem
open scoped BigOperators

/-- One entry of an expert's tokens by its weights. -/
def prod (A : Vec Ideal S16x1024x4096 .bf16) (W : Vec Ideal S16x4096x2048 .f32) (e : Fin 16) (r : Fin 1024) (x : Fin 2048) : EReal :=
  ∑ k : Fin 4096, A (ix3 e r k) * W (ix3 e k x)

/-- The gate's product through the sigmoid unit, times the other product. -/
def val (A : Vec Ideal S16x1024x4096 .bf16) (W U : Vec Ideal S16x4096x2048 .f32) : Vec Ideal S16x1024x2048 .bf16 :=
  fun i => prod A W (i 0) (i 1) (i 2) * Ideal.logistic (prod A W (i 0) (i 1) (i 2)) * prod A U (i 0) (i 1) (i 2)

/-- One block of an expert's first layer. -/
theorem pay_apply (a : Vec Ideal S1x1024x4096 .bf16) (w u : Vec Ideal S1x4096x256 .f32) (r : Fin 1024) (x : Fin 256) :
    k0_pay1 a w u (ix3 0 r x)
      = (∑ k : Fin 4096, a (ix3 0 r k) * w (ix3 0 k x)) * Ideal.logistic (∑ k : Fin 4096, a (ix3 0 r k) * w (ix3 0 k x))
        * (∑ k : Fin 4096, a (ix3 0 r k) * u (ix3 0 k x)) := by
  pointwise [k0_pay1]

theorem out_eq (a : Vec Ideal S1x1024x4096 .bf16) (w u : Vec Ideal S1x4096x256 .f32) : out0_3 a w u = k0_pay1 a w u := by
  have hz : (![0, 0, 0] : Fin 3 → Nat) = fun _ => 0 := by decide
  show View.canon [⟨Rect.unit (s := S1x1024x256) ![0, 0, 0] S1x1024x256.size _, _⟩] = _
  rw [View.canon_unit_zero hz, View.ld_unit_zero hz, View.ld_unit_zero hz, View.ld_unit_zero hz]

variable (m : (ℓ : Loc nD τ sig) → Buf (Elt Ideal) ℓ)

theorem index_facts : ∀ t : Fin grid0.N, win0_0.index t = ![t.val / 8, 0, 0] ∧ win0_1.index t = ![t.val / 8, 0, t.val % 8]
    ∧ win0_2.index t = ![t.val / 8, 0, t.val % 8] ∧ win0_3.index t = ![t.val / 8, 0, t.val % 8] := by
  decide +kernel

theorem t_lt (t : Fin cfg0.N) : t.val < 128 := t.isLt.trans_eq N_0

/-- The point's expert. -/
def expert (t : Fin cfg0.N) : Fin 16 := ⟨t.val / 8, by have := t_lt t; omega⟩

/-- The column of the result that column `x` of the point's block is. -/
def col (t : Fin cfg0.N) (x : Fin 256) : Fin 2048 := ⟨t.val % 8 * 256 + x.val, by have := x.isLt; omega⟩

theorem iblk0_apply (c : Dev nD) (t : Fin cfg0.N) (r : Fin 1024) (k : Fin 4096) :
    iblk m c 0 t (ix3 0 r k) = m ((c : Thread nD τ).loc main_arg0) (ix3 (expert t) r k) := by
  refine congrArg (m ((c : Thread nD τ).loc main_arg0)) (funext fun a => Fin.ext ?_)
  have hx := (index_facts t).1
  match a with
  | ⟨0, _⟩ => show win0_0.index t 0 * 1 + 1 * 0 = _; exact at_coord (congrFun hx 0) (Nat.mul_one _)
  | ⟨1, _⟩ => show win0_0.index t 1 * 1024 + 1 * r.val = _; exact at_start (congrFun hx 1)
  | ⟨2, _⟩ => show win0_0.index t 2 * 4096 + 1 * k.val = _; exact at_start (congrFun hx 2)

theorem iblk1_apply (c : Dev nD) (t : Fin cfg0.N) (k : Fin 4096) (x : Fin 256) :
    iblk m c 1 t (ix3 0 k x) = m ((c : Thread nD τ).loc main_arg1) (ix3 (expert t) k (col t x)) := by
  refine congrArg (m ((c : Thread nD τ).loc main_arg1)) (funext fun a => Fin.ext ?_)
  have hx := (index_facts t).2.1
  match a with
  | ⟨0, _⟩ => show win0_1.index t 0 * 1 + 1 * 0 = _; exact at_coord (congrFun hx 0) (Nat.mul_one _)
  | ⟨1, _⟩ => show win0_1.index t 1 * 4096 + 1 * k.val = _; exact at_start (congrFun hx 1)
  | ⟨2, _⟩ => show win0_1.index t 2 * 256 + 1 * x.val = _; exact at_coord (congrFun hx 2) rfl

theorem iblk2_apply (c : Dev nD) (t : Fin cfg0.N) (k : Fin 4096) (x : Fin 256) :
    iblk m c 2 t (ix3 0 k x) = m ((c : Thread nD τ).loc main_arg2) (ix3 (expert t) k (col t x)) := by
  refine congrArg (m ((c : Thread nD τ).loc main_arg2)) (funext fun a => Fin.ext ?_)
  have hx := (index_facts t).2.2.1
  match a with
  | ⟨0, _⟩ => show win0_2.index t 0 * 1 + 1 * 0 = _; exact at_coord (congrFun hx 0) (Nat.mul_one _)
  | ⟨1, _⟩ => show win0_2.index t 1 * 4096 + 1 * k.val = _; exact at_start (congrFun hx 1)
  | ⟨2, _⟩ => show win0_2.index t 2 * 256 + 1 * x.val = _; exact at_coord (congrFun hx 2) rfl

/-- The experts' whole first layer, of the arguments. -/
abbrev whole (c : Dev nD) : Vec Ideal S16x1024x2048 .bf16 :=
  val (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (whole m c) := by
  rw [flushed3, out_eq]
  funext y
  obtain ⟨z, r, x, rfl⟩ : ∃ z r x, y = ix3 z r x := ⟨_, _, _, eq_ix3 (n0 := 1) (n1 := 1024) (n2 := 256) y⟩
  obtain rfl : z = 0 := Subsingleton.elim _ _
  show k0_pay1 (iblk m c 0 t) (iblk m c 1 t) (iblk m c 2 t) (ix3 0 r x) = whole m c (((cfg0.win 3).blk t).view.emb (ix3 0 r x))
  have hx := (index_facts t).2.2.2
  have e : ((cfg0.win 3).blk t).view.emb (ix3 0 r x) = ix3 (expert t) r (col t x) := by
    refine funext fun a => Fin.ext ?_
    match a with
    | ⟨0, _⟩ => show win0_3.index t 0 * 1 + 1 * 0 = _; exact at_coord (congrFun hx 0) (Nat.mul_one _)
    | ⟨1, _⟩ => show win0_3.index t 1 * 1024 + 1 * r.val = _; exact at_start (congrFun hx 1)
    | ⟨2, _⟩ => show win0_3.index t 2 * 256 + 1 * x.val = _; exact at_coord (congrFun hx 2) rfl
  rw [e, pay_apply]
  simp only [iblk0_apply, iblk1_apply, iblk2_apply]
  rfl

/-- Every entry of the result lies in the block of some point. -/
theorem cover (i : S16x1024x2048.Idx) : ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 2048 := (i 2).isLt
  have hN : cfg0.N = 128 := N_0
  obtain ⟨t, ht⟩ : ∃ t : Fin cfg0.N, t.val = (i 0).val * 8 + (i 2).val / 256 := ⟨⟨_, by omega⟩, rfl⟩
  refine ⟨t, flush0_3 t, ?_⟩
  have hx := (index_facts t).2.2.2
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    exact in_block (congrFun hx 0) (by show t.val / 8 = (i 0).val / 1; omega) (by decide)
  | ⟨1, _⟩ =>
    show win0_3.index t 1 * 1024 ≤ (i 1).val ∧ (i 1).val < win0_3.index t 1 * 1024 + 1024
    exact in_block (congrFun hx 1) (by show 0 = (i 1).val / 1024; omega) (by decide)
  | ⟨2, _⟩ =>
    show win0_3.index t 2 * 256 ≤ (i 2).val ∧ (i 2).val < win0_3.index t 2 * 256 + 256
    exact in_block (congrFun hx 2) (by show t.val % 8 = (i 2).val / 256; omega) (by decide)

/-- The result after the run is the experts' whole first layer. -/
theorem final (c : Dev nD) : (dats m 0 c).arrAt 3 cfg0.N = whole m c :=
  (dats m 0 c).arrAt_eq_of_cover 3 _ (fun t _ => flushed_eq m c t) cover

end Cert.Proof.ExpertUp

namespace Cert.Proof.ExpertUp

open Cert.ExpertUpRefIdeal Cert.ExpertUpRefIdeal.Gen Idealize.ShloMosaic

/-- The reference's result is the same formula. -/
theorem ref_eq (A : Vec Ideal S16x1024x4096 .bf16) (W U : Vec Ideal S16x4096x2048 .f32) :
    (truncf .bf16 (mulf (mulf (Host.dotGeneral (φ₂ := .f32) dot_S16x1024x4096_S16x4096x2048_S16x1024x2048_2_1_1_2_0_0 none (extf .f32 A bitsLt_bf16_f32) W)
        (Host.divf (broadcastInDim S16x1024x2048 ![] bcast_S_S16x1024x2048 (constant S_ .f32 0x3F800000#32)) (addf (broadcastInDim S16x1024x2048 ![] bcast_S_S16x1024x2048 (constant S_ .f32 0x3F800000#32)) (Host.exp (Host.negf (Host.dotGeneral (φ₂ := .f32) dot_S16x1024x4096_S16x4096x2048_S16x1024x2048_2_1_1_2_0_0 none (extf .f32 A bitsLt_bf16_f32) W))))))
        (Host.dotGeneral (φ₂ := .f32) dot_S16x1024x4096_S16x4096x2048_S16x1024x2048_2_1_1_2_0_0 none (extf .f32 A bitsLt_bf16_f32) U)) bitsLt_bf16_f32
        : FVec Ideal S16x1024x2048 .bf16)
      = val A W U := by
  funext i
  pointwise [val, prod, Ideal.logistic]

end Cert.Proof.ExpertUp

end
-- ==== Proof.ExpertDownValue.lean ====
/- The experts' second layer: what the tiled kernel leaves in its result, and the reference's, both as one formula. -/
module

public import proofs.«01_k».proof.Proof.Gen.ExpertDownIdeal.Value
public import proofs.«01_k».proof.Proof.Gen.ExpertDownRefIdeal.Run
public import proofs.«01_k».proof.Proof.BlockAt
public import Idealize.ShloMosaic.Lib.Pointwise

@[expose] public section

set_option maxRecDepth 16384

noncomputable section

namespace Cert.Proof.ExpertDown

open Cert.ExpertDownIdeal Cert.ExpertDownIdeal.Gen Cert.ExpertDownIdeal.Value Idealize.ShloMosaic Idealize.ShloMosaic.TcCoe Idealize.SL.Sem
open scoped BigOperators

/-- An expert's activations by its weights, times the affinity of the row's token. -/
def val (A : Vec Ideal S16x1024x2048 .bf16) (W : Vec Ideal S16x2048x4096 .f32) (G : Vec Ideal S16x1024x128 .f32) : Vec Ideal S16x1024x4096 .bf16 :=
  fun i => (∑ k : Fin 2048, A (ix3 (n0 := 16) (n1 := 1024) (i 0) (i 1) k) * W (ix3 (n0 := 16) (n2 := 4096) (i 0) k (i 2)))
    * G (ix3 (n0 := 16) (n1 := 1024) (n2 := 128) (i 0) (i 1) 0)

/-- One block of an expert's second layer. -/
theorem pay_apply (a : Vec Ideal S1x1024x2048 .bf16) (w : Vec Ideal S1x2048x1024 .f32) (g : Vec Ideal S1x1024x1 .f32) (r x : Fin 1024) :
    k0_pay1 a w g (ix3 0 r x) = (∑ k : Fin 2048, a (ix3 0 r k) * w (ix3 0 k x)) * g (ix3 0 r 0) := by
  pointwise [k0_pay1]

theorem out_apply (a : Vec Ideal S1x1024x2048 .bf16) (w : Vec Ideal S1x2048x1024 .f32) (g : Vec Ideal S1x1024x128 .f32) (r x : Fin 1024) :
    out0_3 a w g (ix3 0 r x) = (∑ k : Fin 2048, a (ix3 0 r k) * w (ix3 0 k x)) * g (ix3 0 r 0) := by
  have hz : (![0, 0, 0] : Fin 3 → Nat) = fun _ => 0 := by decide
  have e : out0_3 a w g = k0_pay1 a w (View.ld g r0_2) := by
    show View.canon [⟨Rect.unit (s := S1x1024x1024) ![0, 0, 0] S1x1024x1024.size _, _⟩] = _
    rw [View.canon_unit_zero hz, View.ld_unit_zero hz, View.ld_unit_zero hz]
  rw [e, pay_apply]
  refine congrArg (_ * ·) (congrArg g (funext fun a => Fin.ext ?_))
  match a with
  | ⟨0, _⟩ => rfl
  | ⟨1, _⟩ => show 0 + 1 * r.val = r.val; omega
  | ⟨2, _⟩ => rfl

variable (m : (ℓ : Loc nD τ sig) → Buf (Elt Ideal) ℓ)

theorem index_facts : ∀ t : Fin grid0.N, win0_0.index t = ![t.val / 4, 0, 0] ∧ win0_1.index t = ![t.val / 4, 0, t.val % 4]
    ∧ win0_2.index t = ![t.val / 4, 0, 0] ∧ win0_3.index t = ![t.val / 4, 0, t.val % 4] := by
  decide +kernel

theorem t_lt (t : Fin cfg0.N) : t.val < 64 := t.isLt.trans_eq N_0

/-- The point's expert. -/
def expert (t : Fin cfg0.N) : Fin 16 := ⟨t.val / 4, by have := t_lt t; omega⟩

/-- The column of the result that column `x` of the point's block is. -/
def col (t : Fin cfg0.N) (x : Fin 1024) : Fin 4096 := ⟨t.val % 4 * 1024 + x.val, by have := x.isLt; omega⟩

theorem iblk0_apply (c : Dev nD) (t : Fin cfg0.N) (r : Fin 1024) (k : Fin 2048) :
    iblk m c 0 t (ix3 0 r k) = m ((c : Thread nD τ).loc main_arg0) (ix3 (expert t) r k) := by
  refine congrArg (m ((c : Thread nD τ).loc main_arg0)) (funext fun a => Fin.ext ?_)
  have hx := (index_facts t).1
  match a with
  | ⟨0, _⟩ => show win0_0.index t 0 * 1 + 1 * 0 = _; exact at_coord (congrFun hx 0) (Nat.mul_one _)
  | ⟨1, _⟩ => show win0_0.index t 1 * 1024 + 1 * r.val = _; exact at_start (congrFun hx 1)
  | ⟨2, _⟩ => show win0_0.index t 2 * 2048 + 1 * k.val = _; exact at_start (congrFun hx 2)

theorem iblk1_apply (c : Dev nD) (t : Fin cfg0.N) (k : Fin 2048) (x : Fin 1024) :
    iblk m c 1 t (ix3 0 k x) = m ((c : Thread nD τ).loc main_arg1) (ix3 (expert t) k (col t x)) := by
  refine congrArg (m ((c : Thread nD τ).loc main_arg1)) (funext fun a => Fin.ext ?_)
  have hx := (index_facts t).2.1
  match a with
  | ⟨0, _⟩ => show win0_1.index t 0 * 1 + 1 * 0 = _; exact at_coord (congrFun hx 0) (Nat.mul_one _)
  | ⟨1, _⟩ => show win0_1.index t 1 * 2048 + 1 * k.val = _; exact at_start (congrFun hx 1)
  | ⟨2, _⟩ => show win0_1.index t 2 * 1024 + 1 * x.val = _; exact at_coord (congrFun hx 2) rfl

theorem iblk2_apply (c : Dev nD) (t : Fin cfg0.N) (r : Fin 1024) :
    iblk m c 2 t (ix3 0 r 0) = m ((c : Thread nD τ).loc main_arg2) (ix3 (expert t) r 0) := by
  refine congrArg (m ((c : Thread nD τ).loc main_arg2)) (funext fun a => Fin.ext ?_)
  have hx := (index_facts t).2.2.1
  match a with
  | ⟨0, _⟩ => show win0_2.index t 0 * 1 + 1 * 0 = _; exact at_coord (congrFun hx 0) (Nat.mul_one _)
  | ⟨1, _⟩ => show win0_2.index t 1 * 1024 + 1 * r.val = _; exact at_start (congrFun hx 1)
  | ⟨2, _⟩ => show win0_2.index t 2 * 128 + 1 * 0 = 0; exact at_start (congrFun hx 2)

/-- The experts' whole second layer, of the arguments. -/
abbrev whole (c : Dev nD) : Vec Ideal S16x1024x4096 .bf16 :=
  val (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (whole m c) := by
  rw [flushed3]
  funext y
  obtain ⟨z, r, x, rfl⟩ : ∃ z r x, y = ix3 z r x := ⟨_, _, _, eq_ix3 (n0 := 1) (n1 := 1024) (n2 := 1024) y⟩
  obtain rfl : z = 0 := Subsingleton.elim _ _
  show out0_3 (iblk m c 0 t) (iblk m c 1 t) (iblk m c 2 t) (ix3 0 r x) = whole m c (((cfg0.win 3).blk t).view.emb (ix3 0 r x))
  have hx := (index_facts t).2.2.2
  have e : ((cfg0.win 3).blk t).view.emb (ix3 0 r x) = ix3 (expert t) r (col t x) := by
    refine funext fun a => Fin.ext ?_
    match a with
    | ⟨0, _⟩ => show win0_3.index t 0 * 1 + 1 * 0 = _; exact at_coord (congrFun hx 0) (Nat.mul_one _)
    | ⟨1, _⟩ => show win0_3.index t 1 * 1024 + 1 * r.val = _; exact at_start (congrFun hx 1)
    | ⟨2, _⟩ => show win0_3.index t 2 * 1024 + 1 * x.val = _; exact at_coord (congrFun hx 2) rfl
  rw [e, out_apply]
  simp only [iblk0_apply, iblk1_apply, iblk2_apply]
  rfl

/-- Every entry of the result lies in the block of some point. -/
theorem cover (i : S16x1024x4096.Idx) : ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 4096 := (i 2).isLt
  have hN : cfg0.N = 64 := N_0
  obtain ⟨t, ht⟩ : ∃ t : Fin cfg0.N, t.val = (i 0).val * 4 + (i 2).val / 1024 := ⟨⟨_, by omega⟩, rfl⟩
  refine ⟨t, flush0_3 t, ?_⟩
  have hx := (index_facts t).2.2.2
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    exact in_block (congrFun hx 0) (by show t.val / 4 = (i 0).val / 1; omega) (by decide)
  | ⟨1, _⟩ =>
    show win0_3.index t 1 * 1024 ≤ (i 1).val ∧ (i 1).val < win0_3.index t 1 * 1024 + 1024
    exact in_block (congrFun hx 1) (by show 0 = (i 1).val / 1024; omega) (by decide)
  | ⟨2, _⟩ =>
    show win0_3.index t 2 * 1024 ≤ (i 2).val ∧ (i 2).val < win0_3.index t 2 * 1024 + 1024
    exact in_block (congrFun hx 2) (by show t.val % 4 = (i 2).val / 1024; omega) (by decide)

/-- The result after the run is the experts' whole second layer. -/
theorem final (c : Dev nD) : (dats m 0 c).arrAt 3 cfg0.N = whole m c :=
  (dats m 0 c).arrAt_eq_of_cover 3 _ (fun t _ => flushed_eq m c t) cover

end Cert.Proof.ExpertDown

namespace Cert.Proof.ExpertDown

open Cert.ExpertDownRefIdeal Cert.ExpertDownRefIdeal.Gen Idealize.ShloMosaic

/-- The reference's result is the same formula. -/
theorem ref_eq (A : Vec Ideal S16x1024x2048 .bf16) (W : Vec Ideal S16x2048x4096 .f32) (G : Vec Ideal S16x1024x128 .f32) :
    (truncf .bf16 (mulf (Host.dotGeneral (φ₂ := .f32) dot_S16x1024x2048_S16x2048x4096_S16x1024x4096_2_1_1_2_0_0 none (extf .f32 A bitsLt_bf16_f32) W)
        (broadcastInDim S16x1024x4096 ![0, 1, 2] bcast_S16x1024x1_S16x1024x4096_0_1_2 (extractStridedSlice S16x1024x1 ![0, 0, 0] G slices_S16x1024x128_S16x1024x1_0_0_0))) bitsLt_bf16_f32
        : FVec Ideal S16x1024x4096 .bf16)
      = val A W G := by
  funext i
  pointwise [val]

end Cert.Proof.ExpertDown

end
-- ==== Proof.ModulationValue.lean ====
/- The modulation: what the tiled product leaves in its result, and the reference's three products. -/
module

public import proofs.«01_k».proof.Proof.Gen.ModulationIdeal.Value
public import proofs.«01_k».proof.Proof.Gen.ModulationRefIdeal.Run
public import proofs.«01_k».proof.Proof.BlockAt
public import Idealize.ShloMosaic.Lib.StableHlo.ReadAt
public import Idealize.ShloMosaic.Lib.Pointwise

@[expose] public section

set_option maxRecDepth 16384

noncomputable section

namespace Cert.Proof.Modulation

open Cert.ModulationIdeal Cert.ModulationIdeal.Gen Cert.ModulationIdeal.Value Idealize.ShloMosaic Idealize.ShloMosaic.TcCoe Idealize.SL.Sem
open scoped BigOperators

/-- The eight rows of conditioning: the samples', the context's, and zeros. -/
def cond (C : Vec Ideal S2x4096 .f32) (x : Vec Ideal S4096 .f32) (r : Fin 8) (k : Fin 4096) : EReal :=
  if h : r.val < 2 then C (ix2 (n0 := 2) ⟨r.val, h⟩ k) else if r.val < 3 then x (ix1 k) else Ideal.ofBits .f32 0x00000000#32

/-- The rows, each times its logistic, by the weights, plus the bias. -/
def val (C : Vec Ideal S2x4096 .f32) (x : Vec Ideal S4096 .f32) (W : Vec Ideal S4096x24576 .f32) (b : Vec Ideal S24576 .f32) :
    Vec Ideal S8x24576 .f32 :=
  fun i => (∑ k : Fin 4096, cond C x (i 0) k * Ideal.logistic (cond C x (i 0) k) * W (ix2 (n1 := 24576) k (i 1))) + b (ix1 (n0 := 24576) (i 1))

/-- One block of the modulation: the eight rows by 1024 columns of weights. -/
theorem pay_apply (a : Vec Ideal S8x4096 .f32) (w : Vec Ideal S4096x1024 .f32) (b : Vec Ideal S1x1024 .f32) (r : Fin 8) (x : Fin 1024) :
    k0_pay1 a w b (ix2 r x) = (∑ k : Fin 4096, a (ix2 r k) * Ideal.logistic (a (ix2 r k)) * w (ix2 k x)) + b (ix2 0 x) := by
  pointwise [k0_pay1]

theorem out_eq (a : Vec Ideal S8x4096 .f32) (w : Vec Ideal S4096x1024 .f32) (b : Vec Ideal S1x1024 .f32) :
    out0_3 a w b = k0_pay1 a w b := by
  have hz : (![0, 0] : Fin 2 → Nat) = fun _ => 0 := by decide
  show View.canon [⟨Rect.unit (s := S8x1024) ![0, 0] S8x1024.size _, _⟩] = _
  rw [View.canon_unit_zero hz, View.ld_unit_zero hz, View.ld_unit_zero hz, View.ld_unit_zero hz]

variable (m : (ℓ : Loc nD τ sig) → Buf (Elt Ideal) ℓ)

theorem index_facts : ∀ t : Fin grid0.N, win0_0.index t = ![0, 0] ∧ win0_1.index t = ![0, t.val]
    ∧ win0_2.index t = ![0, t.val] ∧ win0_3.index t = ![0, t.val] := by
  decide +kernel

theorem t_lt (t : Fin cfg0.N) : t.val < 24 := t.isLt.trans_eq N_0

/-- The column of the result that column `x` of the point's block is. -/
def col (t : Fin cfg0.N) (x : Fin 1024) : Fin 24576 := ⟨t.val * 1024 + x.val, by have := t_lt t; have := x.isLt; omega⟩

/-- The rows of conditioning as they are laid out before the product. -/
theorem cond_at (c : Dev nD) (r : Fin 8) (k : Fin 4096) :
    V m c main_v2 (ix2 r k) = cond (m ((c : Thread nD τ).loc main_arg0)) (m ((c : Thread nD τ).loc main_arg1)) r k := by
  unfold V
  after_reads_at
  unfold cond
  by_cases h : r.val < 2
  · simp only [dif_pos h]
  · simp only [dif_neg h]
    by_cases h3 : r.val < 3
    · rw [dif_pos (show r.val - 2 < 1 by omega), if_pos h3]
      after_reads_at
    · rw [dif_neg (show ¬ r.val - 2 < 1 by omega), if_neg h3]
      after_reads_at

/-- The bias, laid out as one row. -/
theorem bias_at (c : Dev nD) (x : Fin 24576) :
    V m c main_v3 (ix2 0 x) = m ((c : Thread nD τ).loc main_arg3) (ix1 x) := by
  unfold V
  after_reads_at

theorem iblk0_apply (c : Dev nD) (t : Fin cfg0.N) (r : Fin 8) (k : Fin 4096) :
    iblk m c 0 t (ix2 r k) = cond (m ((c : Thread nD τ).loc main_arg0)) (m ((c : Thread nD τ).loc main_arg1)) r k := by
  refine Eq.trans ?_ (cond_at m c r k)
  unfold iblk
  show V m c main_v2 (((cfg0.win 0).blk t).view.emb (ix2 r k)) = _
  refine congrArg (V m c main_v2) (funext fun a => Fin.ext ?_)
  have hx := (index_facts t).1
  match a with
  | ⟨0, _⟩ => show win0_0.index t 0 * 8 + 1 * r.val = _; exact at_start (congrFun hx 0)
  | ⟨1, _⟩ => show win0_0.index t 1 * 4096 + 1 * k.val = _; exact at_start (congrFun hx 1)

theorem iblk1_apply (c : Dev nD) (t : Fin cfg0.N) (k : Fin 4096) (x : Fin 1024) :
    iblk m c 1 t (ix2 k x) = m ((c : Thread nD τ).loc main_arg2) (ix2 k (col t x)) := by
  unfold iblk
  show V m c main_arg2 (((cfg0.win 1).blk t).view.emb (ix2 k x)) = _
  rw [V_main_arg2]
  refine congrArg (m ((c : Thread nD τ).loc main_arg2)) (funext fun a => Fin.ext ?_)
  have hx := (index_facts t).2.1
  match a with
  | ⟨0, _⟩ => show win0_1.index t 0 * 4096 + 1 * k.val = _; exact at_start (congrFun hx 0)
  | ⟨1, _⟩ => show win0_1.index t 1 * 1024 + 1 * x.val = _; exact at_coord (congrFun hx 1) rfl

theorem iblk2_apply (c : Dev nD) (t : Fin cfg0.N) (x : Fin 1024) :
    iblk m c 2 t (ix2 0 x) = m ((c : Thread nD τ).loc main_arg3) (ix1 (col t x)) := by
  refine Eq.trans ?_ (bias_at m c (col t x))
  unfold iblk
  show V m c main_v3 (((cfg0.win 2).blk t).view.emb (ix2 0 x)) = _
  refine congrArg (V m c main_v3) (funext fun a => Fin.ext ?_)
  have hx := (index_facts t).2.2.1
  match a with
  | ⟨0, _⟩ => show win0_2.index t 0 * 1 + 1 * 0 = _; exact at_start (congrFun hx 0)
  | ⟨1, _⟩ => show win0_2.index t 1 * 1024 + 1 * x.val = _; exact at_coord (congrFun hx 1) rfl

/-- The whole modulation, of the arguments. -/
abbrev whole (c : Dev nD) : Vec Ideal S8x24576 .f32 :=
  val (m ((c : Thread nD τ).loc main_arg0)) (m ((c : Thread nD τ).loc main_arg1)) (m ((c : Thread nD τ).loc main_arg2))
    (m ((c : Thread nD τ).loc main_arg3))

theorem flushed_eq (c : Dev nD) (t : Fin cfg0.N) :
    (dats m 0 c).flushed 3 t = ((cfg0.win 3).blk t).view.read (Elt Ideal) (whole m c) := by
  rw [flushed3, out_eq]
  funext y
  obtain ⟨r, x, rfl⟩ : ∃ r x, y = ix2 r x := ⟨_, _, eq_ix2 (n0 := 8) (n1 := 1024) y⟩
  show k0_pay1 (iblk m c 0 t) (iblk m c 1 t) (iblk m c 2 t) (ix2 r x) = whole m c (((cfg0.win 3).blk t).view.emb (ix2 r x))
  have hx := (index_facts t).2.2.2
  have e : ((cfg0.win 3).blk t).view.emb (ix2 r x) = ix2 r (col t x) := by
    refine funext fun a => Fin.ext ?_
    match a with
    | ⟨0, _⟩ => show win0_3.index t 0 * 8 + 1 * r.val = _; exact at_start (congrFun hx 0)
    | ⟨1, _⟩ => show win0_3.index t 1 * 1024 + 1 * x.val = _; exact at_coord (congrFun hx 1) rfl
  rw [e, pay_apply]
  simp only [iblk0_apply, iblk1_apply, iblk2_apply]
  rfl

/-- Every entry of the result lies in the block of some point. -/
theorem cover (i : S8x24576.Idx) : ∃ t : Fin cfg0.N, (cfg0.win 3).flush t = true ∧ i ∈ ((cfg0.win 3).blk t).view.set := by
  have h0 : (i 0).val < 8 := (i 0).isLt
  have h1 : (i 1).val < 24576 := (i 1).isLt
  have hN : cfg0.N = 24 := N_0
  obtain ⟨t, ht⟩ : ∃ t : Fin cfg0.N, t.val = (i 1).val / 1024 := ⟨⟨_, by omega⟩, rfl⟩
  refine ⟨t, flush0_3 t, ?_⟩
  have hx := (index_facts t).2.2.2
  show i ∈ ((View.whole main_v4).slice (win0_3.rect t)).set
  rw [View.set_slice_whole, Rect.mem_set_unit]
  intro a
  match a with
  | ⟨0, _⟩ =>
    show win0_3.index t 0 * 8 ≤ (i 0).val ∧ (i 0).val < win0_3.index t 0 * 8 + 8
    exact in_block (congrFun hx 0) (by show 0 = _; omega) (by decide)
  | ⟨1, _⟩ =>
    show win0_3.index t 1 * 1024 ≤ (i 1).val ∧ (i 1).val < win0_3.index t 1 * 1024 + 1024
    exact in_block (congrFun hx 1) ht (by decide)

/-- The result after the run is the whole modulation. -/
theorem final (c : Dev nD) : (dats m 0 c).arrAt 3 cfg0.N = whole m c :=
  (dats m 0 c).arrAt_eq_of_cover 3 _ (fun t _ => flushed_eq m c t) cover

end Cert.Proof.Modulation

namespace Cert.Proof.Modulation

open Cert.ModulationRefIdeal Cert.ModulationRefIdeal.Gen Idealize.ShloMosaic

theorem zero_bits : Ideal.ofBits .f32 0x00000000#32 = (0 : EReal) := by
  simp [Ideal.ofBits, Ideal.ieee]

/-- The modulation of a row of zeros is the bias. -/
theorem zero_row (W : Fin 4096 → EReal) (b : EReal) :
    (∑ k : Fin 4096, Ideal.ofBits .f32 0x00000000#32 * Ideal.logistic (Ideal.ofBits .f32 0x00000000#32) * W k) + b = b := by
  rw [zero_bits]
  simp only [zero_mul, Finset.sum_const_zero, zero_add]

/-- The reference's rows, one after another, are the same. -/
theorem ref_eq (C : Vec Ideal S2x4096 .f32) (x : Vec Ideal S4096 .f32) (W : Vec Ideal S4096x24576 .f32) (b : Vec Ideal S24576 .f32) :
    ((concatenate S8x24576 0 [⟨S2x24576, ((addf (Host.dotGeneral (φ₂ := .f32) dot_S2x4096_S4096x24576_S2x24576_1_0_0_1_n_n none (mulf C (Host.divf (broadcastInDim S2x4096 ![] bcast_S_S2x4096 (constant S_ .f32 0x3F800000#32)) (addf (broadcastInDim S2x4096 ![] bcast_S_S2x4096 (constant S_ .f32 0x3F800000#32)) (Host.exp (Host.negf C))))) W) (broadcastInDim S2x24576 ![0, 1] bcast_S1x24576_S2x24576_0_1 (broadcastInDim S1x24576 ![1] bcast_S24576_S1x24576_1 b))) : FVec Ideal S2x24576 .f32)⟩, ⟨S1x24576, ((addf (Host.dotGeneral (φ₂ := .f32) dot_S1x4096_S4096x24576_S1x24576_1_0_0_1_n_n none (mulf (broadcastInDim S1x4096 ![1] bcast_S4096_S1x4096_1 x) (Host.divf (broadcastInDim S1x4096 ![] bcast_S_S1x4096 (constant S_ .f32 0x3F800000#32)) (addf (broadcastInDim S1x4096 ![] bcast_S_S1x4096 (constant S_ .f32 0x3F800000#32)) (Host.exp (Host.negf (broadcastInDim S1x4096 ![1] bcast_S4096_S1x4096_1 x)))))) W) (broadcastInDim S1x24576 ![1] bcast_S24576_S1x24576_1 b)) : FVec Ideal S1x24576 .f32)⟩, ⟨S5x24576, ((broadcastInDim S5x24576 ![1] bcast_S24576_S5x24576_1 b) : FVec Ideal S5x24576 .f32)⟩] concatenates_S2x24576_S1x24576_S5x24576_S8x24576_d0 : FVec Ideal S8x24576 .f32) : FVec Ideal S8x24576 .f32)
      = val C x W b := by
  funext i
  obtain ⟨r, j, rfl⟩ : ∃ r j, i = ix2 r j := ⟨_, _, eq_ix2 (n0 := 8) (n1 := 24576) i⟩
  show _ = (∑ k : Fin 4096, cond C x r k * Ideal.logistic (cond C x r k) * W (ix2 k j)) + b (ix1 j)
  unfold cond
  by_cases h : r.val < 2
  · simp only [dif_pos h]
    pointwise [Ideal.logistic]
    exact dif_pos h
  · simp only [dif_neg h]
    by_cases h3 : r.val < 3
    · simp only [if_pos h3]
      pointwise [Ideal.logistic]
      exact (dif_neg h).trans (dif_pos (by omega))
    · simp only [if_neg h3]
      rw [zero_row]
      pointwise []
      exact (dif_neg h).trans (dif_neg (by omega))

end Cert.Proof.Modulation

end
-- ==== Proof.Norm.lean ====
/- A row normalized by its root mean square, then scaled and shifted. -/
module

public import Idealize.ShloMosaic.Lib.IdealHost

@[expose] public section

noncomputable section

namespace Cert.Proof

open Idealize.ShloMosaic
open scoped BigOperators

/-- The row over the root of its mean square, times `g`, scaled by one more than `sc`, shifted by `sh`. -/
def normed (x g sh sc : Fin 4096 → EReal) (k : Fin 4096) : EReal :=
  x k * Ideal.rsqrt (Ideal.div (∑ j, x j * x j) (Ideal.ofBits .f32 0x45800000#32) + Ideal.ofBits .f32 0x358637BD#32) * g k
    * (Ideal.ofBits .f32 0x3F800000#32 + sc k) + sh k

end Cert.Proof

end
-- ==== Proof.PreNormValue.lean ====
/- The token norm: each row over its root mean square, scaled and shifted; the tiled kernel's and the reference's. -/
module

public import proofs.«01_k».proof.Proof.Gen.PreNormIdeal.Value
public import proofs.«01_k».proof.Proof.Gen.PreNormRefIdeal.Run
public import proofs.«01_k».proof.Proof.BlockAt
public import proofs.«01_k».proof.Proof.Norm
public import Idealize.ShloMosaic.Lib.StableHlo.ReadAt
public import Idealize.ShloMosaic.Lib.Pointwise

@[expose] public section

set_option maxRecDepth 16384

noncomputable section

namespace Cert.Proof.PreNorm

open Cert.PreNormIdeal Cert.PreNormIdeal.Gen Cert.PreNormIdeal.Value Idealize.ShloMosaic Idealize.ShloMosaic.TcCoe Idealize.SL.Sem
open scoped BigOperators

/-- Each row normalized, scaled and shifted by its sample's rows of the modulation. -/
def val (X : Vec Ideal S8192x4096 .f32) (g : Vec Ideal S4096 .f32) (M : Vec Ideal S3x6x1x4096 .f32) : Vec Ideal S8192x4096 .bf16 :=
  fun i => normed (fun k => X (ix2 (n0 := 8192) (i 0) k)) (fun k => g (ix1 k))
    (fun k => M (ix4 (n0 := 3) (n1 := 6) (n2 := 1) ⟨(i 0).val / 4096, by have : (i 0).val < 8192 := (i 0).isLt; omega⟩ 0 0 k))
    (fun k => M (ix4 (n0 := 3) (n1 := 6) (n2 := 1) ⟨(i 0).val / 4096, by have : (i 0).val < 8192 := (i 0).isLt; omega⟩ 1 0 k)) (i 1)

/-- One block of rows. -/
theorem pay_apply (x : Vec Ideal S512x4096 .f32) (g : Vec Ideal S1x4096 .f32) (sh sc : Vec Ideal S1x1x1x4096 .f32)
    (r : Fin 512) (k : Fin 4096) :
    k0_pay1 x g sh sc (ix2 r k)
      = normed (fun j => x (ix2 r j)) (fun j => g (ix2 0 j)) (fun j => sh (ix4 0 0 0 j)) (fun j => sc (ix4 0 0 0 j)) k := by
  pointwise [k0_pay1, normed]

theorem out_eq (x : Vec Ideal S512x4096 .f32) (g : Vec Ideal S1x4096 .f32) (sh sc : Vec Ideal S1x1x1x4096 .f32) :
    out0_4 x g sh sc = k0_pay1 x g sh sc := by
  have hz : (![0, 0] : Fin 2 → Nat) = fun _ => 0 := by decide
  have hz' : (![0, 0, 0, 0] : Fin 4 → Nat) = fun _ => 0 := by decide
  show View.canon [⟨Rect.unit (s := S512x4096) ![0, 0] S512x4096.size _, _⟩] = _
  rw [View.canon_unit_zero hz, View.ld_unit_zero hz, View.ld_unit_zero hz, View.ld_unit_zero hz', View.ld_unit_zero hz']

variable (m : (ℓ : Loc nD τ sig) → Buf (Elt Ideal) ℓ)

theorem index_facts : ∀ t : Fin grid0.N, win0_0.index t = ![t.val, 0] ∧ win0_1.index t = ![0, 0]
    ∧ win0_2.index t = ![t.val / 8, 0, 0, 0] ∧ win0_3.index t = ![t.val / 8, 1, 0, 0] ∧ win0_4.index t = ![t.val, 0] := by
  decide +kernel

theorem t_lt (t : Fin cfg0.N) : t.val < 16 := t.isLt.trans_eq N_0

/-- The row of the result that row `r` of the point's block is. -/
def row (t : Fin cfg0.N) (r : Fin 512) : Fin 8192 := ⟨t.val * 512 + r.val, by have := t_lt t; have := r.isLt; omega⟩

/-- The sample the point's rows are of. -/
def smp (t : Fin cfg0.N) : Fin 3 := ⟨t.val / 8, by have := t_lt t; omega⟩

/-- The weights of the norm, laid out as one row. -/
theorem weights_at (c : Dev nD) (k : Fin 4096) :
    V m c main_v0 (ix2 0 k) = m ((c : Thread nD τ).loc main_arg1) (ix1 k) := by
  unfold V
  after_reads_at

theorem iblk0_apply (c : Dev nD) (t : Fin cfg0.N) (r : Fin 512) (k : Fin 4096) :
    iblk m c 0 t (ix2 r k) = m ((c : Thread nD τ).loc main_arg0) (ix2 (row t r) k) := by
  unfold iblk
  show V m c main_arg0 (((cfg0.win 0).blk t).view.emb (ix2 r k)) = _
  rw [V_main_arg0]
  refine congrArg (m ((c : Thread nD τ).loc main_arg0)) (funext fun a => Fin.ext ?_)
  have hx := (index_facts t).1
  match a with
  | ⟨0, _⟩ => show win0_0.index t 0 * 512 + 1 * r.val = _; exact at_coord (congrFun hx 0) rfl
  | ⟨1, _⟩ => show win0_0.index t 1 * 4096 + 1 * k.val = _; exact at_start (congrFun hx 1)

theorem iblk1_apply (c : Dev nD) (t : Fin cfg0.N) (k : Fin 4096) :
    iblk m c 1 t (ix2 0 k) = m ((c : Thread nD τ).loc main_arg1) (ix1 k) := by
  refine Eq.trans ?_ (weights_at m c k)
  unfold iblk
  show V m c main_v0 (((cfg0.win 1).blk t).view.emb (ix2 0 k)) = _
  refine congrArg (V m c main_v0) (funext fun a => Fin.ext ?_)
  have hx := (index_facts t).2.1
  match a with
  | ⟨0, _⟩ => show win0_1.index t 0 * 1 + 1 * 0 = _; exact at_start (congrFun hx 0)
  | ⟨1, _⟩ => show win0_1.index t 1 * 4096 + 1 * k.val = _; exact at_start (congrFun hx 1)

theorem iblk2_apply (c : Dev nD) (t : Fin cfg0.N) (k : Fin 4096) :
    iblk m c 2 t (ix4 0 0 0 k) = m ((c : Thread nD τ).loc main_arg2) (ix4 (smp t) 0 0 k) := by
  unfold iblk
  show V m c main_arg2 (((cfg0.win 2).blk t).view.emb (ix4 0 0 0 k)) = _
  rw [V_main_arg2]
  refine congrArg (m ((c : Thread nD τ).loc main_arg2)) (funext fun a => Fin.ext ?_)
  have hx := (index_facts t).2.2.1
  match a with
  | ⟨0, _⟩ => show win0_2.index t 0 * 1 + 1 * 0 = _; exact at_coord (congrFun hx 0) (Nat.mul_one _)
  | ⟨1, _⟩ => show win0_2.index t 1 * 1 + 1 * 0 = _; exact at_start (congrFun hx 1)
  | ⟨2, _⟩ => show win0_2.index t 2 * 1 + 1 * 0 = _; exact at_start (congrFun hx 2)
  | ⟨3, _⟩ => show win0_2.index t 3 * 4096 + 1 * k.val = _; exact at_start (congrFun hx 3)

theorem iblk3_apply (c : Dev nD) (t : Fin cfg0.N) (k : Fin 4096) :
    iblk m c 3 t (ix4 0 0 0 k) = m ((c : Thread nD τ).loc main_arg2) (ix4 (smp t) 1 0 k) := by
  unfold iblk
  show V m c main_arg2 (((cfg0.win 3).blk t).view.emb (ix4 0 0 0 k)) = _
  rw [V_main_arg2]
  refine congrArg (m ((c : Thread nD τ).loc main_arg2)) (funext fun a => Fin.ext ?_)
  have hx := (index_facts t).2.2.2.1
  match a with
  | ⟨0, _⟩ => show win0_3.index t 0 * 1 + 1 * 0 = _; exact at_coord (congrFun hx 0) (Nat.mul_one _)
  | ⟨1, _⟩ => show win0_3.index t 1 * 1 + 1 * 0 = _; exact at_coord (congrFun hx 1) (Nat.mul_one _)
  | ⟨2, _⟩ => show win0_3.index t 2 * 1 + 1 * 0 = _; exact at_start (congrFun hx 2)
  | ⟨3, _⟩ => show win0_3.index t 3 * 4096 + 1 * k.val = _; exact at_start (congrFun hx 3)

/-- The whole result, of the arguments. -/
abbrev whole (c : Dev nD) : Vec Ideal S8192x4096 .bf16 :=
  val (m ((c : Thread nD τ).loc main_arg0)) (m ((c : Thread nD τ).loc main_arg1)) (m ((c : Thread nD τ).loc main_arg2))

theorem flushed_eq (c : Dev nD) (t : Fin cfg0.N) :
    (dats m 0 c).flushed 4 t = ((cfg0.win 4).blk t).view.read (Elt Ideal) (whole m c) := by
  rw [flushed4, out_eq]
  funext y
  obtain ⟨r, k, rfl⟩ : ∃ r k, y = ix2 r k := ⟨_, _, eq_ix2 (n0 := 512) (n1 := 4096) y⟩
  show k0_pay1 (iblk m c 0 t) (iblk m c 1 t) (iblk m c 2 t) (iblk m c 3 t) (ix2 r k) = whole m c (((cfg0.win 4).blk t).view.emb (ix2 r k))
  have hx := (index_facts t).2.2.2.2
  have e : ((cfg0.win 4).blk t).view.emb (ix2 r k) = ix2 (row t r) k := by
    refine funext fun a => Fin.ext ?_
    match a with
    | ⟨0, _⟩ => show win0_4.index t 0 * 512 + 1 * r.val = _; exact at_coord (congrFun hx 0) rfl
    | ⟨1, _⟩ => show win0_4.index t 1 * 4096 + 1 * k.val = _; exact at_start (congrFun hx 1)
  rw [e, pay_apply]
  simp only [iblk0_apply, iblk1_apply, iblk2_apply, iblk3_apply]
  have hs : smp t = ⟨(row t r).val / 4096, by have := (row t r).isLt; omega⟩ := by
    refine Fin.ext ?_
    show t.val / 8 = (t.val * 512 + r.val) / 4096
    have := r.isLt
    omega
  rw [hs]
  rfl

/-- Every entry of the result lies in the block of some point. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 16 := N_0
  obtain ⟨t, ht⟩ : ∃ t : Fin cfg0.N, t.val = (i 0).val / 512 := ⟨⟨_, by omega⟩, rfl⟩
  refine ⟨t, flush0_4 t, ?_⟩
  have hx := (index_facts t).2.2.2.2
  show i ∈ ((View.whole main_v1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    exact in_block (congrFun hx 0) ht (by decide)
  | ⟨1, _⟩ =>
    show win0_4.index t 1 * 4096 ≤ (i 1).val ∧ (i 1).val < win0_4.index t 1 * 4096 + 4096
    exact in_block (congrFun hx 1) (by show 0 = _; omega) (by decide)

/-- The result after the run is the whole of it. -/
theorem final (c : Dev nD) : (dats m 0 c).arrAt 4 cfg0.N = whole m c :=
  (dats m 0 c).arrAt_eq_of_cover 4 _ (fun t _ => flushed_eq m c t) cover

end Cert.Proof.PreNorm

namespace Cert.Proof.PreNorm

open Cert.PreNormRefIdeal Cert.PreNormRefIdeal.Gen Idealize.ShloMosaic

/-- The reference's rows are the same. -/
theorem ref_eq (X : Vec Ideal S8192x4096 .f32) (g : Vec Ideal S4096 .f32) (M : Vec Ideal S3x6x1x4096 .f32) :
    (truncf .bf16 (shapeCast _ (addf (mulf (mulf (mulf (shapeCast _ X shapeCasts_S8192x4096_S2x4096x4096) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (shapeCast _ X shapeCasts_S8192x4096_S2x4096x4096) (shapeCast _ X shapeCasts_S8192x4096_S2x4096x4096)) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 g))) (broadcastInDim S2x4096x4096 ![0, 1, 2] bcast_S2x1x4096_S2x4096x4096_0_1_2 (addf (broadcastInDim S2x1x4096 ![] bcast_S_S2x1x4096 (constant S_ .f32 0x3F800000#32)) (shapeCast _ (extractStridedSlice S2x1x1x4096 ![0, 1, 0, 0] M slices_S3x6x1x4096_S2x1x1x4096_0_1_0_0) shapeCasts_S2x1x1x4096_S2x1x4096)))) (broadcastInDim S2x4096x4096 ![0, 1, 2] bcast_S2x1x4096_S2x4096x4096_0_1_2 (shapeCast _ (extractStridedSlice S2x1x1x4096 ![0, 0, 0, 0] M slices_S3x6x1x4096_S2x1x1x4096_0_0_0_0) shapeCasts_S2x1x1x4096_S2x1x4096))) shapeCasts_S2x4096x4096_S8192x4096) bitsLt_bf16_f32 : FVec Ideal S8192x4096 .bf16)
      = val X g M := by
  funext i
  obtain ⟨r, k, rfl⟩ : ∃ r k, i = ix2 r k := ⟨_, _, eq_ix2 (n0 := 8192) (n1 := 4096) i⟩
  pointwise [val, normed]

end Cert.Proof.PreNorm

end
-- ==== Proof.CtxNormValue.lean ====
/- The context norm: each row over its root mean square, scaled and shifted; the kernel's and the reference's. -/
module

public import proofs.«01_k».proof.Proof.Gen.CtxNormIdeal.Value
public import proofs.«01_k».proof.Proof.Gen.CtxNormRefIdeal.Run
public import proofs.«01_k».proof.Proof.BlockAt
public import proofs.«01_k».proof.Proof.Norm
public import Idealize.ShloMosaic.Lib.StableHlo.ReadAt
public import Idealize.ShloMosaic.Lib.Pointwise

@[expose] public section

set_option maxRecDepth 16384

noncomputable section

namespace Cert.Proof.CtxNorm

open Cert.CtxNormIdeal Cert.CtxNormIdeal.Gen Cert.CtxNormIdeal.Value Idealize.ShloMosaic Idealize.ShloMosaic.TcCoe Idealize.SL.Sem
open scoped BigOperators

/-- Each row normalized, scaled and shifted by its sample's rows of the modulation. -/
def val (X : Vec Ideal S512x4096 .f32) (g : Vec Ideal S4096 .f32) (M : Vec Ideal S3x6x1x4096 .f32) : Vec Ideal S512x4096 .bf16 :=
  fun i => normed (fun k => X (ix2 (n0 := 512) (i 0) k)) (fun k => g (ix1 k))
    (fun k => M (ix4 (n0 := 3) (n1 := 6) (n2 := 1) 2 0 0 k))
    (fun k => M (ix4 (n0 := 3) (n1 := 6) (n2 := 1) 2 1 0 k)) (i 1)

/-- One block of rows. -/
theorem pay_apply (x : Vec Ideal S512x4096 .f32) (g : Vec Ideal S1x4096 .f32) (sh sc : Vec Ideal S1x1x1x4096 .f32)
    (r : Fin 512) (k : Fin 4096) :
    k0_pay1 x g sh sc (ix2 r k)
      = normed (fun j => x (ix2 r j)) (fun j => g (ix2 0 j)) (fun j => sh (ix4 0 0 0 j)) (fun j => sc (ix4 0 0 0 j)) k := by
  pointwise [k0_pay1, normed]

theorem out_eq (x : Vec Ideal S512x4096 .f32) (g : Vec Ideal S1x4096 .f32) (sh sc : Vec Ideal S1x1x1x4096 .f32) :
    out0_4 x g sh sc = k0_pay1 x g sh sc := by
  have hz : (![0, 0] : Fin 2 → Nat) = fun _ => 0 := by decide
  have hz' : (![0, 0, 0, 0] : Fin 4 → Nat) = fun _ => 0 := by decide
  show View.canon [⟨Rect.unit (s := S512x4096) ![0, 0] S512x4096.size _, _⟩] = _
  rw [View.canon_unit_zero hz, View.ld_unit_zero hz, View.ld_unit_zero hz, View.ld_unit_zero hz', View.ld_unit_zero hz']

variable (m : (ℓ : Loc nD τ sig) → Buf (Elt Ideal) ℓ)

theorem index_facts : ∀ t : Fin grid0.N, win0_0.index t = ![0, 0] ∧ win0_1.index t = ![0, 0]
    ∧ win0_2.index t = ![2, 0, 0, 0] ∧ win0_3.index t = ![2, 1, 0, 0] ∧ win0_4.index t = ![0, 0] := by
  decide +kernel

theorem t_lt (t : Fin cfg0.N) : t.val < 1 := t.isLt.trans_eq N_0

/-- The weights of the norm, laid out as one row. -/
theorem weights_at (c : Dev nD) (k : Fin 4096) :
    V m c main_v0 (ix2 0 k) = m ((c : Thread nD τ).loc main_arg1) (ix1 k) := by
  unfold V
  after_reads_at

theorem iblk0_apply (c : Dev nD) (t : Fin cfg0.N) (r : Fin 512) (k : Fin 4096) :
    iblk m c 0 t (ix2 r k) = m ((c : Thread nD τ).loc main_arg0) (ix2 r k) := by
  unfold iblk
  show V m c main_arg0 (((cfg0.win 0).blk t).view.emb (ix2 r k)) = _
  rw [V_main_arg0]
  refine congrArg (m ((c : Thread nD τ).loc main_arg0)) (funext fun a => Fin.ext ?_)
  have hx := (index_facts t).1
  match a with
  | ⟨0, _⟩ => show win0_0.index t 0 * 512 + 1 * r.val = _; exact at_start (congrFun hx 0)
  | ⟨1, _⟩ => show win0_0.index t 1 * 4096 + 1 * k.val = _; exact at_start (congrFun hx 1)

theorem iblk1_apply (c : Dev nD) (t : Fin cfg0.N) (k : Fin 4096) :
    iblk m c 1 t (ix2 0 k) = m ((c : Thread nD τ).loc main_arg1) (ix1 k) := by
  refine Eq.trans ?_ (weights_at m c k)
  unfold iblk
  show V m c main_v0 (((cfg0.win 1).blk t).view.emb (ix2 0 k)) = _
  refine congrArg (V m c main_v0) (funext fun a => Fin.ext ?_)
  have hx := (index_facts t).2.1
  match a with
  | ⟨0, _⟩ => show win0_1.index t 0 * 1 + 1 * 0 = _; exact at_start (congrFun hx 0)
  | ⟨1, _⟩ => show win0_1.index t 1 * 4096 + 1 * k.val = _; exact at_start (congrFun hx 1)

theorem iblk2_apply (c : Dev nD) (t : Fin cfg0.N) (k : Fin 4096) :
    iblk m c 2 t (ix4 0 0 0 k) = m ((c : Thread nD τ).loc main_arg2) (ix4 2 0 0 k) := by
  unfold iblk
  show V m c main_arg2 (((cfg0.win 2).blk t).view.emb (ix4 0 0 0 k)) = _
  rw [V_main_arg2]
  refine congrArg (m ((c : Thread nD τ).loc main_arg2)) (funext fun a => Fin.ext ?_)
  have hx := (index_facts t).2.2.1
  match a with
  | ⟨0, _⟩ => show win0_2.index t 0 * 1 + 1 * 0 = _; exact at_coord (congrFun hx 0) (Nat.mul_one _)
  | ⟨1, _⟩ => show win0_2.index t 1 * 1 + 1 * 0 = _; exact at_start (congrFun hx 1)
  | ⟨2, _⟩ => show win0_2.index t 2 * 1 + 1 * 0 = _; exact at_start (congrFun hx 2)
  | ⟨3, _⟩ => show win0_2.index t 3 * 4096 + 1 * k.val = _; exact at_start (congrFun hx 3)

theorem iblk3_apply (c : Dev nD) (t : Fin cfg0.N) (k : Fin 4096) :
    iblk m c 3 t (ix4 0 0 0 k) = m ((c : Thread nD τ).loc main_arg2) (ix4 2 1 0 k) := by
  unfold iblk
  show V m c main_arg2 (((cfg0.win 3).blk t).view.emb (ix4 0 0 0 k)) = _
  rw [V_main_arg2]
  refine congrArg (m ((c : Thread nD τ).loc main_arg2)) (funext fun a => Fin.ext ?_)
  have hx := (index_facts t).2.2.2.1
  match a with
  | ⟨0, _⟩ => show win0_3.index t 0 * 1 + 1 * 0 = _; exact at_coord (congrFun hx 0) (Nat.mul_one _)
  | ⟨1, _⟩ => show win0_3.index t 1 * 1 + 1 * 0 = _; exact at_coord (congrFun hx 1) (Nat.mul_one _)
  | ⟨2, _⟩ => show win0_3.index t 2 * 1 + 1 * 0 = _; exact at_start (congrFun hx 2)
  | ⟨3, _⟩ => show win0_3.index t 3 * 4096 + 1 * k.val = _; exact at_start (congrFun hx 3)

/-- The whole result, of the arguments. -/
abbrev whole (c : Dev nD) : Vec Ideal S512x4096 .bf16 :=
  val (m ((c : Thread nD τ).loc main_arg0)) (m ((c : Thread nD τ).loc main_arg1)) (m ((c : Thread nD τ).loc main_arg2))

theorem flushed_eq (c : Dev nD) (t : Fin cfg0.N) :
    (dats m 0 c).flushed 4 t = ((cfg0.win 4).blk t).view.read (Elt Ideal) (whole m c) := by
  rw [flushed4, out_eq]
  funext y
  obtain ⟨r, k, rfl⟩ : ∃ r k, y = ix2 r k := ⟨_, _, eq_ix2 (n0 := 512) (n1 := 4096) y⟩
  show k0_pay1 (iblk m c 0 t) (iblk m c 1 t) (iblk m c 2 t) (iblk m c 3 t) (ix2 r k) = whole m c (((cfg0.win 4).blk t).view.emb (ix2 r k))
  have hx := (index_facts t).2.2.2.2
  have e : ((cfg0.win 4).blk t).view.emb (ix2 r k) = ix2 r k := by
    refine funext fun a => Fin.ext ?_
    match a with
    | ⟨0, _⟩ => show win0_4.index t 0 * 512 + 1 * r.val = _; exact at_start (congrFun hx 0)
    | ⟨1, _⟩ => show win0_4.index t 1 * 4096 + 1 * k.val = _; exact at_start (congrFun hx 1)
  rw [e, pay_apply]
  simp only [iblk0_apply, iblk1_apply, iblk2_apply, iblk3_apply]
  rfl

/-- Every entry of the result lies in the block of some point. -/
theorem cover (i : S512x4096.Idx) : ∃ t : Fin cfg0.N, (cfg0.win 4).flush t = true ∧ i ∈ ((cfg0.win 4).blk t).view.set := by
  have h0 : (i 0).val < 512 := (i 0).isLt
  have h1 : (i 1).val < 4096 := (i 1).isLt
  have hN : cfg0.N = 1 := N_0
  obtain ⟨t, ht⟩ : ∃ t : Fin cfg0.N, t.val = (i 0).val / 512 := ⟨⟨_, by omega⟩, rfl⟩
  refine ⟨t, flush0_4 t, ?_⟩
  have hx := (index_facts t).2.2.2.2
  show i ∈ ((View.whole main_v1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    exact in_block (congrFun hx 0) (by show 0 = _; omega) (by decide)
  | ⟨1, _⟩ =>
    show win0_4.index t 1 * 4096 ≤ (i 1).val ∧ (i 1).val < win0_4.index t 1 * 4096 + 4096
    exact in_block (congrFun hx 1) (by show 0 = _; omega) (by decide)

/-- The result after the run is the whole of it. -/
theorem final (c : Dev nD) : (dats m 0 c).arrAt 4 cfg0.N = whole m c :=
  (dats m 0 c).arrAt_eq_of_cover 4 _ (fun t _ => flushed_eq m c t) cover

end Cert.Proof.CtxNorm

namespace Cert.Proof.CtxNorm

open Cert.CtxNormRefIdeal Cert.CtxNormRefIdeal.Gen Idealize.ShloMosaic

/-- The reference's rows are the same. -/
theorem ref_eq (X : Vec Ideal S512x4096 .f32) (g : Vec Ideal S4096 .f32) (M : Vec Ideal S3x6x1x4096 .f32) :
    (truncf .bf16 (addf (mulf (mulf (mulf X (broadcastInDim S512x4096 ![0, 1] bcast_S512x1_S512x4096_0_1 (Host.rsqrt (addf (Host.divf (broadcastInDim S512x1 ![0] bcast_S512_S512x1_0 (Host.reduceAdd (mulf X X) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 g))) (broadcastInDim S512x4096 ![0, 1] bcast_S1x4096_S512x4096_0_1 (addf (broadcastInDim S1x4096 ![] bcast_S_S1x4096 (constant S_ .f32 0x3F800000#32)) (shapeCast _ (extractStridedSlice S1x1x1x4096 ![2, 1, 0, 0] M slices_S3x6x1x4096_S1x1x1x4096_2_1_0_0) shapeCasts_S1x1x1x4096_S1x4096)))) (broadcastInDim S512x4096 ![0, 1] bcast_S1x4096_S512x4096_0_1 (shapeCast _ (extractStridedSlice S1x1x1x4096 ![2, 0, 0, 0] M slices_S3x6x1x4096_S1x1x1x4096_2_0_0_0) shapeCasts_S1x1x1x4096_S1x4096))) bitsLt_bf16_f32 : FVec Ideal S512x4096 .bf16)
      = val X g M := by
  funext i
  obtain ⟨r, k, rfl⟩ : ∃ r k, i = ix2 r k := ⟨_, _, eq_ix2 (n0 := 512) (n1 := 4096) i⟩
  pointwise [val, normed]

end Cert.Proof.CtxNorm

end
-- ==== Proof.CtxProjValue.lean ====
/- The context rows' projection: what the tiled product leaves in its result, and the reference's two products side by side. -/
module

public import proofs.«01_k».proof.Proof.Gen.CtxProjIdeal.Value
public import proofs.«01_k».proof.Proof.Gen.CtxProjRefIdeal.Run
public import proofs.«01_k».proof.Proof.BlockAt
public import Idealize.ShloMosaic.Lib.Pointwise

@[expose] public section

set_option maxRecDepth 16384

noncomputable section

namespace Cert.Proof.CtxProj

open Cert.CtxProjIdeal Cert.CtxProjIdeal.Gen Cert.CtxProjIdeal.Value Idealize.ShloMosaic Idealize.ShloMosaic.TcCoe Idealize.SL.Sem
open scoped BigOperators

/-- The column of the weights behind column `x` of the result: the keys' columns, then the values'. -/
def wcol (x : Fin 8192) : Fin 24576 := ⟨if x.val < 4096 then 2048 + x.val else 4096 + x.val, by have := x.isLt; split <;> omega⟩

/-- The product of the context rows by the columns of the keys and of the values. -/
def val (A : Vec Ideal S512x4096 .bf16) (W : Vec Ideal S4096x24576 .f32) : Vec Ideal S512x8192 .bf16 :=
  fun i => ∑ k : Fin 4096, A (ix2 (n0 := 512) (i 0) k) * W (ix2 (n1 := 24576) k (wcol (i 1)))

/-- One block of the product: the context rows by 512 columns of weights. -/
theorem pay_apply (a : Vec Ideal S512x4096 .bf16) (w : Vec Ideal S4096x512 .f32) (r : Fin 512) (x : Fin 512) :
    k0_pay1 a w (ix2 r x) = ∑ k : Fin 4096, a (ix2 r k) * w (ix2 k x) := by
  pointwise [k0_pay1]

theorem out_eq (a : Vec Ideal S512x4096 .bf16) (w : Vec Ideal S4096x512 .f32) : out0_2 a w = k0_pay1 a w := by
  have hz : (![0, 0] : Fin 2 → Nat) = fun _ => 0 := by decide
  show View.canon [⟨Rect.unit (s := S512x512) ![0, 0] S512x512.size _, _⟩] = _
  rw [View.canon_unit_zero hz, View.ld_unit_zero hz, View.ld_unit_zero hz]

variable (m : (ℓ : Loc nD τ sig) → Buf (Elt Ideal) ℓ)

theorem index_facts : ∀ t : Fin grid0.N, win0_0.index t = ![0, 0] ∧ win0_1.index t = ![0, if t.val < 8 then 4 + t.val else 8 + t.val]
    ∧ win0_2.index t = ![0, t.val] := by
  decide +kernel

theorem t_lt (t : Fin cfg0.N) : t.val < 16 := t.isLt.trans_eq N_0

/-- The column of the result that column `x` of the point's block is. -/
def col (t : Fin cfg0.N) (x : Fin 512) : Fin 8192 := ⟨t.val * 512 + x.val, by have := t_lt t; have := x.isLt; omega⟩

theorem iblk0_apply (c : Dev nD) (t : Fin cfg0.N) (r : Fin 512) (k : Fin 4096) :
    iblk m c 0 t (ix2 r k) = m ((c : Thread nD τ).loc main_arg0) (ix2 r k) := by
  refine congrArg (m ((c : Thread nD τ).loc main_arg0)) (funext fun a => Fin.ext ?_)
  have hx := (index_facts t).1
  match a with
  | ⟨0, _⟩ => show win0_0.index t 0 * 512 + 1 * r.val = _; exact at_start (congrFun hx 0)
  | ⟨1, _⟩ => show win0_0.index t 1 * 4096 + 1 * k.val = _; exact at_start (congrFun hx 1)

theorem iblk1_apply (c : Dev nD) (t : Fin cfg0.N) (k : Fin 4096) (x : Fin 512) :
    iblk m c 1 t (ix2 k x) = m ((c : Thread nD τ).loc main_arg1) (ix2 k (wcol (col t x))) := by
  refine congrArg (m ((c : Thread nD τ).loc main_arg1)) (funext fun a => Fin.ext ?_)
  have hx := (index_facts t).2.1
  match a with
  | ⟨0, _⟩ => show win0_1.index t 0 * 4096 + 1 * k.val = _; exact at_start (congrFun hx 0)
  | ⟨1, _⟩ =>
    show win0_1.index t 1 * 512 + 1 * x.val = _
    refine at_coord (congrFun hx 1) ?_
    show (if t.val < 8 then 4 + t.val else 8 + t.val) * 512 + x.val
      = if t.val * 512 + x.val < 4096 then 2048 + (t.val * 512 + x.val) else 4096 + (t.val * 512 + x.val)
    have := x.isLt
    split <;> split <;> omega

/-- The whole product, of the arguments. -/
abbrev whole (c : Dev nD) : Vec Ideal S512x8192 .bf16 :=
  val (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (whole m c) := by
  rw [flushed2, out_eq]
  funext y
  obtain ⟨r, x, rfl⟩ : ∃ r x, y = ix2 r x := ⟨_, _, eq_ix2 (n0 := 512) (n1 := 512) y⟩
  show k0_pay1 (iblk m c 0 t) (iblk m c 1 t) (ix2 r x) = whole m c (((cfg0.win 2).blk t).view.emb (ix2 r x))
  have hx := (index_facts t).2.2
  have e : ((cfg0.win 2).blk t).view.emb (ix2 r x) = ix2 r (col t x) := by
    refine funext fun a => Fin.ext ?_
    match a with
    | ⟨0, _⟩ => show win0_2.index t 0 * 512 + 1 * r.val = _; exact at_start (congrFun hx 0)
    | ⟨1, _⟩ => show win0_2.index t 1 * 512 + 1 * x.val = _; exact at_coord (congrFun hx 1) rfl
  rw [e, pay_apply]
  refine Finset.sum_congr rfl fun k _ => ?_
  rw [iblk0_apply, iblk1_apply]
  rfl

/-- Every entry of the result lies in the block of some point. -/
theorem cover (i : S512x8192.Idx) : ∃ t : Fin cfg0.N, (cfg0.win 2).flush t = true ∧ i ∈ ((cfg0.win 2).blk t).view.set := by
  have h0 : (i 0).val < 512 := (i 0).isLt
  have h1 : (i 1).val < 8192 := (i 1).isLt
  have hN : cfg0.N = 16 := N_0
  obtain ⟨t, ht⟩ : ∃ t : Fin cfg0.N, t.val = (i 1).val / 512 := ⟨⟨_, by omega⟩, rfl⟩
  refine ⟨t, flush0_2 t, ?_⟩
  have hx := (index_facts t).2.2
  show i ∈ ((View.whole main_v0).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    exact in_block (congrFun hx 0) (by show 0 = _; omega) (by decide)
  | ⟨1, _⟩ =>
    show win0_2.index t 1 * 512 ≤ (i 1).val ∧ (i 1).val < win0_2.index t 1 * 512 + 512
    exact in_block (congrFun hx 1) ht (by decide)

/-- The result after the run is the whole product. -/
theorem final (c : Dev nD) : (dats m 0 c).arrAt 2 cfg0.N = whole m c :=
  (dats m 0 c).arrAt_eq_of_cover 2 _ (fun t _ => flushed_eq m c t) cover

end Cert.Proof.CtxProj

namespace Cert.Proof.CtxProj

open Cert.CtxProjRefIdeal Cert.CtxProjRefIdeal.Gen Idealize.ShloMosaic

/-- The reference's two products, side by side, are the same sums. -/
theorem ref_eq (A : Vec Ideal S512x4096 .bf16) (W : Vec Ideal S4096x24576 .f32) :
    (truncf .bf16 (concatenate S512x8192 1 [⟨S512x4096, (Host.dotGeneral (φ₂ := .f32) dot_S512x4096_S4096x4096_S512x4096_1_0_0_1_n_n none (extf .f32 A bitsLt_bf16_f32) (extractStridedSlice S4096x4096 ![0, 2048] W slices_S4096x24576_S4096x4096_0_2048))⟩, ⟨S512x4096, (Host.dotGeneral (φ₂ := .f32) dot_S512x4096_S4096x4096_S512x4096_1_0_0_1_n_n none (extf .f32 A bitsLt_bf16_f32) (extractStridedSlice S4096x4096 ![0, 8192] W slices_S4096x24576_S4096x4096_0_8192))⟩] concatenates_S512x4096_S512x4096_S512x8192_d1) bitsLt_bf16_f32 : FVec Ideal S512x8192 .bf16)
      = val A W := by
  funext i
  obtain ⟨r, x, rfl⟩ : ∃ r x, i = ix2 r x := ⟨_, _, eq_ix2 (n0 := 512) (n1 := 8192) i⟩
  pointwise []
  show _ = ∑ k : Fin 4096, A (ix2 r k) * W (ix2 k (wcol x))
  split
  · next h =>
    refine Finset.sum_congr rfl fun k _ => congrArg (_ * W ·) (congrArg (ix2 k) (Fin.ext ?_))
    show 2048 + x.val = if x.val < 4096 then 2048 + x.val else 4096 + x.val
    rw [if_pos h]
  · next h =>
    refine Finset.sum_congr rfl fun k _ => congrArg (_ * W ·) (congrArg (ix2 k) (Fin.ext ?_))
    show 8192 + (x.val - 4096) = if x.val < 4096 then 2048 + x.val else 4096 + x.val
    rw [if_neg h]
    omega

end Cert.Proof.CtxProj

end
-- ==== Proof.RouterValue.lean ====
/- The router: the normalized rows, and the softmax of their scores over the experts; the tiled kernel's and the reference's. -/
module

public import proofs.«01_k».proof.Proof.Gen.RouterIdeal.Value
public import proofs.«01_k».proof.Proof.Gen.RouterRefIdeal.Run
public import proofs.«01_k».proof.Proof.BlockAt
public import proofs.«01_k».proof.Proof.Norm
public import proofs.«01_k».proof.Proof.Softmax
public import Idealize.ShloMosaic.Lib.StableHlo.ReadAt
public import Idealize.ShloMosaic.Lib.Pipeline.ReadBack
public import Idealize.ShloMosaic.Lib.Pointwise

@[expose] public section

set_option maxRecDepth 16384

noncomputable section

namespace Cert.Proof.Router

open Cert.RouterIdeal Cert.RouterIdeal.Gen Cert.RouterIdeal.Value Idealize.ShloMosaic Idealize.ShloMosaic.TcCoe Idealize.SL.Sem
open scoped BigOperators

/-- The scores of a row: one for each expert, and minus infinity on the lanes without one. -/
def lanes (h : Fin 4096 → EReal) (w : Fin 4096 → Fin 16 → EReal) (l : Fin 128) : EReal :=
  if e : l.val < 16 then ∑ k, h k * w k ⟨l.val, e⟩ else ⊥

/-- The softmax of a list of scores. -/
def soft {n : ℕ} (s : Fin n → EReal) (l : Fin n) : EReal :=
  Ideal.div (Ideal.exp (s l - Finset.univ.sup s)) (∑ j, Ideal.exp (s j - Finset.univ.sup s))

/-- An expert's lane. -/
def lane (e : Fin 16) : Fin 128 := ⟨e.val, by have := e.isLt; omega⟩

/-- The lanes without an expert do not change the softmax over the experts. -/
theorem soft_lanes (h : Fin 4096 → EReal) (w : Fin 4096 → Fin 16 → EReal) (e : Fin 16) :
    soft (lanes h w) (lane e) = soft (fun e' : Fin 16 => ∑ k, h k * w k e') e := by
  have h1 : ∀ e' : Fin 16, lanes h w (lane e') = ∑ k, h k * w k e' := fun e' => dif_pos (show (lane e').val < 16 from e'.isLt)
  have h2 : ∀ l : Fin 128, (∀ e' : Fin 16, lane e' ≠ l) → lanes h w l = ⊥ := fun l hl =>
    dif_neg fun hlt => hl ⟨l.val, hlt⟩ rfl
  have hs := sup_embed (fun e' : Fin 16 => ∑ k, h k * w k e') (lanes h w) lane h1 h2
  have hi : Function.Injective lane := fun a b hab => Fin.ext (congrArg (fun l : Fin 128 => l.val) hab)
  unfold soft
  rw [hs, sum_embed (fun l => Ideal.exp (lanes h w l - _)) lane hi (fun l hl => by rw [h2 l hl, exp_bot_sub])]
  simp only [h1]

/-- A token's row, normalized, scaled and shifted by its sample's rows of the modulation. -/
def tok (X : Vec Ideal S8192x4096 .f32) (g : Vec Ideal S4096 .f32) (M : Vec Ideal S3x6x1x4096 .f32) (r : Fin 8192) : Fin 4096 → EReal :=
  normed (fun k => X (ix2 (n0 := 8192) r k)) (fun k => g (ix1 k))
    (fun k => M (ix4 (n0 := 3) (n1 := 6) (n2 := 1) ⟨r.val / 4096, by have := r.isLt; omega⟩ 3 0 k))
    (fun k => M (ix4 (n0 := 3) (n1 := 6) (n2 := 1) ⟨r.val / 4096, by have := r.isLt; omega⟩ 4 0 k))

/-- The rows, each followed by the softmax of its scores. -/
def val (X : Vec Ideal S8192x4096 .f32) (g : Vec Ideal S4096 .f32) (M : Vec Ideal S3x6x1x4096 .f32) (W : Vec Ideal S4096x16 .f32) :
    Vec Ideal S8192x4224 .f32 :=
  fun i => if h : (i 1).val < 4096 then tok X g M (i 0) ⟨(i 1).val, h⟩
    else soft (lanes (tok X g M (i 0)) fun k e => W (ix2 k e)) ⟨(i 1).val - 4096, by have : (i 1).val < 4224 := (i 1).isLt; omega⟩

/-- The softmax of each row's scores over the experts. -/
def aff (X : Vec Ideal S8192x4096 .f32) (g : Vec Ideal S4096 .f32) (M : Vec Ideal S3x6x1x4096 .f32) (W : Vec Ideal S4096x16 .f32) :
    Vec Ideal S8192x16 .f32 :=
  fun i => soft (fun e : Fin 16 => ∑ k, tok X g M (i 0) k * W (ix2 k e)) (i 1)

theorem low_lane : ∀ l : Fin 128, IntOp.cmpi CmpIPredicate.slt (BitVec.ofNat 32 l.val) 16#32 = if l.val < 16 then 1#1 else 0#1 := by
  decide +kernel

theorem neg_inf : Ideal.ofBits .f32 0xFF800000#32 = (⊥ : EReal) := by
  simp [Ideal.ofBits, Ideal.ieee]

theorem fold_sup {n : ℕ} (s : Fin n → EReal) : (Finset.univ : Finset (Fin n)).fold max ⊥ s = Finset.univ.sup s := rfl

theorem pay3_apply (x : Vec Ideal S512x4096 .f32) (g : Vec Ideal S1x4096 .f32) (sh sc : Vec Ideal S1x1x1x4096 .f32)
    (r : Fin 512) (k : Fin 4096) :
    k0_pay3 x g sh sc (ix2 r k)
      = normed (fun j => x (ix2 r j)) (fun j => g (ix2 0 j)) (fun j => sh (ix4 0 0 0 j)) (fun j => sc (ix4 0 0 0 j)) k := by
  pointwise [k0_pay3, normed]

theorem masked_apply (h : FVec Ideal S512x4096 .bf16) (w : Vec Ideal S4096x128 .bf16) (r : Fin 512) (l : Fin 128) :
    (select (cmpi .slt (iota .tc S512x128 32 [1] iota_S512x128_d1_w32) (broadcast S512x128 16#32))
        (matmul (φ₂ := .bf16) dot_S512x4096_S4096x128_S512x128_1_0_0_1_n_n none h (shapeCast S4096x128 w shapeCasts_S4096x128_S4096x128)
          (constant S512x128 .f32 0x00000000#32))
        (broadcast S512x128 (Named.named κ "mask" 0xF149F2CA#32)) : FVec Ideal S512x128 .f32) (ix2 r l)
      = if l.val < 16 then ∑ k : Fin 4096, h (ix2 r k) * w (ix2 k l) else ⊥ := by
  pointwise []
  rw [low_lane]
  split <;> rfl

theorem pay4_apply (x : Vec Ideal S512x4096 .f32) (g : Vec Ideal S1x4096 .f32) (sh sc : Vec Ideal S1x1x1x4096 .f32)
    (w : Vec Ideal S4096x128 .bf16) (r : Fin 512) (l : Fin 128) :
    k0_pay4 x g sh sc w (ix2 r l) = if l.val < 16 then ∑ k : Fin 4096, k0_pay3 x g sh sc (ix2 r k) * w (ix2 k l) else ⊥ :=
  masked_apply (k0_pay3 x g sh sc) w r l

theorem max_apply (s : FVec Ideal S512x128 .f32) (r : Fin 512) (l : Fin 128) :
    broadcastTo S512x128 (shapeCast S512x1 (multiReduction .maximumf [1] S512 s 0xFF800000#32 reduces_S512x128_S512 (.inl rfl) rfl)
        shapeCasts_S512_S512x1) broadcasts_S512x1_S512x128 (ix2 r l)
      = Finset.univ.sup fun j : Fin 128 => (s (ix2 r j) : EReal) := by
  pointwise []
  rw [neg_inf, fold_sup]

theorem pay5_apply (x : Vec Ideal S512x4096 .f32) (g : Vec Ideal S1x4096 .f32) (sh sc : Vec Ideal S1x1x1x4096 .f32)
    (w : Vec Ideal S4096x128 .bf16) (r : Fin 512) (l : Fin 128) :
    k0_pay5 x g sh sc w (ix2 r l) = Finset.univ.sup fun j : Fin 128 => (k0_pay4 x g sh sc w (ix2 r j) : EReal) :=
  max_apply (k0_pay4 x g sh sc w) r l

theorem pay1_apply (s M : FVec Ideal S512x128 .f32) (r : Fin 512) (l : Fin 128) :
    k0_pay1 s M (ix2 r l) = Ideal.div (Ideal.exp (s (ix2 r l) - M (ix2 r l))) (∑ j : Fin 128, Ideal.exp (s (ix2 r j) - M (ix2 r j))) := by
  pointwise [k0_pay1]

theorem pay2_apply (s M : FVec Ideal S512x128 .f32) (r : Fin 512) (e : Fin 16) :
    k0_pay2 s M (ix2 r e) = k0_pay1 s M (ix2 r (lane e)) := by
  pointwise [k0_pay2, lane]

theorem soft_apply (x : Vec Ideal S512x4096 .f32) (g : Vec Ideal S1x4096 .f32) (sh sc : Vec Ideal S1x1x1x4096 .f32)
    (w : Vec Ideal S4096x128 .bf16) (r : Fin 512) (l : Fin 128) :
    k0_pay1 (k0_pay4 x g sh sc w) (k0_pay5 x g sh sc w) (ix2 r l) = soft (fun j => k0_pay4 x g sh sc w (ix2 r j)) l := by
  rw [pay1_apply]
  simp only [pay5_apply]
  rfl

/-- What a point writes to the first result: its rows, then the softmax of their scores. -/
def blockRows (x0 : Vec Ideal S512x4096 .f32) (x1 : Vec Ideal S1x4096 .f32) (x2 x3 : Vec Ideal S1x1x1x4096 .f32)
    (x4 : Vec Ideal S4096x128 .bf16) : Vec Ideal S512x4224 .f32 :=
  fun y => if h : (y 1).val < 4096 then k0_pay3 x0 x1 x2 x3 (ix2 (n0 := 512) (y 0) ⟨(y 1).val, h⟩)
    else k0_pay1 (k0_pay4 x0 x1 x2 x3 x4) (k0_pay5 x0 x1 x2 x3 x4)
      (ix2 (n0 := 512) (y 0) ⟨(y 1).val - 4096, by have : (y 1).val < 4224 := (y 1).isLt; omega⟩)

theorem out5_eq (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x128 .bf16) (harg5 : arg5.IsWhole) (arg6 : Memref sig .tc .vmem S512x4224 .f32) (harg6 : arg6.IsWhole) (arg7 : Memref sig .tc .vmem S512x16 .f32) (harg7 : arg7.IsWhole)
    (x0 : Vec Ideal S512x4096 .f32) (x1 : Vec Ideal S1x4096 .f32) (x2 : Vec Ideal S1x1x1x4096 .f32) (x3 : Vec Ideal S1x1x1x4096 .f32) (x4 : Vec Ideal S4096x128 .bf16) :
    out0_A_5 (F := Ideal) c i arg1 harg1 arg2 harg2 arg3 harg3 arg4 harg4 arg5 harg5 arg6 harg6 arg7 harg7 x0 x1 x2 x3 x4 = blockRows x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  funext y
  refine View.canon_apply_of_pieces _ _ ?_ y (cover0_A_5 c i arg1 harg1 arg2 harg2 arg3 harg3 arg4 harg4 arg5 harg5 arg6 harg6 arg7 harg7 x0 x1 x2 x3 x4 y)
  unfold kernelRun0_A
  dsimp only
  sl_unfold_words
  have z0 : (![0, 0] : Fin 2 → ℕ) = fun _ => 0 := by decide
  have z4 : (![0, 0, 0, 0] : Fin 4 → ℕ) = fun _ => 0 := by decide
  simp only [View.readAt_eq_ld, harg1.read_unread, harg2.read_unread, harg3.read_unread, harg4.read_unread, harg5.read_unread,
    View.ld_unit_zero (S := S512x4096) z0, View.ld_unit_zero (S := S1x4096) z0, View.ld_unit_zero (S := S4096x128) z0,
    View.ld_unit_zero (S := S1x1x1x4096) z4]
  refine View.PiecesOf.mem ⟨fun x => ?_, fun x => ?_, trivial⟩
  · obtain ⟨r, l, rfl⟩ : ∃ r l, x = ix2 r l := ⟨_, _, eq_ix2 (n0 := 512) (n1 := 128) x⟩
    have hn : ¬ (4096 + 1 * l.val) < 4096 := by omega
    refine Eq.trans ?_ (dif_neg hn).symm
    refine congrArg (k0_pay1 _ _) (funext fun a => Fin.ext ?_)
    match a with
    | ⟨0, _⟩ => show r.val = 0 + 1 * r.val; omega
    | ⟨1, _⟩ => show l.val = 4096 + 1 * l.val - 4096; omega
  · obtain ⟨r, k, rfl⟩ : ∃ r k, x = ix2 r k := ⟨_, _, eq_ix2 (n0 := 512) (n1 := 4096) x⟩
    have hk : (0 + 1 * k.val) < 4096 := by have := k.isLt; omega
    refine Eq.trans ?_ (dif_pos hk).symm
    refine congrArg (k0_pay3 _ _ _ _) (funext fun a => Fin.ext ?_)
    match a with
    | ⟨0, _⟩ => show r.val = 0 + 1 * r.val; omega
    | ⟨1, _⟩ => show k.val = 0 + 1 * k.val; omega

theorem out6_eq (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x128 .bf16) (harg5 : arg5.IsWhole) (arg6 : Memref sig .tc .vmem S512x4224 .f32) (harg6 : arg6.IsWhole) (arg7 : Memref sig .tc .vmem S512x16 .f32) (harg7 : arg7.IsWhole)
    (x0 : Vec Ideal S512x4096 .f32) (x1 : Vec Ideal S1x4096 .f32) (x2 : Vec Ideal S1x1x1x4096 .f32) (x3 : Vec Ideal S1x1x1x4096 .f32) (x4 : Vec Ideal S4096x128 .bf16) :
    out0_A_6 (F := Ideal) c i arg1 harg1 arg2 harg2 arg3 harg3 arg4 harg4 arg5 harg5 arg6 harg6 arg7 harg7 x0 x1 x2 x3 x4 = k0_pay2 (k0_pay4 x0 x1 x2 x3 x4) (k0_pay5 x0 x1 x2 x3 x4) := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  sl_unfold_words
  have z0 : (![0, 0] : Fin 2 → ℕ) = fun _ => 0 := by decide
  have z4 : (![0, 0, 0, 0] : Fin 4 → ℕ) = fun _ => 0 := by decide
  simp only [View.readAt_eq_ld, harg1.read_unread, harg2.read_unread, harg3.read_unread, harg4.read_unread, harg5.read_unread,
    View.ld_unit_zero (S := S512x4096) z0, View.ld_unit_zero (S := S1x4096) z0, View.ld_unit_zero (S := S4096x128) z0,
    View.ld_unit_zero (S := S1x1x1x4096) z4]
  exact View.canon_unit_zero z0 _ _

variable (m : (ℓ : Loc nD τ sig) → Buf (Elt Ideal) ℓ)

theorem index_facts : ∀ t : Fin grid0.N, win0_0.index t = ![t.val, 0] ∧ win0_1.index t = ![0, 0]
    ∧ win0_2.index t = ![t.val / 8, 3, 0, 0] ∧ win0_3.index t = ![t.val / 8, 4, 0, 0] ∧ win0_4.index t = ![0, 0]
    ∧ win0_5.index t = ![t.val, 0] ∧ win0_6.index t = ![t.val, 0] := by
  decide +kernel

theorem t_lt (t : Fin cfg0.N) : t.val < 16 := t.isLt.trans_eq N_0

/-- The row of the result that row `r` of the point's block is. -/
def row (t : Fin cfg0.N) (r : Fin 512) : Fin 8192 := ⟨t.val * 512 + r.val, by have := t_lt t; have := r.isLt; omega⟩

/-- The sample the point's rows are of. -/
def smp (t : Fin cfg0.N) : Fin 3 := ⟨t.val / 8, by have := t_lt t; omega⟩

theorem smp_eq (t : Fin cfg0.N) (r : Fin 512) : smp t = ⟨(row t r).val / 4096, by have := (row t r).isLt; omega⟩ := by
  refine Fin.ext ?_
  show t.val / 8 = (t.val * 512 + r.val) / 4096
  have := r.isLt
  omega

/-- The weights of the norm, laid out as one row. -/
theorem weights_at (c : Dev nD) (k : Fin 4096) :
    V m c main_v2 (ix2 0 k) = m ((c : Thread nD τ).loc main_arg1) (ix1 k) := by
  unfold V
  after_reads_at

/-- The experts' weights, laid out over the lanes. -/
theorem experts_at (c : Dev nD) (k : Fin 4096) (l : Fin 128) (e : l.val < 16) :
    V m c main_v1 (ix2 k l) = m ((c : Thread nD τ).loc main_arg3) (ix2 k ⟨l.val, e⟩) := by
  unfold V
  after_reads_at
  exact dif_pos e

theorem iblk0_apply (c : Dev nD) (t : Fin cfg0.N) (r : Fin 512) (k : Fin 4096) :
    iblk m c 0 t (ix2 r k) = m ((c : Thread nD τ).loc main_arg0) (ix2 (row t r) k) := by
  unfold iblk
  show V m c main_arg0 (((cfg0.win 0).blk t).view.emb (ix2 r k)) = _
  rw [V_main_arg0]
  refine congrArg (m ((c : Thread nD τ).loc main_arg0)) (funext fun a => Fin.ext ?_)
  have hx := (index_facts t).1
  match a with
  | ⟨0, _⟩ => show win0_0.index t 0 * 512 + 1 * r.val = _; exact at_coord (congrFun hx 0) rfl
  | ⟨1, _⟩ => show win0_0.index t 1 * 4096 + 1 * k.val = _; exact at_start (congrFun hx 1)

theorem iblk1_apply (c : Dev nD) (t : Fin cfg0.N) (k : Fin 4096) :
    iblk m c 1 t (ix2 0 k) = m ((c : Thread nD τ).loc main_arg1) (ix1 k) := by
  refine Eq.trans ?_ (weights_at m c k)
  unfold iblk
  show V m c main_v2 (((cfg0.win 1).blk t).view.emb (ix2 0 k)) = _
  refine congrArg (V m c main_v2) (funext fun a => Fin.ext ?_)
  have hx := (index_facts t).2.1
  match a with
  | ⟨0, _⟩ => show win0_1.index t 0 * 1 + 1 * 0 = _; exact at_start (congrFun hx 0)
  | ⟨1, _⟩ => show win0_1.index t 1 * 4096 + 1 * k.val = _; exact at_start (congrFun hx 1)

theorem iblk2_apply (c : Dev nD) (t : Fin cfg0.N) (k : Fin 4096) :
    iblk m c 2 t (ix4 0 0 0 k) = m ((c : Thread nD τ).loc main_arg2) (ix4 (smp t) 3 0 k) := by
  unfold iblk
  show V m c main_arg2 (((cfg0.win 2).blk t).view.emb (ix4 0 0 0 k)) = _
  rw [V_main_arg2]
  refine congrArg (m ((c : Thread nD τ).loc main_arg2)) (funext fun a => Fin.ext ?_)
  have hx := (index_facts t).2.2.1
  match a with
  | ⟨0, _⟩ => show win0_2.index t 0 * 1 + 1 * 0 = _; exact at_coord (congrFun hx 0) (Nat.mul_one _)
  | ⟨1, _⟩ => show win0_2.index t 1 * 1 + 1 * 0 = _; exact at_coord (congrFun hx 1) (Nat.mul_one _)
  | ⟨2, _⟩ => show win0_2.index t 2 * 1 + 1 * 0 = _; exact at_start (congrFun hx 2)
  | ⟨3, _⟩ => show win0_2.index t 3 * 4096 + 1 * k.val = _; exact at_start (congrFun hx 3)

theorem iblk3_apply (c : Dev nD) (t : Fin cfg0.N) (k : Fin 4096) :
    iblk m c 3 t (ix4 0 0 0 k) = m ((c : Thread nD τ).loc main_arg2) (ix4 (smp t) 4 0 k) := by
  unfold iblk
  show V m c main_arg2 (((cfg0.win 3).blk t).view.emb (ix4 0 0 0 k)) = _
  rw [V_main_arg2]
  refine congrArg (m ((c : Thread nD τ).loc main_arg2)) (funext fun a => Fin.ext ?_)
  have hx := (index_facts t).2.2.2.1
  match a with
  | ⟨0, _⟩ => show win0_3.index t 0 * 1 + 1 * 0 = _; exact at_coord (congrFun hx 0) (Nat.mul_one _)
  | ⟨1, _⟩ => show win0_3.index t 1 * 1 + 1 * 0 = _; exact at_coord (congrFun hx 1) (Nat.mul_one _)
  | ⟨2, _⟩ => show win0_3.index t 2 * 1 + 1 * 0 = _; exact at_start (congrFun hx 2)
  | ⟨3, _⟩ => show win0_3.index t 3 * 4096 + 1 * k.val = _; exact at_start (congrFun hx 3)

theorem iblk4_apply (c : Dev nD) (t : Fin cfg0.N) (k : Fin 4096) (l : Fin 128) (e : l.val < 16) :
    iblk m c 4 t (ix2 k l) = m ((c : Thread nD τ).loc main_arg3) (ix2 k ⟨l.val, e⟩) := by
  refine Eq.trans ?_ (experts_at m c k l e)
  unfold iblk
  show V m c main_v1 (((cfg0.win 4).blk t).view.emb (ix2 k l)) = _
  refine congrArg (V m c main_v1) (funext fun a => Fin.ext ?_)
  have hx := (index_facts t).2.2.2.2.1
  match a with
  | ⟨0, _⟩ => show win0_4.index t 0 * 4096 + 1 * k.val = _; exact at_start (congrFun hx 0)
  | ⟨1, _⟩ => show win0_4.index t 1 * 128 + 1 * l.val = _; exact at_start (congrFun hx 1)

/-- A row of the point's block, of the arguments. -/
theorem block_tok (c : Dev nD) (t : Fin cfg0.N) (r : Fin 512) (k : Fin 4096) :
    k0_pay3 (iblk m c 0 t) (iblk m c 1 t) (iblk m c 2 t) (iblk m c 3 t) (ix2 r k)
      = tok (m ((c : Thread nD τ).loc main_arg0)) (m ((c : Thread nD τ).loc main_arg1)) (m ((c : Thread nD τ).loc main_arg2)) (row t r) k := by
  rw [pay3_apply]
  simp only [iblk0_apply, iblk1_apply, iblk2_apply, iblk3_apply]
  rw [smp_eq t r]
  rfl

/-- The scores of a row of the point's block, of the arguments. -/
theorem block_scores (c : Dev nD) (t : Fin cfg0.N) (r : Fin 512) :
    (fun l => k0_pay4 (iblk m c 0 t) (iblk m c 1 t) (iblk m c 2 t) (iblk m c 3 t) (iblk m c 4 t) (ix2 r l))
      = lanes (tok (m ((c : Thread nD τ).loc main_arg0)) (m ((c : Thread nD τ).loc main_arg1)) (m ((c : Thread nD τ).loc main_arg2)) (row t r))
        (fun k e => m ((c : Thread nD τ).loc main_arg3) (ix2 k e)) := by
  funext l
  rw [pay4_apply]
  unfold lanes
  by_cases e : l.val < 16
  · rw [if_pos e, dif_pos e]
    refine Finset.sum_congr rfl fun k _ => ?_
    rw [block_tok, iblk4_apply m c t k l e]
  · rw [if_neg e, dif_neg e]

/-- The whole first result, of the arguments. -/
abbrev whole (c : Dev nD) : Vec Ideal S8192x4224 .f32 :=
  val (m ((c : Thread nD τ).loc main_arg0)) (m ((c : Thread nD τ).loc main_arg1)) (m ((c : Thread nD τ).loc main_arg2))
    (m ((c : Thread nD τ).loc main_arg3))

/-- The whole second result, of the arguments. -/
abbrev wholeAff (c : Dev nD) : Vec Ideal S8192x16 .f32 :=
  aff (m ((c : Thread nD τ).loc main_arg0)) (m ((c : Thread nD τ).loc main_arg1)) (m ((c : Thread nD τ).loc main_arg2))
    (m ((c : Thread nD τ).loc main_arg3))

theorem flushed_eq5 (c : Dev nD) (t : Fin cfg0.N) :
    (dats m 0 c).flushed 5 t = ((cfg0.win 5).blk t).view.read (Elt Ideal) (whole m c) := by
  rw [flushed5_A, out5_eq]
  funext y
  obtain ⟨r, x, rfl⟩ : ∃ r x, y = ix2 r x := ⟨_, _, eq_ix2 (n0 := 512) (n1 := 4224) y⟩
  show blockRows (iblk m c 0 t) (iblk m c 1 t) (iblk m c 2 t) (iblk m c 3 t) (iblk m c 4 t) (ix2 r x)
    = whole m c (((cfg0.win 5).blk t).view.emb (ix2 r x))
  have hx := (index_facts t).2.2.2.2.2.1
  have e : ((cfg0.win 5).blk t).view.emb (ix2 r x) = ix2 (row t r) x := by
    refine funext fun a => Fin.ext ?_
    match a with
    | ⟨0, _⟩ => show win0_5.index t 0 * 512 + 1 * r.val = _; exact at_coord (congrFun hx 0) rfl
    | ⟨1, _⟩ => show win0_5.index t 1 * 4224 + 1 * x.val = _; exact at_start (congrFun hx 1)
  rw [e]
  by_cases h : x.val < 4096
  · refine (dif_pos h).trans (Eq.trans ?_ (dif_pos h).symm)
    exact block_tok m c t r ⟨x.val, h⟩
  · refine (dif_neg h).trans (Eq.trans ?_ (dif_neg h).symm)
    refine (soft_apply _ _ _ _ _ r ⟨x.val - 4096, by have := x.isLt; omega⟩).trans ?_
    rw [block_scores]
    rfl

theorem flushed_eq6 (c : Dev nD) (t : Fin cfg0.N) :
    (dats m 0 c).flushed 6 t = ((cfg0.win 6).blk t).view.read (Elt Ideal) (wholeAff m c) := by
  rw [flushed6_A, out6_eq]
  funext y
  obtain ⟨r, x, rfl⟩ : ∃ r x, y = ix2 r x := ⟨_, _, eq_ix2 (n0 := 512) (n1 := 16) y⟩
  show k0_pay2 (k0_pay4 (iblk m c 0 t) (iblk m c 1 t) (iblk m c 2 t) (iblk m c 3 t) (iblk m c 4 t))
      (k0_pay5 (iblk m c 0 t) (iblk m c 1 t) (iblk m c 2 t) (iblk m c 3 t) (iblk m c 4 t)) (ix2 r x)
    = wholeAff m c (((cfg0.win 6).blk t).view.emb (ix2 r x))
  have hx := (index_facts t).2.2.2.2.2.2
  have e : ((cfg0.win 6).blk t).view.emb (ix2 r x) = ix2 (row t r) x := by
    refine funext fun a => Fin.ext ?_
    match a with
    | ⟨0, _⟩ => show win0_6.index t 0 * 512 + 1 * r.val = _; exact at_coord (congrFun hx 0) rfl
    | ⟨1, _⟩ => show win0_6.index t 1 * 16 + 1 * x.val = _; exact at_start (congrFun hx 1)
  rw [e, pay2_apply, soft_apply, block_scores, soft_lanes]
  rfl

/-- Every entry of the first result lies in the block of some point. -/
theorem cover5 (i : S8192x4224.Idx) : ∃ t : Fin cfg0.N, (cfg0.win 5).flush t = true ∧ i ∈ ((cfg0.win 5).blk t).view.set := by
  have h0 : (i 0).val < 8192 := (i 0).isLt
  have h1 : (i 1).val < 4224 := (i 1).isLt
  have hN : cfg0.N = 16 := N_0
  obtain ⟨t, ht⟩ : ∃ t : Fin cfg0.N, t.val = (i 0).val / 512 := ⟨⟨_, by omega⟩, rfl⟩
  refine ⟨t, flush0_5 t, ?_⟩
  have hx := (index_facts t).2.2.2.2.2.1
  show i ∈ ((View.whole main_v3_0).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    exact in_block (congrFun hx 0) ht (by decide)
  | ⟨1, _⟩ =>
    show win0_5.index t 1 * 4224 ≤ (i 1).val ∧ (i 1).val < win0_5.index t 1 * 4224 + 4224
    exact in_block (congrFun hx 1) (by show 0 = _; omega) (by decide)

/-- Every entry of the second result lies in the block of some point. -/
theorem cover6 (i : S8192x16.Idx) : ∃ t : Fin cfg0.N, (cfg0.win 6).flush t = true ∧ i ∈ ((cfg0.win 6).blk t).view.set := by
  have h0 : (i 0).val < 8192 := (i 0).isLt
  have h1 : (i 1).val < 16 := (i 1).isLt
  have hN : cfg0.N = 16 := N_0
  obtain ⟨t, ht⟩ : ∃ t : Fin cfg0.N, t.val = (i 0).val / 512 := ⟨⟨_, by omega⟩, rfl⟩
  refine ⟨t, flush0_6 t, ?_⟩
  have hx := (index_facts t).2.2.2.2.2.2
  show i ∈ ((View.whole main_v3_1).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    exact in_block (congrFun hx 0) ht (by decide)
  | ⟨1, _⟩ =>
    show win0_6.index t 1 * 16 ≤ (i 1).val ∧ (i 1).val < win0_6.index t 1 * 16 + 16
    exact in_block (congrFun hx 1) (by show 0 = _; omega) (by decide)

/-- The first result after the run is the whole of it. -/
theorem final (c : Dev nD) : (dats m 0 c).arrAt 5 cfg0.N = whole m c :=
  (dats m 0 c).arrAt_eq_of_cover 5 _ (fun t _ => flushed_eq5 m c t) cover5

/-- The second result after the run is the whole of it. -/
theorem finalAff (c : Dev nD) : (dats m 0 c).arrAt 6 cfg0.N = wholeAff m c :=
  (dats m 0 c).arrAt_eq_of_cover 6 _ (fun t _ => flushed_eq6 m c t) cover6

end Cert.Proof.Router

namespace Cert.Proof.Router

open Cert.RouterRefIdeal Cert.RouterRefIdeal.Gen Cert.RouterRefIdeal.Value Idealize.ShloMosaic Idealize.ShloMosaic.TcCoe Idealize.SL.Sem

/-- The reference's rows. -/
def refTok (X : Vec Ideal S8192x4096 .f32) (g : Vec Ideal S4096 .f32) (M : Vec Ideal S3x6x1x4096 .f32) : FVec Ideal S8192x4096 .f32 :=
  shapeCast _ (addf (mulf (mulf (mulf (shapeCast _ X shapeCasts_S8192x4096_S2x4096x4096) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (shapeCast _ X shapeCasts_S8192x4096_S2x4096x4096) (shapeCast _ X shapeCasts_S8192x4096_S2x4096x4096)) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 g))) (broadcastInDim S2x4096x4096 ![0, 1, 2] bcast_S2x1x4096_S2x4096x4096_0_1_2 (addf (broadcastInDim S2x1x4096 ![] bcast_S_S2x1x4096 (constant S_ .f32 0x3F800000#32)) (shapeCast _ (extractStridedSlice S2x1x1x4096 ![0, 4, 0, 0] M slices_S3x6x1x4096_S2x1x1x4096_0_4_0_0) shapeCasts_S2x1x1x4096_S2x1x4096)))) (broadcastInDim S2x4096x4096 ![0, 1, 2] bcast_S2x1x4096_S2x4096x4096_0_1_2 (shapeCast _ (extractStridedSlice S2x1x1x4096 ![0, 3, 0, 0] M slices_S3x6x1x4096_S2x1x1x4096_0_3_0_0) shapeCasts_S2x1x1x4096_S2x1x4096))) shapeCasts_S2x4096x4096_S8192x4096

theorem refTok_apply (X : Vec Ideal S8192x4096 .f32) (g : Vec Ideal S4096 .f32) (M : Vec Ideal S3x6x1x4096 .f32) (r : Fin 8192) (k : Fin 4096) :
    refTok X g M (ix2 r k) = tok X g M r k := by
  pointwise [refTok, tok, normed]

/-- The reference's scores over the experts. -/
def refScores (H : FVec Ideal S8192x4096 .f32) (W : Vec Ideal S4096x16 .f32) : FVec Ideal S8192x16 .f32 :=
  Host.dotGeneral (φ₂ := .f32) dot_S8192x4096_S4096x16_S8192x16_1_0_0_1_n_n none H W

theorem refScores_apply (H : FVec Ideal S8192x4096 .f32) (W : Vec Ideal S4096x16 .f32) (r : Fin 8192) (e : Fin 16) :
    refScores H W (ix2 r e) = ∑ k : Fin 4096, H (ix2 r k) * W (ix2 k e) := by
  pointwise [refScores]

/-- The reference's scores over the lanes. -/
def refLanes (H : FVec Ideal S8192x4096 .f32) (W : Vec Ideal S4096x16 .f32) : FVec Ideal S8192x128 .f32 :=
  concatenate S8192x128 1 [⟨S8192x16, refScores H W⟩, ⟨S8192x112, (broadcastInDim S8192x112 ![] bcast_S_S8192x112 (constant S_ .f32 0xFF800000#32))⟩] concatenates_S8192x16_S8192x112_S8192x128_d1

theorem refLanes_apply (H : FVec Ideal S8192x4096 .f32) (W : Vec Ideal S4096x16 .f32) (r : Fin 8192) (l : Fin 128) :
    refLanes H W (ix2 r l) = lanes (fun k => H (ix2 r k)) (fun k e => W (ix2 k e)) l := by
  pointwise [refLanes, lanes, refScores]
  rw [neg_inf]

/-- The reference's softmax over the lanes. -/
def refSoft128 (S : FVec Ideal S8192x128 .f32) : FVec Ideal S8192x128 .f32 :=
  Host.divf (Host.exp (subf S (broadcastInDim S8192x128 ![0, 1] bcast_S8192x1_S8192x128_0_1 (broadcastInDim S8192x1 ![0] bcast_S8192_S8192x1_0 (maximumf (broadcastInDim S8192 ![] bcast_S_S8192 (constant S_ .f32 0xFF800000#32)) (Host.reduce FloatOps.maximumf S (constant S_ .f32 0xFF800000#32) reducesTo_S8192x128_S8192_d1 h_S_)))))) (broadcastInDim S8192x128 ![0, 1] bcast_S8192x1_S8192x128_0_1 (broadcastInDim S8192x1 ![0] bcast_S8192_S8192x1_0 (Host.reduceAdd (Host.exp (subf S (broadcastInDim S8192x128 ![0, 1] bcast_S8192x1_S8192x128_0_1 (broadcastInDim S8192x1 ![0] bcast_S8192_S8192x1_0 (maximumf (broadcastInDim S8192 ![] bcast_S_S8192 (constant S_ .f32 0xFF800000#32)) (Host.reduce FloatOps.maximumf S (constant S_ .f32 0xFF800000#32) reducesTo_S8192x128_S8192_d1 h_S_)))))) (constant S_ .f32 0x00000000#32) reducesTo_S8192x128_S8192_d1 h_S_)))

theorem refSoft128_apply (S : FVec Ideal S8192x128 .f32) (r : Fin 8192) (l : Fin 128) :
    refSoft128 S (ix2 r l) = soft (fun j => S (ix2 r j)) l := by
  pointwise [refSoft128, soft]
  simp only [neg_inf, fold_sup, max_bot_left]

/-- The reference's softmax over the experts. -/
def refSoft16 (S : FVec Ideal S8192x16 .f32) : FVec Ideal S8192x16 .f32 :=
  Host.divf (Host.exp (subf S (broadcastInDim S8192x16 ![0, 1] bcast_S8192x1_S8192x16_0_1 (broadcastInDim S8192x1 ![0] bcast_S8192_S8192x1_0 (maximumf (broadcastInDim S8192 ![] bcast_S_S8192 (constant S_ .f32 0xFF800000#32)) (Host.reduce FloatOps.maximumf S (constant S_ .f32 0xFF800000#32) reducesTo_S8192x16_S8192_d1 h_S_)))))) (broadcastInDim S8192x16 ![0, 1] bcast_S8192x1_S8192x16_0_1 (broadcastInDim S8192x1 ![0] bcast_S8192_S8192x1_0 (Host.reduceAdd (Host.exp (subf S (broadcastInDim S8192x16 ![0, 1] bcast_S8192x1_S8192x16_0_1 (broadcastInDim S8192x1 ![0] bcast_S8192_S8192x1_0 (maximumf (broadcastInDim S8192 ![] bcast_S_S8192 (constant S_ .f32 0xFF800000#32)) (Host.reduce FloatOps.maximumf S (constant S_ .f32 0xFF800000#32) reducesTo_S8192x16_S8192_d1 h_S_)))))) (constant S_ .f32 0x00000000#32) reducesTo_S8192x16_S8192_d1 h_S_)))

theorem refSoft16_apply (S : FVec Ideal S8192x16 .f32) (r : Fin 8192) (l : Fin 16) :
    refSoft16 S (ix2 r l) = soft (fun j => S (ix2 r j)) l := by
  pointwise [refSoft16, soft]
  simp only [neg_inf, fold_sup, max_bot_left]

/-- Rows beside lanes. -/
theorem beside_apply (H : FVec Ideal S8192x4096 .f32) (P : FVec Ideal S8192x128 .f32) (r : Fin 8192) (x : Fin 4224) :
    (concatenate S8192x4224 1 [⟨S8192x4096, H⟩, ⟨S8192x128, P⟩] concatenates_S8192x4096_S8192x128_S8192x4224_d1 : FVec Ideal S8192x4224 .f32) (ix2 r x)
      = if h : x.val < 4096 then H (ix2 r ⟨x.val, h⟩) else P (ix2 r ⟨x.val - 4096, by have := x.isLt; omega⟩) := by
  pointwise []

variable (m : (ℓ : Loc nD τ sig) → Buf (Elt Ideal) ℓ)

/-- The reference's first result is the same. -/
theorem ref_eq (c : Dev nD) :
    res_main_v39 m c = val (m ((c.tc : Thread nD τ).loc main_arg0)) (m ((c.tc : Thread nD τ).loc main_arg1))
      (m ((c.tc : Thread nD τ).loc main_arg2)) (m ((c.tc : Thread nD τ).loc main_arg3)) := by
  funext i
  obtain ⟨r, x, rfl⟩ : ∃ r x, i = ix2 r x := ⟨_, _, eq_ix2 (n0 := 8192) (n1 := 4224) i⟩
  refine (beside_apply (refTok (m ((c.tc : Thread nD τ).loc main_arg0)) (m ((c.tc : Thread nD τ).loc main_arg1)) (m ((c.tc : Thread nD τ).loc main_arg2)))
    (refSoft128 (refLanes (refTok (m ((c.tc : Thread nD τ).loc main_arg0)) (m ((c.tc : Thread nD τ).loc main_arg1)) (m ((c.tc : Thread nD τ).loc main_arg2)))
      (m ((c.tc : Thread nD τ).loc main_arg3)))) r x).trans ?_
  by_cases h : x.val < 4096
  · refine (dif_pos h).trans (Eq.trans ?_ (dif_pos h).symm)
    exact refTok_apply _ _ _ r ⟨x.val, h⟩
  · refine (dif_neg h).trans (Eq.trans ?_ (dif_neg h).symm)
    rw [refSoft128_apply]
    simp only [refLanes_apply, refTok_apply]
    rfl

/-- The reference's second result is the same. -/
theorem ref_eqAff (c : Dev nD) :
    res_main_v50 m c = aff (m ((c.tc : Thread nD τ).loc main_arg0)) (m ((c.tc : Thread nD τ).loc main_arg1))
      (m ((c.tc : Thread nD τ).loc main_arg2)) (m ((c.tc : Thread nD τ).loc main_arg3)) := by
  funext i
  obtain ⟨r, e, rfl⟩ : ∃ r e, i = ix2 r e := ⟨_, _, eq_ix2 (n0 := 8192) (n1 := 16) i⟩
  refine (refSoft16_apply (refScores (refTok (m ((c.tc : Thread nD τ).loc main_arg0)) (m ((c.tc : Thread nD τ).loc main_arg1)) (m ((c.tc : Thread nD τ).loc main_arg2)))
      (m ((c.tc : Thread nD τ).loc main_arg3))) r e).trans ?_
  simp only [refScores_apply, refTok_apply]
  rfl

end Cert.Proof.Router

end
-- ==== Proof.Finite.lean ====
/- What the precondition says of the entries of the arguments. -/
module

public import proofs.«01_k».proof.Pre_finite_scores
public import Idealize.ShloMosaic.Lib.Pointwise
public import Idealize.ShloMosaic.Lib.IdealHost

@[expose] public section

set_option maxRecDepth 16384

noncomputable section

namespace Cert.Pre_finite_scores

open Idealize.ShloMosaic Facts

theorem facts : Facts where
  slices_S8192x24576_S8192x4096_0_0 := by decide
  bitsLt_bf16_f32 := by decide
  bcast_S_S8192x4096 := by decide
  slices_S512x8192_S512x2048_0_0 := by decide
  bcast_S_S512x2048 := by decide
  bcast_S_S16x15x31 := by decide

theorem pos_inf : Ideal.ofBits .f32 0x7F800000#32 = (⊤ : EReal) := by
  simp [Ideal.ofBits, Ideal.ieee]

/-- A number whose absolute value lies below infinity is real. -/
theorem real_of_lt (x : EReal) (h : BitVec.ofBool (decide (max x (-x) < Ideal.ofBits .f32 0x7F800000#32)) = 1#1) : ∃ r : ℝ, x = r := by
  rw [pos_inf] at h
  have h1 : max x (-x) < ⊤ := by
    by_contra hn
    rw [decide_eq_false hn] at h
    exact absurd h (by decide)
  have h2 : x ≠ ⊤ := fun e => by rw [e] at h1; simp at h1
  have h3 : x ≠ ⊥ := fun e => by rw [e] at h1; simp at h1
  exact ⟨x.toReal, (EReal.coe_toReal h2 h3).symm⟩

variable [Facts]

theorem fin0 (a0 : FVec Ideal S8192x24576 .bf16) (a1 : FVec Ideal S512x8192 .bf16) (a2 : FVec Ideal S16x15x31 .f32)
    (h : (fn (F := Ideal) a0 a1 a2).1 = fun _ => 1#1) (i : Fin 8192) (l : Fin 4096) :
    ∃ r : ℝ, a0 (ix2 i ⟨l.val, by have := l.isLt; omega⟩) = (r : EReal) := by
  have e : (fn (F := Ideal) a0 a1 a2).1 (ix2 i l) = 1#1 := congrFun h _
  revert e
  dsimp only [fn]
  pointwise []
  exact fun e => real_of_lt _ e

theorem fin1 (a0 : FVec Ideal S8192x24576 .bf16) (a1 : FVec Ideal S512x8192 .bf16) (a2 : FVec Ideal S16x15x31 .f32)
    (h : (fn (F := Ideal) a0 a1 a2).2.1 = fun _ => 1#1) (i : Fin 512) (l : Fin 2048) :
    ∃ r : ℝ, a1 (ix2 i ⟨l.val, by have := l.isLt; omega⟩) = (r : EReal) := by
  have e : (fn (F := Ideal) a0 a1 a2).2.1 (ix2 i l) = 1#1 := congrFun h _
  revert e
  dsimp only [fn]
  pointwise []
  exact fun e => real_of_lt _ e

theorem fin2 (a0 : FVec Ideal S8192x24576 .bf16) (a1 : FVec Ideal S512x8192 .bf16) (a2 : FVec Ideal S16x15x31 .f32)
    (h : (fn (F := Ideal) a0 a1 a2).2.2 = fun _ => 1#1) (i : Fin 16) (j : Fin 15) (k : Fin 31) :
    ∃ r : ℝ, a2 (ix3 i j k) = (r : EReal) := by
  have e : (fn (F := Ideal) a0 a1 a2).2.2 (ix3 i j k) = 1#1 := congrFun h _
  revert e
  dsimp only [fn]
  pointwise []
  exact fun e => real_of_lt _ e

end Cert.Pre_finite_scores
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.ExpertUp
public import proofs.«01_k».proof.Proof.Gen.ExpertUp.Skeleton
public import proofs.«01_k».proof.Proof.Gen.ExpertUp.Launch
public import proofs.«01_k».proof.Proof.Gen.ExpertUp.Points
public import proofs.«01_k».proof.Proof.Gen.ExpertUp.Frame
public import proofs.«01_k».proof.Proof.Gen.ExpertUpIdeal
public import proofs.«01_k».proof.Proof.Gen.ExpertUpIdeal.Skeleton
public import proofs.«01_k».proof.Proof.Gen.ExpertUpIdeal.Launch
public import proofs.«01_k».proof.Proof.Gen.ExpertUpIdeal.Points
public import proofs.«01_k».proof.Proof.Gen.ExpertUpIdeal.Frame
public import proofs.«01_k».proof.Proof.Gen.ExpertUpIdeal.Value
public import proofs.«01_k».proof.Proof.Gen.ExpertUpRefIdeal.Run
public import proofs.«01_k».proof.Proof.Gen.ExpertDown
public import proofs.«01_k».proof.Proof.Gen.ExpertDown.Skeleton
public import proofs.«01_k».proof.Proof.Gen.ExpertDown.Launch
public import proofs.«01_k».proof.Proof.Gen.ExpertDown.Points
public import proofs.«01_k».proof.Proof.Gen.ExpertDown.Frame
public import proofs.«01_k».proof.Proof.Gen.ExpertDownIdeal
public import proofs.«01_k».proof.Proof.Gen.ExpertDownIdeal.Skeleton
public import proofs.«01_k».proof.Proof.Gen.ExpertDownIdeal.Launch
public import proofs.«01_k».proof.Proof.Gen.ExpertDownIdeal.Points
public import proofs.«01_k».proof.Proof.Gen.ExpertDownIdeal.Frame
public import proofs.«01_k».proof.Proof.Gen.ExpertDownIdeal.Value
public import proofs.«01_k».proof.Proof.Gen.ExpertDownRefIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationRefIdeal.Run
public import proofs.«01_k».proof.Proof.Gen.PreNorm
public import proofs.«01_k».proof.Proof.Gen.PreNorm.Skeleton
public import proofs.«01_k».proof.Proof.Gen.PreNorm.Launch
public import proofs.«01_k».proof.Proof.Gen.PreNorm.Points
public import proofs.«01_k».proof.Proof.Gen.PreNorm.Frame
public import proofs.«01_k».proof.Proof.Gen.PreNormIdeal
public import proofs.«01_k».proof.Proof.Gen.PreNormIdeal.Skeleton
public import proofs.«01_k».proof.Proof.Gen.PreNormIdeal.Launch
public import proofs.«01_k».proof.Proof.Gen.PreNormIdeal.Points
public import proofs.«01_k».proof.Proof.Gen.PreNormIdeal.Frame
public import proofs.«01_k».proof.Proof.Gen.PreNormIdeal.Value
public import proofs.«01_k».proof.Proof.Gen.PreNormRefIdeal.Run
public import proofs.«01_k».proof.Proof.Gen.CtxNorm
public import proofs.«01_k».proof.Proof.Gen.CtxNorm.Skeleton
public import proofs.«01_k».proof.Proof.Gen.CtxNorm.Launch
public import proofs.«01_k».proof.Proof.Gen.CtxNorm.Points
public import proofs.«01_k».proof.Proof.Gen.CtxNorm.Frame
public import proofs.«01_k».proof.Proof.Gen.CtxNormIdeal
public import proofs.«01_k».proof.Proof.Gen.CtxNormIdeal.Skeleton
public import proofs.«01_k».proof.Proof.Gen.CtxNormIdeal.Launch
public import proofs.«01_k».proof.Proof.Gen.CtxNormIdeal.Points
public import proofs.«01_k».proof.Proof.Gen.CtxNormIdeal.Frame
public import proofs.«01_k».proof.Proof.Gen.CtxNormIdeal.Value
public import proofs.«01_k».proof.Proof.Gen.CtxNormRefIdeal.Run
public import proofs.«01_k».proof.Proof.Gen.CtxProj
public import proofs.«01_k».proof.Proof.Gen.CtxProj.Skeleton
public import proofs.«01_k».proof.Proof.Gen.CtxProj.Launch
public import proofs.«01_k».proof.Proof.Gen.CtxProj.Points
public import proofs.«01_k».proof.Proof.Gen.CtxProj.Frame
public import proofs.«01_k».proof.Proof.Gen.CtxProjIdeal
public import proofs.«01_k».proof.Proof.Gen.CtxProjIdeal.Skeleton
public import proofs.«01_k».proof.Proof.Gen.CtxProjIdeal.Launch
public import proofs.«01_k».proof.Proof.Gen.CtxProjIdeal.Points
public import proofs.«01_k».proof.Proof.Gen.CtxProjIdeal.Frame
public import proofs.«01_k».proof.Proof.Gen.CtxProjIdeal.Value
public import proofs.«01_k».proof.Proof.Gen.CtxProjRefIdeal.Run
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal.Run
public import proofs.«01_k».proof.Proof.NaMain
public import proofs.«01_k».proof.Proof.InProjValue
public import proofs.«01_k».proof.Proof.MergeValue
public import proofs.«01_k».proof.Proof.OutProjValue
public import proofs.«01_k».proof.Proof.ExpertUpValue
public import proofs.«01_k».proof.Proof.ExpertDownValue
public import proofs.«01_k».proof.Proof.ModulationValue
public import proofs.«01_k».proof.Proof.PreNormValue
public import proofs.«01_k».proof.Proof.CtxNormValue
public import proofs.«01_k».proof.Proof.CtxProjValue
public import proofs.«01_k».proof.Proof.RouterValue
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference's run, and the counters it ends with: it holds none. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The one named constant: the mask's stand-in for minus infinity is minus infinity. -/
theorem preserves : Cert.preserves_Kernel_KernelIdeal :=
  IdealRules.named_const.statement Cert.KernelIdeal.κ "mask" .f32 0xF149F2CA#32 ⊥ rfl

/-- The kernel's result is the reference's, when the numbers the scores are made of are finite. -/
theorem algebraic [Cert.Pre_finite_scores.Facts] : Cert.algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun r h c => ?_) (Cert.ReferenceIdeal.Value.run (F := Ideal) m' ρ')
  obtain ⟨h0, h1, h2, h3⟩ := h c
  obtain ⟨p0, p1, p2⟩ := hpre c
  obtain ⟨g0, g1, g2⟩ := hagree c
  refine ⟨h0.trans ?_, h1, h2, h3⟩
  refine (res_eq m' c).trans ?_
  rw [g0, g1, g2]
  exact value_eq m c (Cert.Pre_finite_scores.fin0 _ _ _ p0) (Cert.Pre_finite_scores.fin1 _ _ _ p1) (Cert.Pre_finite_scores.fin2 _ _ _ p2)

/-- The frame of the reference of the input projection. -/
theorem frame_InProj : Cert.quiescent_InProjRefIdeal := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- The kernel of the input projection leaves what its reference does. -/
theorem algebraic_InProj : Cert.algebraic_InProjIdeal_InProjRefIdeal := by
  intro m ρ m' ρ' _ hagree
  refine ⟨fun c => InProj.whole m c, (θ_run Cert.InProjIdeal.defs _ _).mono (fun r h c => ⟨(h c).1.trans (InProj.final m c), (h c).2⟩)
    (Cert.InProjIdeal.Value.run_blocks (F := Ideal) m ρ), ?_⟩
  refine (θ_run Cert.InProjRefIdeal.defs _ _).mono (fun r h c => ?_) (Cert.InProjRefIdeal.Value.run (F := Ideal) m' ρ')
  obtain ⟨h0, h1, h2⟩ := h c
  obtain ⟨g0, g1⟩ := hagree c
  refine ⟨h0.trans ?_, h1, h2⟩
  rw [g0, g1]
  exact InProj.ref_eq _ _

/-- The frame of the reference of the merge. -/
theorem frame_Merge : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The kernel of the merge leaves what its reference does. -/
theorem algebraic_Merge : Cert.algebraic_MergeIdeal_MergeRefIdeal := by
  intro m ρ m' ρ' _ hagree
  refine ⟨fun c => Merge.whole m c, (θ_run Cert.MergeIdeal.defs _ _).mono (fun r h c => ⟨(h c).1.trans (Merge.final m c), (h c).2⟩)
    (Cert.MergeIdeal.Value.run_blocks (F := Ideal) m ρ), ?_⟩
  refine (θ_run Cert.MergeRefIdeal.defs _ _).mono (fun r h c => ?_) (Cert.MergeRefIdeal.Value.run (F := Ideal) m' ρ')
  obtain ⟨h0, h1, h2, h3, h4, h5⟩ := h c
  obtain ⟨g0, g1, g2, g3, g4⟩ := hagree c
  refine ⟨h0.trans ?_, h1, h2, h3, h4, h5⟩
  rw [g0, g1, g2, g3, g4]
  exact Merge.ref_eq _ _ _ _ _

/-- The frame of the reference of the output projection. -/
theorem frame_OutProj : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

/-- The kernel of the output projection leaves what its reference does. -/
theorem algebraic_OutProj : Cert.algebraic_OutProjIdeal_OutProjRefIdeal := by
  intro m ρ m' ρ' _ hagree
  refine ⟨fun c => OutProj.whole m c, (θ_run Cert.OutProjIdeal.defs _ _).mono (fun r h c => ⟨(h c).1.trans (OutProj.final m c), (h c).2⟩)
    (Cert.OutProjIdeal.Value.run_blocks (F := Ideal) m ρ), ?_⟩
  refine (θ_run Cert.OutProjRefIdeal.defs _ _).mono (fun r h c => ?_) (Cert.OutProjRefIdeal.Value.run (F := Ideal) m' ρ')
  obtain ⟨h0, h1, h2, h3, h4⟩ := h c
  obtain ⟨g0, g1, g2, g3⟩ := hagree c
  refine ⟨h0.trans ?_, h1, h2, h3, h4⟩
  rw [g0, g1, g2, g3]
  exact OutProj.ref_eq _ _ _ _

/-- The frame of the reference of the experts' first layer. -/
theorem frame_ExpertUp : Cert.quiescent_ExpertUpRefIdeal := fun m ρ _ =>
  (θ_run Cert.ExpertUpRefIdeal.defs _ _).mono (fun r h => ⟨fun c => (h c).2, Idealize.ShloMosaic.sem_eq_zero_of_no_sems (by decide) r.2⟩)
    (Cert.ExpertUpRefIdeal.Value.run (F := Ideal) m ρ)

/-- The kernel of the experts' first layer leaves what its reference does. -/
theorem algebraic_ExpertUp : Cert.algebraic_ExpertUpIdeal_ExpertUpRefIdeal := by
  intro m ρ m' ρ' _ hagree
  refine ⟨fun c => ExpertUp.whole m c, (θ_run Cert.ExpertUpIdeal.defs _ _).mono (fun r h c => ⟨(h c).1.trans (ExpertUp.final m c), (h c).2⟩)
    (Cert.ExpertUpIdeal.Value.run_blocks (F := Ideal) m ρ), ?_⟩
  refine (θ_run Cert.ExpertUpRefIdeal.defs _ _).mono (fun r h c => ?_) (Cert.ExpertUpRefIdeal.Value.run (F := Ideal) m' ρ')
  obtain ⟨h0, h1, h2, h3⟩ := h c
  obtain ⟨g0, g1, g2⟩ := hagree c
  refine ⟨h0.trans ?_, h1, h2, h3⟩
  rw [g0, g1, g2]
  exact ExpertUp.ref_eq _ _ _

/-- The frame of the reference of the experts' second layer. -/
theorem frame_ExpertDown : Cert.quiescent_ExpertDownRefIdeal := fun m ρ _ =>
  (θ_run Cert.ExpertDownRefIdeal.defs _ _).mono (fun r h => ⟨fun c => (h c).2, Idealize.ShloMosaic.sem_eq_zero_of_no_sems (by decide) r.2⟩)
    (Cert.ExpertDownRefIdeal.Value.run (F := Ideal) m ρ)

/-- The kernel of the experts' second layer leaves what its reference does. -/
theorem algebraic_ExpertDown : Cert.algebraic_ExpertDownIdeal_ExpertDownRefIdeal := by
  intro m ρ m' ρ' _ hagree
  refine ⟨fun c => ExpertDown.whole m c, (θ_run Cert.ExpertDownIdeal.defs _ _).mono (fun r h c => ⟨(h c).1.trans (ExpertDown.final m c), (h c).2⟩)
    (Cert.ExpertDownIdeal.Value.run_blocks (F := Ideal) m ρ), ?_⟩
  refine (θ_run Cert.ExpertDownRefIdeal.defs _ _).mono (fun r h c => ?_) (Cert.ExpertDownRefIdeal.Value.run (F := Ideal) m' ρ')
  obtain ⟨h0, h1, h2, h3⟩ := h c
  obtain ⟨g0, g1, g2⟩ := hagree c
  refine ⟨h0.trans ?_, h1, h2, h3⟩
  rw [g0, g1, g2]
  exact ExpertDown.ref_eq _ _ _

/-- The frame of the reference of the modulation. -/
theorem frame_Modulation : Cert.quiescent_ModulationRefIdeal := fun m ρ _ =>
  (θ_run Cert.ModulationRefIdeal.defs _ _).mono (fun r h => ⟨fun c => (h c).2, Idealize.ShloMosaic.sem_eq_zero_of_no_sems (by decide) r.2⟩)
    (Cert.ModulationRefIdeal.Value.run (F := Ideal) m ρ)

/-- The kernel of the modulation leaves what its reference does. -/
theorem algebraic_Modulation : Cert.algebraic_ModulationIdeal_ModulationRefIdeal := by
  intro m ρ m' ρ' _ hagree
  refine ⟨fun c => Modulation.whole m c, (θ_run Cert.ModulationIdeal.defs _ _).mono (fun r h c => ⟨(h c).1.trans (Modulation.final m c), (h c).2⟩)
    (Cert.ModulationIdeal.Value.run_blocks (F := Ideal) m ρ), ?_⟩
  refine (θ_run Cert.ModulationRefIdeal.defs _ _).mono (fun r h c => ?_) (Cert.ModulationRefIdeal.Value.run (F := Ideal) m' ρ')
  obtain ⟨h0, h1, h2, h3, h4⟩ := h c
  obtain ⟨g0, g1, g2, g3⟩ := hagree c
  refine ⟨h0.trans ?_, h1, h2, h3, h4⟩
  rw [g0, g1, g2, g3]
  exact Modulation.ref_eq _ _ _ _

/-- The frame of the reference of the tokens' norm. -/
theorem frame_PreNorm : Cert.quiescent_PreNormRefIdeal := fun m ρ _ =>
  (θ_run Cert.PreNormRefIdeal.defs _ _).mono (fun r h => ⟨fun c => (h c).2, Idealize.ShloMosaic.sem_eq_zero_of_no_sems (by decide) r.2⟩)
    (Cert.PreNormRefIdeal.Value.run (F := Ideal) m ρ)

/-- The kernel of the tokens' norm leaves what its reference does. -/
theorem algebraic_PreNorm : Cert.algebraic_PreNormIdeal_PreNormRefIdeal := by
  intro m ρ m' ρ' _ hagree
  refine ⟨fun c => PreNorm.whole m c, (θ_run Cert.PreNormIdeal.defs _ _).mono (fun r h c => ⟨(h c).1.trans (PreNorm.final m c), (h c).2⟩)
    (Cert.PreNormIdeal.Value.run_blocks (F := Ideal) m ρ), ?_⟩
  refine (θ_run Cert.PreNormRefIdeal.defs _ _).mono (fun r h c => ?_) (Cert.PreNormRefIdeal.Value.run (F := Ideal) m' ρ')
  obtain ⟨h0, h1, h2, h3⟩ := h c
  obtain ⟨g0, g1, g2⟩ := hagree c
  refine ⟨h0.trans ?_, h1, h2, h3⟩
  rw [g0, g1, g2]
  exact PreNorm.ref_eq _ _ _

/-- The frame of the reference of the context's norm. -/
theorem frame_CtxNorm : Cert.quiescent_CtxNormRefIdeal := fun m ρ _ =>
  (θ_run Cert.CtxNormRefIdeal.defs _ _).mono (fun r h => ⟨fun c => (h c).2, Idealize.ShloMosaic.sem_eq_zero_of_no_sems (by decide) r.2⟩)
    (Cert.CtxNormRefIdeal.Value.run (F := Ideal) m ρ)

/-- The kernel of the context's norm leaves what its reference does. -/
theorem algebraic_CtxNorm : Cert.algebraic_CtxNormIdeal_CtxNormRefIdeal := by
  intro m ρ m' ρ' _ hagree
  refine ⟨fun c => CtxNorm.whole m c, (θ_run Cert.CtxNormIdeal.defs _ _).mono (fun r h c => ⟨(h c).1.trans (CtxNorm.final m c), (h c).2⟩)
    (Cert.CtxNormIdeal.Value.run_blocks (F := Ideal) m ρ), ?_⟩
  refine (θ_run Cert.CtxNormRefIdeal.defs _ _).mono (fun r h c => ?_) (Cert.CtxNormRefIdeal.Value.run (F := Ideal) m' ρ')
  obtain ⟨h0, h1, h2, h3⟩ := h c
  obtain ⟨g0, g1, g2⟩ := hagree c
  refine ⟨h0.trans ?_, h1, h2, h3⟩
  rw [g0, g1, g2]
  exact CtxNorm.ref_eq _ _ _

/-- The frame of the reference of the context's projection. -/
theorem frame_CtxProj : Cert.quiescent_CtxProjRefIdeal := fun m ρ _ =>
  (θ_run Cert.CtxProjRefIdeal.defs _ _).mono (fun r h => ⟨fun c => (h c).2, Idealize.ShloMosaic.sem_eq_zero_of_no_sems (by decide) r.2⟩)
    (Cert.CtxProjRefIdeal.Value.run (F := Ideal) m ρ)

/-- The kernel of the context's projection leaves what its reference does. -/
theorem algebraic_CtxProj : Cert.algebraic_CtxProjIdeal_CtxProjRefIdeal := by
  intro m ρ m' ρ' _ hagree
  refine ⟨fun c => CtxProj.whole m c, (θ_run Cert.CtxProjIdeal.defs _ _).mono (fun r h c => ⟨(h c).1.trans (CtxProj.final m c), (h c).2⟩)
    (Cert.CtxProjIdeal.Value.run_blocks (F := Ideal) m ρ), ?_⟩
  refine (θ_run Cert.CtxProjRefIdeal.defs _ _).mono (fun r h c => ?_) (Cert.CtxProjRefIdeal.Value.run (F := Ideal) m' ρ')
  obtain ⟨h0, h1, h2⟩ := h c
  obtain ⟨g0, g1⟩ := hagree c
  refine ⟨h0.trans ?_, h1, h2⟩
  rw [g0, g1]
  exact CtxProj.ref_eq _ _

/-- The frame of the reference of the router. -/
theorem frame_Router : Cert.quiescent_RouterRefIdeal := fun m ρ _ =>
  (θ_run Cert.RouterRefIdeal.defs _ _).mono (fun r h => ⟨fun c => (h c).2.2, Idealize.ShloMosaic.sem_eq_zero_of_no_sems (by decide) r.2⟩)
    (Cert.RouterRefIdeal.Value.run (F := Ideal) m ρ)

/-- The router's one named constant: the lanes' stand-in for minus infinity is minus infinity. -/
theorem preserves_Router : Cert.preserves_Router_RouterIdeal :=
  IdealRules.named_const.statement Cert.RouterIdeal.κ "mask" .f32 0xF149F2CA#32 ⊥ rfl

/-- The kernel of the router leaves what its reference does. -/
theorem algebraic_Router : Cert.algebraic_RouterIdeal_RouterRefIdeal := by
  intro m ρ m' ρ' _ hagree
  refine ⟨fun c => Router.whole m c, fun c => Router.wholeAff m c, (θ_run Cert.RouterIdeal.defs _ _).mono
    (fun r h c => ⟨(h c).1.trans (Router.final m c), (h c).2.1.trans (Router.finalAff m c), (h c).2.2⟩)
    (Cert.RouterIdeal.Value.run_blocks (F := Ideal) m ρ), ?_⟩
  refine (θ_run Cert.RouterRefIdeal.defs _ _).mono (fun r h c => ?_) (Cert.RouterRefIdeal.Value.run (F := Ideal) m' ρ')
  obtain ⟨h0, h1, h2, h3, h4, h5⟩ := h c
  obtain ⟨g0, g1, g2, g3⟩ := hagree c
  refine ⟨h0.trans ?_, h1.trans ?_, h2, h3, h4, h5⟩
  · rw [Router.ref_eq m' c, g0, g1, g2, g3]
  · rw [Router.ref_eqAff m' c, g0, g1, g2, g3]

theorem claim : Cert.Claim :=
  ⟨Cert.Kernel.Gen.facts, Cert.KernelIdeal.Gen.facts, Cert.ReferenceIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.ExpertUp.Gen.facts, Cert.ExpertUpIdeal.Gen.facts, Cert.ExpertUpRefIdeal.Gen.facts, Cert.ExpertDown.Gen.facts, Cert.ExpertDownIdeal.Gen.facts, Cert.ExpertDownRefIdeal.Gen.facts, Cert.Modulation.Gen.facts, Cert.ModulationIdeal.Gen.facts, Cert.ModulationRefIdeal.Gen.facts, Cert.PreNorm.Gen.facts, Cert.PreNormIdeal.Gen.facts, Cert.PreNormRefIdeal.Gen.facts, Cert.CtxNorm.Gen.facts, Cert.CtxNormIdeal.Gen.facts, Cert.CtxNormRefIdeal.Gen.facts, Cert.CtxProj.Gen.facts, Cert.CtxProjIdeal.Gen.facts, Cert.CtxProjRefIdeal.Gen.facts, Cert.Router.Gen.facts, Cert.RouterIdeal.Gen.facts, Cert.RouterRefIdeal.Gen.facts, Cert.Pre_finite_scores.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.InProj.Gen.frame m ρ, fun m ρ _ => Cert.InProjIdeal.Gen.frame m ρ, frame_InProj,
    fun m ρ _ => Cert.Merge.Gen.frame m ρ, fun m ρ _ => Cert.MergeIdeal.Gen.frame m ρ, frame_Merge,
    fun m ρ _ => Cert.OutProj.Gen.frame m ρ, fun m ρ _ => Cert.OutProjIdeal.Gen.frame m ρ, frame_OutProj,
    fun m ρ _ => Cert.ExpertUp.Gen.frame m ρ, fun m ρ _ => Cert.ExpertUpIdeal.Gen.frame m ρ, frame_ExpertUp,
    fun m ρ _ => Cert.ExpertDown.Gen.frame m ρ, fun m ρ _ => Cert.ExpertDownIdeal.Gen.frame m ρ, frame_ExpertDown,
    fun m ρ _ => Cert.Modulation.Gen.frame m ρ, fun m ρ _ => Cert.ModulationIdeal.Gen.frame m ρ, frame_Modulation,
    fun m ρ _ => Cert.PreNorm.Gen.frame m ρ, fun m ρ _ => Cert.PreNormIdeal.Gen.frame m ρ, frame_PreNorm,
    fun m ρ _ => Cert.CtxNorm.Gen.frame m ρ, fun m ρ _ => Cert.CtxNormIdeal.Gen.frame m ρ, frame_CtxNorm,
    fun m ρ _ => Cert.CtxProj.Gen.frame m ρ, fun m ρ _ => Cert.CtxProjIdeal.Gen.frame m ρ, frame_CtxProj,
    fun m ρ _ => Cert.Router.Gen.frame m ρ, fun m ρ _ => Cert.RouterIdeal.Gen.frame m ρ, frame_Router,
    preserves, letI := Cert.Pre_finite_scores.facts; algebraic,
    trivial, algebraic_InProj,
    trivial, algebraic_Merge,
    trivial, algebraic_OutProj,
    trivial, algebraic_ExpertUp,
    trivial, algebraic_ExpertDown,
    trivial, algebraic_Modulation,
    trivial, algebraic_PreNorm,
    trivial, algebraic_CtxNorm,
    trivial, algebraic_CtxProj,
    preserves_Router, algebraic_Router⟩

end Cert.Proof

end
